-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.BufferStatement Cert.KernelIdeal.S4608x2x128 Cert.KernelIdeal.S4608x1x128
  ∧ IdealRules.bf16_pair.PackStatement Cert.KernelIdeal.S32x128
  ∧ IdealRules.bf16_pair.Statement Cert.KernelIdeal.S64x128 Cert.KernelIdeal.S32x128
  ∧ IdealRules.bf16_pair.Statement Cert.KernelIdeal.S32x2x128 Cert.KernelIdeal.S32x1x128
  ∧ IdealRules.bf16_pair.Statement Cert.KernelIdeal.S8x2x128 Cert.KernelIdeal.S8x1x128
  ∧ IdealRules.bf16_pair.Statement Cert.KernelIdeal.S16x128 Cert.KernelIdeal.S8x128
  ∧ IdealRules.bf16_pair.PackStatement Cert.KernelIdeal.S8x128

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83_0) = v0 c
          ∧ r.2.mem ((c.tc : Thread Cert.ReferenceIdeal.nD Cert.ReferenceIdeal.τ).loc Cert.ReferenceIdeal.main_v83_1) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S2x128x100544 : Shape := ⟨3, ![2, 128, 100544]⟩
abbrev S2x128x6284 : Shape := ⟨3, ![2, 128, 6284]⟩
abbrev S_ : Shape := ⟨0, ![]⟩

class Facts : Prop where
  bcast_S_S2x128x6284 : S_.BroadcastsInDim S2x128x6284 (![] : Fin 0 → Fin S2x128x6284.rank)
  reducesTo_S2x128x6284_S_d0_1_2 : S2x128x6284.ReducesTo [0, 1, 2] S_
  h_S_ : 0 < S_.numel

variable [Facts]

def fn {F : FTy → Type} [FloatOps F] (main_arg0 : IVec S2x128x100544 8) (main_arg1 : IVec S2x128x6284 8) (main_arg2 : FVec F S_ .f32) : IVec S_ 1 :=
  let main_cst : FVec F S_ .f32 := constant S_ .f32 0x65000000#32
  let main_v0 : FVec F S_ .f32 := mulf main_arg2 main_cst
  let main_cst_0 : FVec F S_ .f32 := constant S_ .f32 0x64800000#32
  let main_v1 : FVec F S_ .f32 := mulf main_v0 main_cst_0
  let main_c : IVec S_ 8 := constantI S_ 8 1#8
  let main_v2 : IVec S2x128x6284 8 := broadcastInDim S2x128x6284 ![] bcast_S_S2x128x6284 main_c
  let main_v3 : IVec S2x128x6284 1 := cmpi .uge main_arg1 main_v2
  let main_c_1 : IVec S_ 1 := constantI S_ 1 1#1
  let main_v4 : IVec S_ 1 := (fun x v => Host.reduce IntOp.andi x v reducesTo_S2x128x6284_S_d0_1_2 h_S_) main_v3 main_c_1
  let main_c_2 : IVec S_ 8 := constantI S_ 8 254#8
  let main_v5 : IVec S2x128x6284 8 := broadcastInDim S2x128x6284 ![] bcast_S_S2x128x6284 main_c_2
  let main_v6 : IVec S2x128x6284 1 := cmpi .ule main_arg1 main_v5
  let main_c_3 : IVec S_ 1 := constantI S_ 1 1#1
  let main_v7 : IVec S_ 1 := (fun x v => Host.reduce IntOp.andi x v reducesTo_S2x128x6284_S_d0_1_2 h_S_) main_v6 main_c_3
  let main_v8 : IVec S_ 1 := andi main_v4 main_v7
  let main_v9 : FVec F S_ .f32 := Host.floor main_v1
  let main_v10 : IVec S_ 1 := cmpf .oeq main_v9 main_v1
  let main_v11 : IVec S_ 1 := andi main_v8 main_v10
  main_v11
-- ==== Kernel.lean ====
abbrev S2x128x100544 : Shape := ⟨3, ![2, 128, 100544]⟩
abbrev S2x128x6284 : Shape := ⟨3, ![2, 128, 6284]⟩
abbrev S_ : Shape := ⟨0, ![]⟩
abbrev S1x1 : Shape := ⟨2, ![1, 1]⟩
abbrev S2x100544x128 : Shape := ⟨3, ![2, 100544, 128]⟩
abbrev S2x6284x128 : Shape := ⟨3, ![2, 6284, 128]⟩
abbrev S2x12568x128 : Shape := ⟨3, ![2, 12568, 128]⟩
abbrev S1x9216x128 : Shape := ⟨3, ![1, 9216, 128]⟩
abbrev S1x576x128 : Shape := ⟨3, ![1, 576, 128]⟩
abbrev S1x1152x128 : Shape := ⟨3, ![1, 1152, 128]⟩
abbrev S1152x128 : Shape := ⟨2, ![1152, 128]⟩
abbrev S4608x128 : Shape := ⟨2, ![4608, 128]⟩
abbrev S8x128 : Shape := ⟨2, ![8, 128]⟩
abbrev S576x128 : Shape := ⟨2, ![576, 128]⟩
abbrev S32x128 : Shape := ⟨2, ![32, 128]⟩
abbrev S1x64x128 : Shape := ⟨3, ![1, 64, 128]⟩
abbrev S64x128 : Shape := ⟨2, ![64, 128]⟩
abbrev S16x128 : Shape := ⟨2, ![16, 128]⟩
abbrev S8x2x128 : Shape := ⟨3, ![8, 2, 128]⟩
abbrev S8x1x128 : Shape := ⟨3, ![8, 1, 128]⟩
abbrev S1x32x128 : Shape := ⟨3, ![1, 32, 128]⟩
abbrev S2x128x12568 : Shape := ⟨3, ![2, 128, 12568]⟩

abbrev nBuf : Space → Nat
  | .hbm => 12
  | .vmem => 12
  | .smem => 1
  | _ => 0

abbrev bufTy : (tb : Table) → Fin (tcTables nBuf tb) → BufTy
  | .hbm, ⟨0, _⟩ => ⟨S2x128x100544, .i8⟩
  | .hbm, ⟨1, _⟩ => ⟨S2x128x6284, .i8⟩
  | .hbm, ⟨2, _⟩ => ⟨S_, .f32⟩
  | .hbm, ⟨3, _⟩ => ⟨S1x1, .f32⟩
  | .hbm, ⟨4, _⟩ => ⟨S2x100544x128, .i8⟩
  | .hbm, ⟨5, _⟩ => ⟨S2x6284x128, .i8⟩
  | .hbm, ⟨6, _⟩ => ⟨S2x100544x128, .i8⟩
  | .hbm, ⟨7, _⟩ => ⟨S2x12568x128, .fp8e4m3⟩
  | .hbm, ⟨8, _⟩ => ⟨S1x1, .f32⟩
  | .hbm, ⟨9, _⟩ => ⟨S2x128x100544, .i8⟩
  | .hbm, ⟨10, _⟩ => ⟨S2x128x12568, .fp8e4m3⟩
  | .hbm, ⟨11, _⟩ => ⟨S_, .f32⟩
  | .local _ .vmem, ⟨0, _⟩ => ⟨S1x9216x128, .i8⟩
  | .local _ .vmem, ⟨1, _⟩ => ⟨S1x9216x128, .i8⟩
  | .local _ .vmem, ⟨2, _⟩ => ⟨S1x576x128, .i8⟩
  | .local _ .vmem, ⟨3, _⟩ => ⟨S1x576x128, .i8⟩
  | .local _ .vmem, ⟨4, _⟩ => ⟨S1x9216x128, .i8⟩
  | .local _ .vmem, ⟨5, _⟩ => ⟨S1x9216x128, .i8⟩
  | .local _ .vmem, ⟨6, _⟩ => ⟨S1x1152x128, .fp8e4m3⟩
  | .local _ .vmem, ⟨7, _⟩ => ⟨S1x1152x128, .fp8e4m3⟩
  | .local _ .vmem, ⟨8, _⟩ => ⟨S1x1, .f32⟩
  | .local _ .vmem, ⟨9, _⟩ => ⟨S1152x128, .f32⟩
  | .local _ .vmem, ⟨10, _⟩ => ⟨S4608x128, .i32⟩
  | .local _ .vmem, ⟨11, _⟩ => ⟨S4608x128, .i32⟩
  | .local _ .smem, ⟨0, _⟩ => ⟨S1x1, .f32⟩
  | _, _ => ⟨S2x128x100544, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [BitOps F]

abbrev grid0 : Pipeline.Grid := ⟨2, ![2, 11], ![false, false]⟩

@[reducible] def k0_t1_loop : Scf.Loop 32 :=
  let c0_i32_5 : BitVec 32 := 0#32
  let c18_i32 : BitVec 32 := 18#32
  let v8 : BitVec 32 := Scalar.addi c0_i32_5 c18_i32
  let c1_i32 : BitVec 32 := 1#32
  ⟨c0_i32_5, v8, c1_i32⟩
def k0_off1 (k0_t1 : Fin k0_t1_loop.trips) : Fin 2 → Nat :=
  let c0_i32_5 : BitVec 32 := 0#32
  let c1_i32 : BitVec 32 := 1#32
  let arg11 : BitVec 32 := Scf.iv c0_i32_5 c1_i32 k0_t1
  let c32_i32 : BitVec 32 := 32#32
  let v9 : BitVec 32 := Scalar.muli arg11 c32_i32
  let v12 : Index := Scalar.indexCast v9
  let c0_9 : Index := 0#32
  ![v12.toNat, 0]
def k0_off2 (k0_t1 : Fin k0_t1_loop.trips) (c0_i32_10 : BitVec 32) : Fin 2 → Nat :=
  let c0_i32_5 : BitVec 32 := 0#32
  let c1_i32 : BitVec 32 := 1#32
  let arg11 : BitVec 32 := Scf.iv c0_i32_5 c1_i32 k0_t1
  let c64_i32 : BitVec 32 := 64#32
  let v19 : BitVec 32 := Scalar.muli arg11 c64_i32
  let v20 : BitVec 32 := Scalar.addi v19 c0_i32_10
  let v21 : Index := Scalar.indexCast v20
  let c0_11 : Index := 0#32
  ![v21.toNat, 0]
def k0_off3 (k0_t1 : Fin k0_t1_loop.trips) (c0_i32_15 : BitVec 32) (c0_i32_16 : BitVec 32) : Fin 3 → Nat :=
  let c0_25 : Index := 0#32
  let c0_i32_5 : BitVec 32 := 0#32
  let c1_i32 : BitVec 32 := 1#32
  let arg11 : BitVec 32 := Scf.iv c0_i32_5 c1_i32 k0_t1
  let c8_i32 : BitVec 32 := 8#32
  let v31 : BitVec 32 := Scalar.muli arg11 c8_i32
  let v32 : BitVec 32 := Scalar.addi v31 c0_i32_15
  let v33 : BitVec 32 := Scalar.addi v32 c0_i32_16
  let c64_i32_24 : BitVec 32 := 64#32
  let v43 : BitVec 32 := Scalar.muli v33 c64_i32_24
  let v44 : Index := Scalar.indexCast v43
  let c0_26 : Index := 0#32
  ![0, v44.toNat, 0]
def k0_off4 (k0_t1 : Fin k0_t1_loop.trips) (c0_i32_15 : BitVec 32) (c0_i32_16 : BitVec 32) : Fin 2 → Nat :=
  let c0_i32_5 : BitVec 32 := 0#32
  let c1_i32 : BitVec 32 := 1#32
  let arg11 : BitVec 32 := Scf.iv c0_i32_5 c1_i32 k0_t1
  let c8_i32 : BitVec 32 := 8#32
  let v31 : BitVec 32 := Scalar.muli arg11 c8_i32
  let v32 : BitVec 32 := Scalar.addi v31 c0_i32_15
  let v33 : BitVec 32 := Scalar.addi v32 c0_i32_16
  let c32_i32_45 : BitVec 32 := 32#32
  let v121 : BitVec 32 := Scalar.muli v33 c32_i32_45
  let v122 : Index := Scalar.indexCast v121
  let c0_46 : Index := 0#32
  ![v122.toNat, 0]
def k0_off5 (k0_t1 : Fin k0_t1_loop.trips) (c0_i32_15 : BitVec 32) (c0_i32_16 : BitVec 32) (c0_i32_48 : BitVec 32) : Fin 2 → Nat :=
  let c0_i32_5 : BitVec 32 := 0#32
  let c1_i32 : BitVec 32 := 1#32
  let arg11 : BitVec 32 := Scf.iv c0_i32_5 c1_i32 k0_t1
  let c8_i32 : BitVec 32 := 8#32
  let v31 : BitVec 32 := Scalar.muli arg11 c8_i32
  let v32 : BitVec 32 := Scalar.addi v31 c0_i32_15
  let v33 : BitVec 32 := Scalar.addi v32 c0_i32_16
  let c32_i32_47 : BitVec 32 := 32#32
  let v126 : BitVec 32 := Scalar.muli v33 c32_i32_47
  let v127 : BitVec 32 := Scalar.addi v126 c0_i32_48
  let v128 : Index := Scalar.indexCast v127
  let c0_49 : Index := 0#32
  ![v128.toNat, 0]
def k0_off6 (k0_t1 : Fin k0_t1_loop.trips) (c0_i32_15 : BitVec 32) (c0_i32_16 : BitVec 32) : Fin 2 → Nat :=
  let c0_i32_5 : BitVec 32 := 0#32
  let c1_i32 : BitVec 32 := 1#32
  let arg11 : BitVec 32 := Scf.iv c0_i32_5 c1_i32 k0_t1
  let c8_i32 : BitVec 32 := 8#32
  let v31 : BitVec 32 := Scalar.muli arg11 c8_i32
  let v32 : BitVec 32 := Scalar.addi v31 c0_i32_15
  let v33 : BitVec 32 := Scalar.addi v32 c0_i32_16
  let c8_i32_60 : BitVec 32 := 8#32
  let v157 : BitVec 32 := Scalar.muli v33 c8_i32_60
  let v158 : Index := Scalar.indexCast v157
  let c0_61 : Index := 0#32
  ![v158.toNat, 0]
def k0_off7 (k0_t1 : Fin k0_t1_loop.trips) (c0_i32_203 : BitVec 32) : Fin 2 → Nat :=
  let c0_i32_5 : BitVec 32 := 0#32
  let c1_i32 : BitVec 32 := 1#32
  let arg11 : BitVec 32 := Scf.iv c0_i32_5 c1_i32 k0_t1
  let c64_i32_202 : BitVec 32 := 64#32
  let v537 : BitVec 32 := Scalar.muli arg11 c64_i32_202
  let v538 : BitVec 32 := Scalar.addi v537 c0_i32_203
  let v541 : Index := Scalar.indexCast v538
  let c0_206 : Index := 0#32
  ![v541.toNat, 0]
def k0_off8 (k0_t1 : Fin k0_t1_loop.trips) (c0_i32_203 : BitVec 32) : Fin 3 → Nat :=
  let c0_i32_4 : BitVec 32 := 0#32
  let c0_i32_5 : BitVec 32 := 0#32
  let c1_i32 : BitVec 32 := 1#32
  let arg11 : BitVec 32 := Scf.iv c0_i32_5 c1_i32 k0_t1
  let c64_i32_202 : BitVec 32 := 64#32
  let v537 : BitVec 32 := Scalar.muli arg11 c64_i32_202
  let v538 : BitVec 32 := Scalar.addi v537 c0_i32_203
  let v541 : Index := Scalar.indexCast v538
  let c0_i32_205 : BitVec 32 := 0#32
  ![0, v541.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x9216x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x576x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x9216x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1152x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== KernelIdeal.lean ====
abbrev S2x128x100544 : Shape := ⟨3, ![2, 128, 100544]⟩
abbrev S2x128x6284 : Shape := ⟨3, ![2, 128, 6284]⟩
abbrev S_ : Shape := ⟨0, ![]⟩
abbrev S1x1 : Shape := ⟨2, ![1, 1]⟩
abbrev S2x100544x128 : Shape := ⟨3, ![2, 100544, 128]⟩
abbrev S2x6284x128 : Shape := ⟨3, ![2, 6284, 128]⟩
abbrev S2x12568x128 : Shape := ⟨3, ![2, 12568, 128]⟩
abbrev S1x9216x128 : Shape := ⟨3, ![1, 9216, 128]⟩
abbrev S1x576x128 : Shape := ⟨3, ![1, 576, 128]⟩
abbrev S1x1152x128 : Shape := ⟨3, ![1, 1152, 128]⟩
abbrev S1152x128 : Shape := ⟨2, ![1152, 128]⟩
abbrev S4608x128 : Shape := ⟨2, ![4608, 128]⟩
abbrev S4608x2x128 : Shape := ⟨3, ![4608, 2, 128]⟩
abbrev S4608x1x128 : Shape := ⟨3, ![4608, 1, 128]⟩
abbrev S8x128 : Shape := ⟨2, ![8, 128]⟩
abbrev S576x128 : Shape := ⟨2, ![576, 128]⟩
abbrev S32x128 : Shape := ⟨2, ![32, 128]⟩
abbrev S1x64x128 : Shape := ⟨3, ![1, 64, 128]⟩
abbrev S64x128 : Shape := ⟨2, ![64, 128]⟩
abbrev S16x128 : Shape := ⟨2, ![16, 128]⟩
abbrev S8x2x128 : Shape := ⟨3, ![8, 2, 128]⟩
abbrev S8x1x128 : Shape := ⟨3, ![8, 1, 128]⟩
abbrev S32x2x128 : Shape := ⟨3, ![32, 2, 128]⟩
abbrev S32x1x128 : Shape := ⟨3, ![32, 1, 128]⟩
abbrev S1x32x128 : Shape := ⟨3, ![1, 32, 128]⟩
abbrev S2x128x12568 : Shape := ⟨3, ![2, 128, 12568]⟩

abbrev nBuf : Space → Nat
  | .hbm => 12
  | .vmem => 12
  | .smem => 1
  | _ => 0

abbrev bufTy : (tb : Table) → Fin (tcTables nBuf tb) → BufTy
  | .hbm, ⟨0, _⟩ => ⟨S2x128x100544, .i8⟩
  | .hbm, ⟨1, _⟩ => ⟨S2x128x6284, .i8⟩
  | .hbm, ⟨2, _⟩ => ⟨S_, .f32⟩
  | .hbm, ⟨3, _⟩ => ⟨S1x1, .f32⟩
  | .hbm, ⟨4, _⟩ => ⟨S2x100544x128, .i8⟩
  | .hbm, ⟨5, _⟩ => ⟨S2x6284x128, .i8⟩
  | .hbm, ⟨6, _⟩ => ⟨S2x100544x128, .i8⟩
  | .hbm, ⟨7, _⟩ => ⟨S2x12568x128, .fp8e4m3⟩
  | .hbm, ⟨8, _⟩ => ⟨S1x1, .f32⟩
  | .hbm, ⟨9, _⟩ => ⟨S2x128x100544, .i8⟩
  | .hbm, ⟨10, _⟩ => ⟨S2x128x12568, .fp8e4m3⟩
  | .hbm, ⟨11, _⟩ => ⟨S_, .f32⟩
  | .local _ .vmem, ⟨0, _⟩ => ⟨S1x9216x128, .i8⟩
  | .local _ .vmem, ⟨1, _⟩ => ⟨S1x9216x128, .i8⟩
  | .local _ .vmem, ⟨2, _⟩ => ⟨S1x576x128, .i8⟩
  | .local _ .vmem, ⟨3, _⟩ => ⟨S1x576x128, .i8⟩
  | .local _ .vmem, ⟨4, _⟩ => ⟨S1x9216x128, .i8⟩
  | .local _ .vmem, ⟨5, _⟩ => ⟨S1x9216x128, .i8⟩
  | .local _ .vmem, ⟨6, _⟩ => ⟨S1x1152x128, .fp8e4m3⟩
  | .local _ .vmem, ⟨7, _⟩ => ⟨S1x1152x128, .fp8e4m3⟩
  | .local _ .vmem, ⟨8, _⟩ => ⟨S1x1, .f32⟩
  | .local _ .vmem, ⟨9, _⟩ => ⟨S1152x128, .f32⟩
  | .local _ .vmem, ⟨10, _⟩ => ⟨S4608x2x128, .bf16⟩
  | .local _ .vmem, ⟨11, _⟩ => ⟨S4608x2x128, .bf16⟩
  | .local _ .smem, ⟨0, _⟩ => ⟨S1x1, .f32⟩
  | _, _ => ⟨S2x128x100544, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![2, 11], ![false, false]⟩

@[reducible] def k0_t1_loop : Scf.Loop 32 :=
  let c0_i32_5 : BitVec 32 := 0#32
  let c18_i32 : BitVec 32 := 18#32
  let v8 : BitVec 32 := Scalar.addi c0_i32_5 c18_i32
  let c1_i32 : BitVec 32 := 1#32
  ⟨c0_i32_5, v8, c1_i32⟩
def k0_off1 (k0_t1 : Fin k0_t1_loop.trips) : Fin 2 → Nat :=
  let c0_i32_5 : BitVec 32 := 0#32
  let c1_i32 : BitVec 32 := 1#32
  let arg11 : BitVec 32 := Scf.iv c0_i32_5 c1_i32 k0_t1
  let c32_i32 : BitVec 32 := 32#32
  let v9 : BitVec 32 := Scalar.muli arg11 c32_i32
  let v12 : Index := Scalar.indexCast v9
  let c0_9 : Index := 0#32
  ![v12.toNat, 0]
def k0_off2 (k0_t1 : Fin k0_t1_loop.trips) (c0_i32_10 : BitVec 32) : Fin 2 → Nat :=
  let c0_i32_5 : BitVec 32 := 0#32
  let c1_i32 : BitVec 32 := 1#32
  let arg11 : BitVec 32 := Scf.iv c0_i32_5 c1_i32 k0_t1
  let c64_i32 : BitVec 32 := 64#32
  let v19 : BitVec 32 := Scalar.muli arg11 c64_i32
  let v20 : BitVec 32 := Scalar.addi v19 c0_i32_10
  let v21 : Index := Scalar.indexCast v20
  let c0_11 : Index := 0#32
  ![v21.toNat, 0]
def k0_off3 (k0_t1 : Fin k0_t1_loop.trips) (c0_i32_15 : BitVec 32) (c0_i32_16 : BitVec 32) : Fin 3 → Nat :=
  let c0_25 : Index := 0#32
  let c0_i32_5 : BitVec 32 := 0#32
  let c1_i32 : BitVec 32 := 1#32
  let arg11 : BitVec 32 := Scf.iv c0_i32_5 c1_i32 k0_t1
  let c8_i32 : BitVec 32 := 8#32
  let v31 : BitVec 32 := Scalar.muli arg11 c8_i32
  let v32 : BitVec 32 := Scalar.addi v31 c0_i32_15
  let v33 : BitVec 32 := Scalar.addi v32 c0_i32_16
  let c64_i32_24 : BitVec 32 := 64#32
  let v43 : BitVec 32 := Scalar.muli v33 c64_i32_24
  let v44 : Index := Scalar.indexCast v43
  let c0_26 : Index := 0#32
  ![0, v44.toNat, 0]
def k0_off4 (k0_t1 : Fin k0_t1_loop.trips) (c0_i32_15 : BitVec 32) (c0_i32_16 : BitVec 32) : Fin 3 → Nat :=
  let c0_i32_5 : BitVec 32 := 0#32
  let c1_i32 : BitVec 32 := 1#32
  let arg11 : BitVec 32 := Scf.iv c0_i32_5 c1_i32 k0_t1
  let c8_i32 : BitVec 32 := 8#32
  let v31 : BitVec 32 := Scalar.muli arg11 c8_i32
  let v32 : BitVec 32 := Scalar.addi v31 c0_i32_15
  let v33 : BitVec 32 := Scalar.addi v32 c0_i32_16
  let c32_i32_45 : BitVec 32 := 32#32
  let v121 : BitVec 32 := Scalar.muli v33 c32_i32_45
  let v122 : Index := Scalar.indexCast v121
  let c0_46 : Index := 0#32
  ![v122.toNat, 0, 0]
def k0_off5 (k0_t1 : Fin k0_t1_loop.trips) (c0_i32_15 : BitVec 32) (c0_i32_16 : BitVec 32) (c0_i32_48 : BitVec 32) : Fin 3 → Nat :=
  let c0_i32_5 : BitVec 32 := 0#32
  let c1_i32 : BitVec 32 := 1#32
  let arg11 : BitVec 32 := Scf.iv c0_i32_5 c1_i32 k0_t1
  let c8_i32 : BitVec 32 := 8#32
  let v31 : BitVec 32 := Scalar.muli arg11 c8_i32
  let v32 : BitVec 32 := Scalar.addi v31 c0_i32_15
  let v33 : BitVec 32 := Scalar.addi v32 c0_i32_16
  let c32_i32_47 : BitVec 32 := 32#32
  let v126 : BitVec 32 := Scalar.muli v33 c32_i32_47
  let v127 : BitVec 32 := Scalar.addi v126 c0_i32_48
  let v128 : Index := Scalar.indexCast v127
  let c0_49 : Index := 0#32
  ![v128.toNat, 0, 0]
def k0_off6 (k0_t1 : Fin k0_t1_loop.trips) (c0_i32_15 : BitVec 32) (c0_i32_16 : BitVec 32) : Fin 2 → Nat :=
  let c0_i32_5 : BitVec 32 := 0#32
  let c1_i32 : BitVec 32 := 1#32
  let arg11 : BitVec 32 := Scf.iv c0_i32_5 c1_i32 k0_t1
  let c8_i32 : BitVec 32 := 8#32
  let v31 : BitVec 32 := Scalar.muli arg11 c8_i32
  let v32 : BitVec 32 := Scalar.addi v31 c0_i32_15
  let v33 : BitVec 32 := Scalar.addi v32 c0_i32_16
  let c8_i32_60 : BitVec 32 := 8#32
  let v157 : BitVec 32 := Scalar.muli v33 c8_i32_60
  let v158 : Index := Scalar.indexCast v157
  let c0_61 : Index := 0#32
  ![v158.toNat, 0]
def k0_off7 (k0_t1 : Fin k0_t1_loop.trips) (c0_i32_203 : BitVec 32) : Fin 2 → Nat :=
  let c0_i32_5 : BitVec 32 := 0#32
  let c1_i32 : BitVec 32 := 1#32
  let arg11 : BitVec 32 := Scf.iv c0_i32_5 c1_i32 k0_t1
  let c64_i32_202 : BitVec 32 := 64#32
  let v537 : BitVec 32 := Scalar.muli arg11 c64_i32_202
  let v538 : BitVec 32 := Scalar.addi v537 c0_i32_203
  let v541 : Index := Scalar.indexCast v538
  let c0_206 : Index := 0#32
  ![v541.toNat, 0]
def k0_off8 (k0_t1 : Fin k0_t1_loop.trips) (c0_i32_203 : BitVec 32) : Fin 3 → Nat :=
  let c0_i32_4 : BitVec 32 := 0#32
  let c0_i32_5 : BitVec 32 := 0#32
  let c1_i32 : BitVec 32 := 1#32
  let arg11 : BitVec 32 := Scf.iv c0_i32_5 c1_i32 k0_t1
  let c64_i32_202 : BitVec 32 := 64#32
  let v537 : BitVec 32 := Scalar.muli arg11 c64_i32_202
  let v538 : BitVec 32 := Scalar.addi v537 c0_i32_203
  let v541 : Index := Scalar.indexCast v538
  let c0_i32_205 : BitVec 32 := 0#32
  ![0, v541.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x9216x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x576x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x9216x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1152x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S2x128x100544 : Shape := ⟨3, ![2, 128, 100544]⟩
abbrev S2x128x6284 : Shape := ⟨3, ![2, 128, 6284]⟩
abbrev S_ : Shape := ⟨0, ![]⟩
abbrev S2x128x100544x1 : Shape := ⟨4, ![2, 128, 100544, 1]⟩
abbrev S2x128x100544x2 : Shape := ⟨4, ![2, 128, 100544, 2]⟩
abbrev S2x128x6284x32 : Shape := ⟨4, ![2, 128, 6284, 32]⟩
abbrev S2x128x6284x1 : Shape := ⟨4, ![2, 128, 6284, 1]⟩
abbrev S2x128x201088 : Shape := ⟨3, ![2, 128, 201088]⟩
abbrev S2x128x12568x16 : Shape := ⟨4, ![2, 128, 12568, 16]⟩
abbrev S2x128x12568 : Shape := ⟨3, ![2, 128, 12568]⟩
abbrev S1x1 : Shape := ⟨2, ![1, 1]⟩
abbrev S2x128x12568x1 : Shape := ⟨4, ![2, 128, 12568, 1]⟩

abbrev nBuf : Space → Nat
  | .hbm => 117
  | .vmem => 5
  | .smem => 0
  | _ => 0

abbrev bufTy : (tb : Table) → Fin (tcTables nBuf tb) → BufTy
  | .hbm, ⟨0, _⟩ => ⟨S2x128x100544, .i8⟩
  | .hbm, ⟨1, _⟩ => ⟨S2x128x6284, .i8⟩
  | .hbm, ⟨2, _⟩ => ⟨S_, .f32⟩
  | .hbm, ⟨3, _⟩ => ⟨S2x128x100544, .i32⟩
  | .hbm, ⟨4, _⟩ => ⟨S_, .i32⟩
  | .hbm, ⟨5, _⟩ => ⟨S2x128x100544, .i32⟩
  | .hbm, ⟨6, _⟩ => ⟨S2x128x100544, .i32⟩
  | .hbm, ⟨7, _⟩ => ⟨S_, .i32⟩
  | .hbm, ⟨8, _⟩ => ⟨S2x128x100544, .i32⟩
  | .hbm, ⟨9, _⟩ => ⟨S2x128x100544, .i32⟩
  | .hbm, ⟨10, _⟩ => ⟨S_, .i32⟩
  | .hbm, ⟨11, _⟩ => ⟨S2x128x100544, .i32⟩
  | .hbm, ⟨12, _⟩ => ⟨S2x128x100544, .i32⟩
  | .hbm, ⟨13, _⟩ => ⟨S_, .i32⟩
  | .hbm, ⟨14, _⟩ => ⟨S2x128x100544, .i32⟩
  | .hbm, ⟨15, _⟩ => ⟨S2x128x100544, .i32⟩
  | .hbm, ⟨16, _⟩ => ⟨S2x128x100544, .f32⟩
  | .hbm, ⟨17, _⟩ => ⟨S_, .i32⟩
  | .hbm, ⟨18, _⟩ => ⟨S2x128x100544, .i32⟩
  | .hbm, ⟨19, _⟩ => ⟨S2x128x100544, .i1⟩
  | .hbm, ⟨20, _⟩ => ⟨S_, .f32⟩
  | .hbm, ⟨21, _⟩ => ⟨S2x128x100544, .f32⟩
  | .hbm, ⟨22, _⟩ => ⟨S2x128x100544, .f32⟩
  | .hbm, ⟨23, _⟩ => ⟨S_, .f32⟩
  | .hbm, ⟨24, _⟩ => ⟨S2x128x100544, .f32⟩
  | .hbm, ⟨25, _⟩ => ⟨S2x128x100544, .f32⟩
  | .hbm, ⟨26, _⟩ => ⟨S_, .f32⟩
  | .hbm, ⟨27, _⟩ => ⟨S2x128x100544, .f32⟩
  | .hbm, ⟨28, _⟩ => ⟨S2x128x100544, .f32⟩
  | .hbm, ⟨29, _⟩ => ⟨S_, .i32⟩
  | .hbm, ⟨30, _⟩ => ⟨S2x128x100544, .i32⟩
  | .hbm, ⟨31, _⟩ => ⟨S2x128x100544, .i32⟩
  | .hbm, ⟨32, _⟩ => ⟨S_, .f32⟩
  | .hbm, ⟨33, _⟩ => ⟨S2x128x100544, .f32⟩
  | .hbm, ⟨34, _⟩ => ⟨S2x128x100544, .f32⟩
  | .hbm, ⟨35, _⟩ => ⟨S2x128x100544, .f32⟩
  | .hbm, ⟨36, _⟩ => ⟨S2x128x100544, .f32⟩
  | .hbm, ⟨37, _⟩ => ⟨S2x128x100544, .f32⟩
  | .hbm, ⟨38, _⟩ => ⟨S_, .i32⟩
  | .hbm, ⟨39, _⟩ => ⟨S2x128x100544, .i32⟩
  | .hbm, ⟨40, _⟩ => ⟨S2x128x100544, .i32⟩
  | .hbm, ⟨41, _⟩ => ⟨S_, .i32⟩
  | .hbm, ⟨42, _⟩ => ⟨S2x128x100544, .i32⟩
  | .hbm, ⟨43, _⟩ => ⟨S2x128x100544, .i1⟩
  | .hbm, ⟨44, _⟩ => ⟨S2x128x100544, .f32⟩
  | .hbm, ⟨45, _⟩ => ⟨S2x128x100544, .f32⟩
  | .hbm, ⟨46, _⟩ => ⟨S_, .i32⟩
  | .hbm, ⟨47, _⟩ => ⟨S2x128x100544, .i32⟩
  | .hbm, ⟨48, _⟩ => ⟨S2x128x100544, .i32⟩
  | .hbm, ⟨49, _⟩ => ⟨S_, .i32⟩
  | .hbm, ⟨50, _⟩ => ⟨S2x128x100544, .i32⟩
  | .hbm, ⟨51, _⟩ => ⟨S2x128x100544, .i32⟩
  | .hbm, ⟨52, _⟩ => ⟨S_, .i32⟩
  | .hbm, ⟨53, _⟩ => ⟨S2x128x100544, .i32⟩
  | .hbm, ⟨54, _⟩ => ⟨S2x128x100544, .i32⟩
  | .hbm, ⟨55, _⟩ => ⟨S_, .i32⟩
  | .hbm, ⟨56, _⟩ => ⟨S2x128x100544, .i32⟩
  | .hbm, ⟨57, _⟩ => ⟨S2x128x100544, .i32⟩
  | .hbm, ⟨58, _⟩ => ⟨S2x128x100544, .f32⟩
  | .hbm, ⟨59, _⟩ => ⟨S_, .i32⟩
  | .hbm, ⟨60, _⟩ => ⟨S2x128x100544, .i32⟩
  | .hbm, ⟨61, _⟩ => ⟨S2x128x100544, .i1⟩
  | .hbm, ⟨62, _⟩ => ⟨S_, .f32⟩
  | .hbm, ⟨63, _⟩ => ⟨S2x128x100544, .f32⟩
  | .hbm, ⟨64, _⟩ => ⟨S2x128x100544, .f32⟩
  | .hbm, ⟨65, _⟩ => ⟨S_, .f32⟩
  | .hbm, ⟨66, _⟩ => ⟨S2x128x100544, .f32⟩
  | .hbm, ⟨67, _⟩ => ⟨S2x128x100544, .f32⟩
  | .hbm, ⟨68, _⟩ => ⟨S_, .f32⟩
  | .hbm, ⟨69, _⟩ => ⟨S2x128x100544, .f32⟩
  | .hbm, ⟨70, _⟩ => ⟨S2x128x100544, .f32⟩
  | .hbm, ⟨71, _⟩ => ⟨S_, .i32⟩
  | .hbm, ⟨72, _⟩ => ⟨S2x128x100544, .i32⟩
  | .hbm, ⟨73, _⟩ => ⟨S2x128x100544, .i32⟩
  | .hbm, ⟨74, _⟩ => ⟨S_, .f32⟩
  | .hbm, ⟨75, _⟩ => ⟨S2x128x100544, .f32⟩
  | .hbm, ⟨76, _⟩ => ⟨S2x128x100544, .f32⟩
  | .hbm, ⟨77, _⟩ => ⟨S2x128x100544, .f32⟩
  | .hbm, ⟨78, _⟩ => ⟨S2x128x100544, .f32⟩
  | .hbm, ⟨79, _⟩ => ⟨S2x128x100544, .f32⟩
  | .hbm, ⟨80, _⟩ => ⟨S_, .i32⟩
  | .hbm, ⟨81, _⟩ => ⟨S2x128x100544, .i32⟩
  | .hbm, ⟨82, _⟩ => ⟨S2x128x100544, .i32⟩
  | .hbm, ⟨83, _⟩ => ⟨S_, .i32⟩
  | .hbm, ⟨84, _⟩ => ⟨S2x128x100544, .i32⟩
  | .hbm, ⟨85, _⟩ => ⟨S2x128x100544, .i1⟩
  | .hbm, ⟨86, _⟩ => ⟨S2x128x100544, .f32⟩
  | .hbm, ⟨87, _⟩ => ⟨S2x128x100544, .f32⟩
  | .hbm, ⟨88, _⟩ => ⟨S2x128x100544x1, .f32⟩
  | .hbm, ⟨89, _⟩ => ⟨S2x128x100544x1, .f32⟩
  | .hbm, ⟨90, _⟩ => ⟨S2x128x100544x2, .f32⟩
  | .hbm, ⟨91, _⟩ => ⟨S2x128x6284x32, .f32⟩
  | .hbm, ⟨92, _⟩ => ⟨S2x128x6284, .i32⟩
  | .hbm, ⟨93, _⟩ => ⟨S_, .i32⟩
  | .hbm, ⟨94, _⟩ => ⟨S2x128x6284, .i32⟩
  | .hbm, ⟨95, _⟩ => ⟨S2x128x6284, .i32⟩
  | .hbm, ⟨96, _⟩ => ⟨S_, .f32⟩
  | .hbm, ⟨97, _⟩ => ⟨S2x128x6284, .f32⟩
  | .hbm, ⟨98, _⟩ => ⟨S2x128x6284, .f32⟩
  | .hbm, ⟨99, _⟩ => ⟨S2x128x6284, .f32⟩
  | .hbm, ⟨100, _⟩ => ⟨S2x128x6284x1, .f32⟩
  | .hbm, ⟨101, _⟩ => ⟨S2x128x6284x32, .f32⟩
  | .hbm, ⟨102, _⟩ => ⟨S2x128x6284x32, .f32⟩
  | .hbm, ⟨103, _⟩ => ⟨S2x128x201088, .f32⟩
  | .hbm, ⟨104, _⟩ => ⟨S_, .f32⟩
  | .hbm, ⟨105, _⟩ => ⟨S_, .f32⟩
  | .hbm, ⟨106, _⟩ => ⟨S2x128x12568x16, .f32⟩
  | .hbm, ⟨107, _⟩ => ⟨S2x128x12568x16, .f32⟩
  | .hbm, ⟨108, _⟩ => ⟨S_, .f32⟩
  | .hbm, ⟨109, _⟩ => ⟨S2x128x12568, .f32⟩
  | .hbm, ⟨110, _⟩ => ⟨S_, .f32⟩
  | .hbm, ⟨111, _⟩ => ⟨S_, .f32⟩
  | .hbm, ⟨112, _⟩ => ⟨S2x128x12568, .f32⟩
  | .hbm, ⟨113, _⟩ => ⟨S2x128x12568, .f32⟩
  | .hbm, ⟨114, _⟩ => ⟨S1x1, .f32⟩
  | .hbm, ⟨115, _⟩ => ⟨S2x128x100544, .i8⟩
  | .hbm, ⟨116, _⟩ => ⟨S2x128x12568, .fp8e4m3⟩
  | .local _ .vmem, ⟨0, _⟩ => ⟨S2x128x12568x16, .f32⟩
  | .local _ .vmem, ⟨1, _⟩ => ⟨S2x128x12568, .f32⟩
  | .local _ .vmem, ⟨2, _⟩ => ⟨S1x1, .f32⟩
  | .local _ .vmem, ⟨3, _⟩ => ⟨S2x128x100544, .i8⟩
  | .local _ .vmem, ⟨4, _⟩ => ⟨S2x128x12568, .fp8e4m3⟩
  | _, _ => ⟨S2x128x100544, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_3 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_c_6 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_8 : Ref sig .tc := ⟨.hbm, 38, rfl⟩
abbrev main_v25 : Ref sig .tc := ⟨.hbm, 39, rfl⟩
abbrev main_v26 : Ref sig .tc := ⟨.hbm, 40, rfl⟩
abbrev main_c_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_10 : Ref sig .tc := ⟨.hbm, 46, rfl⟩
abbrev main_v31 : Ref sig .tc := ⟨.hbm, 47, rfl⟩
abbrev main_v32 : Ref sig .tc := ⟨.hbm, 48, rfl⟩
abbrev main_c_11 : Ref sig .tc := ⟨.hbm, 49, rfl⟩
abbrev main_v33 : Ref sig .tc := ⟨.hbm, 50, rfl⟩
abbrev main_v34 : Ref sig .tc := ⟨.hbm, 51, rfl⟩
abbrev main_c_12 : Ref sig .tc := ⟨.hbm, 52, rfl⟩
abbrev main_v35 : Ref sig .tc := ⟨.hbm, 53, rfl⟩
abbrev main_v36 : Ref sig .tc := ⟨.hbm, 54, rfl⟩
abbrev main_c_13 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_14 : Ref sig .tc := ⟨.hbm, 59, rfl⟩
abbrev main_v40 : Ref sig .tc := ⟨.hbm, 60, rfl⟩
abbrev main_v41 : Ref sig .tc := ⟨.hbm, 61, rfl⟩
abbrev main_cst_15 : Ref sig .tc := ⟨.hbm, 62, rfl⟩
abbrev main_v42 : Ref sig .tc := ⟨.hbm, 63, rfl⟩
abbrev main_v43 : Ref sig .tc := ⟨.hbm, 64, rfl⟩
abbrev main_cst_16 : Ref sig .tc := ⟨.hbm, 65, rfl⟩
abbrev main_v44 : Ref sig .tc := ⟨.hbm, 66, rfl⟩
abbrev main_v45 : Ref sig .tc := ⟨.hbm, 67, rfl⟩
abbrev main_cst_17 : Ref sig .tc := ⟨.hbm, 68, rfl⟩
abbrev main_v46 : Ref sig .tc := ⟨.hbm, 69, rfl⟩
abbrev main_v47 : Ref sig .tc := ⟨.hbm, 70, rfl⟩
abbrev main_c_18 : Ref sig .tc := ⟨.hbm, 71, rfl⟩
abbrev main_v48 : Ref sig .tc := ⟨.hbm, 72, rfl⟩
abbrev main_v49 : Ref sig .tc := ⟨.hbm, 73, rfl⟩
abbrev main_cst_19 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_20 : Ref sig .tc := ⟨.hbm, 80, rfl⟩
abbrev main_v55 : Ref sig .tc := ⟨.hbm, 81, rfl⟩
abbrev main_v56 : Ref sig .tc := ⟨.hbm, 82, rfl⟩
abbrev main_c_21 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_22 : Ref sig .tc := ⟨.hbm, 93, rfl⟩
abbrev main_v66 : Ref sig .tc := ⟨.hbm, 94, rfl⟩
abbrev main_v67 : Ref sig .tc := ⟨.hbm, 95, rfl⟩
abbrev main_cst_23 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_24 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_25 : Ref sig .tc := ⟨.hbm, 108, rfl⟩
abbrev main_v78 : Ref sig .tc := ⟨.hbm, 109, rfl⟩
abbrev main_cst_26 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83_0 : Ref sig .tc := ⟨.hbm, 115, rfl⟩
abbrev main_v83_1 : Ref sig .tc := ⟨.hbm, 116, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2x128x12568x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x12568 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x100544 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x12568 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.TripKernel.lean ====
module

public import proofs.«01_k».proof.Proof.Gen.Kernel.Skeleton
public import proofs.«01_k».proof.Proof.Gen.Kernel.Loops
public import proofs.«01_k».proof.Proof.Gen.Kernel.Frame

/-! The region of the kernel: what one trip of the loop over chunks reads and writes, and the frame. -/

@[expose] public section

set_option maxRecDepth 65536

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

abbrev UU (nD : Nat) (τ : Topo) : Type := UR sig nD τ
abbrev 𝒱₀ : Variants := Variants.none

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp (MT nD τ sig Unit (Elt F) ℕ (UR sig nD τ) ℕ) :=
  M.view.loc (c : Thread nD τ) ↦[M.view.set]{fullShare} f

/-- What the loop keeps: every buffer it touches is held whole, at contents nothing names. -/
abbrev keep (c : Dev nD) (arg3 : Memref sig .tc .vmem S1x9216x128 .i8) (arg4 : Memref sig .tc .vmem S1x576x128 .i8)
    (arg5 : Memref sig .tc .vmem S1x9216x128 .i8) (arg6 : Memref sig .tc .vmem S1x1152x128 .fp8e4m3)
    (arg8 : Memref sig .tc .vmem S1152x128 .f32) (arg9 arg10 : Memref sig .tc .vmem S4608x128 .i32) : sProp (MT nD τ sig Unit (Elt F) ℕ (UR sig nD τ) ℕ) :=
  iprop((∃ f, pt (F := F) c arg3 f) ∗ (∃ f, pt (F := F) c arg4 f) ∗ (∃ f, pt (F := F) c arg5 f) ∗ (∃ f, pt (F := F) c arg6 f)
    ∗ (∃ f, pt (F := F) c arg8 f) ∗ (∃ f, pt (F := F) c arg9 f) ∗ (∃ f, pt (F := F) c arg10 f))

theorem trip (c : Dev nD) (i : grid0.Coords) (arg2 : Memref sig .tc .smem S1x1 .f32) (harg2 : arg2.IsWhole) (arg3 : Memref sig .tc .vmem S1x9216x128 .i8) (harg3 : arg3.IsWhole) (arg4 : Memref sig .tc .vmem S1x576x128 .i8) (harg4 : arg4.IsWhole) (arg5 : Memref sig .tc .vmem S1x9216x128 .i8) (harg5 : arg5.IsWhole) (arg6 : Memref sig .tc .vmem S1x1152x128 .fp8e4m3) (harg6 : arg6.IsWhole) (arg7 : Memref sig .tc .vmem S1x1 .f32) (harg7 : arg7.IsWhole) (arg8 : Memref sig .tc .vmem S1152x128 .f32) (harg8 : arg8.IsWhole) (arg9 : Memref sig .tc .vmem S4608x128 .i32) (harg9 : arg9.IsWhole) (arg10 : Memref sig .tc .vmem S4608x128 .i32) (harg10 : arg10.IsWhole) (v0 : Elt F .f32) (k : Fin k0_t1_loop.trips) :
    keep (F := F) c arg3 arg4 arg5 arg6 arg8 arg9 arg10
      ⊢ wp frame (wpE (defs₀ (F := F)) 𝒱₀ (c : Thread nD τ) none) Set.univ (k0_t1_body (F := F) i arg2 harg2 arg3 harg3 arg4 harg4 arg5 harg5 arg6 harg6 arg7 harg7 arg8 harg8 arg9 harg9 arg10 harg10 v0 k ())
          fun _ => keep (F := F) c arg3 arg4 arg5 arg6 arg8 arg9 arg10 := by
  unfold k0_t1_body
  iintro ⟨⟨%f3, H3⟩, ⟨%f4, H4⟩, ⟨%f5, H5⟩, ⟨%f6, H6⟩, ⟨%f8, H8⟩, ⟨%f9, H9⟩, ⟨%f10, H10⟩⟩
  sl_exec_parts!
  sl_step
  isplitl [H3]; · iexists _; iexact H3
  isplitl [H4]; · iexists _; iexact H4
  isplitl [H5]; · iexists _; iexact H5
  isplitl [H6]; · iexists _; iexact H6
  isplitl [H8]; · iexists _; iexact H8
  isplitl [H9]; · iexists _; iexact H9
  iexists _; iexact H10

@[sl_loop, instance_reducible] noncomputable def loopInv_k0_t1 (c : Dev nD) (i : grid0.Coords) (arg2 : Memref sig .tc .smem S1x1 .f32) (harg2 : arg2.IsWhole) (arg3 : Memref sig .tc .vmem S1x9216x128 .i8) (harg3 : arg3.IsWhole) (arg4 : Memref sig .tc .vmem S1x576x128 .i8) (harg4 : arg4.IsWhole) (arg5 : Memref sig .tc .vmem S1x9216x128 .i8) (harg5 : arg5.IsWhole) (arg6 : Memref sig .tc .vmem S1x1152x128 .fp8e4m3) (harg6 : arg6.IsWhole) (arg7 : Memref sig .tc .vmem S1x1 .f32) (harg7 : arg7.IsWhole) (arg8 : Memref sig .tc .vmem S1152x128 .f32) (harg8 : arg8.IsWhole) (arg9 : Memref sig .tc .vmem S4608x128 .i32) (harg9 : arg9.IsWhole) (arg10 : Memref sig .tc .vmem S4608x128 .i32) (harg10 : arg10.IsWhole) (v0 : Elt F .f32) :
    LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 v0 where
  inv := fun _ _ => keep (F := F) c arg3 arg4 arg5 arg6 arg8 arg9 arg10
  step := fun k _ => trip c i arg2 harg2 arg3 harg3 arg4 harg4 arg5 harg5 arg6 harg6 arg7 harg7 arg8 harg8 arg9 harg9 arg10 harg10 v0 k

theorem body_run (c : Dev nD) (i : grid0.Coords) (arg2 : Memref sig .tc .smem S1x1 .f32) (harg2 : arg2.IsWhole) (arg3 : Memref sig .tc .vmem S1x9216x128 .i8) (harg3 : arg3.IsWhole) (arg4 : Memref sig .tc .vmem S1x576x128 .i8) (harg4 : arg4.IsWhole) (arg5 : Memref sig .tc .vmem S1x9216x128 .i8) (harg5 : arg5.IsWhole) (arg6 : Memref sig .tc .vmem S1x1152x128 .fp8e4m3) (harg6 : arg6.IsWhole) (arg7 : Memref sig .tc .vmem S1x1 .f32) (harg7 : arg7.IsWhole) (arg8 : Memref sig .tc .vmem S1152x128 .f32) (harg8 : arg8.IsWhole) (arg9 : Memref sig .tc .vmem S4608x128 .i32) (harg9 : arg9.IsWhole) (arg10 : Memref sig .tc .vmem S4608x128 .i32) (harg10 : arg10.IsWhole) :
    iprop((∃ f, pt (F := F) c arg2 f) ∗ (∃ f, pt (F := F) c arg7 f) ∗ keep (F := F) c arg3 arg4 arg5 arg6 arg8 arg9 arg10)
      ⊢ wp frame (wpE (defs₀ (F := F)) 𝒱₀ (c : Thread nD τ) none) Set.univ (cc0__body (F := F) i arg2 harg2 arg3 harg3 arg4 harg4 arg5 harg5 arg6 harg6 arg7 harg7 arg8 harg8 arg9 harg9 arg10 harg10)
          fun _ => iprop((∃ f, pt (F := F) c arg2 f) ∗ (∃ f, pt (F := F) c arg7 f) ∗ keep (F := F) c arg3 arg4 arg5 arg6 arg8 arg9 arg10) := by
  simp only [cc0__body_eq_skeleton]; unfold cc0__body_skel
  iintro ⟨⟨%f2, H2⟩, ⟨%f7, H7⟩, ⟨%f3, H3⟩, ⟨%f4, H4⟩, ⟨%f5, H5⟩, ⟨%f6, H6⟩, ⟨%f8, H8⟩, ⟨%f9, H9⟩, ⟨%f10, H10⟩⟩
  sl_exec!
  sl_step
  isplitl [H2]; · iexists _; iexact H2
  isplitl [H7]; · iexists _; iexact H7
  isplitl [H3]; · iexists _; iexact H3
  isplitl [H4]; · iexists _; iexact H4
  isplitl [H5]; · iexists _; iexact H5
  isplitl [H6]; · iexists _; iexact H6
  isplitl [H8]; · iexists _; iexact H8
  isplitl [H9]; · iexists _; iexact H9
  iexists _; iexact H10

/-! ## The launch, with every window forgotten -/

open Idealize.ShloMosaic.Pipeline (Dat BodyObligation BodyObligationLoose)

variable (m : (ℓ : Loc nD τ sig) → Buf (Elt F) ℓ) (ρ : Dev nD → PrngReg) [∀ e, Nonempty (Elt F e)]

/-- Every window forgotten: the frame reads none of the windowed arrays. -/
def forgets0 : Fin 6 → Bool := fun _ => true

/-- The proof data on core `c`: the arrays as the region finds them, what the body leaves unnamed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem owns_ex (c : Dev nD) {sp : Space} {S : Shape} {e : EltTy} (M : Memref sig .tc sp S e) :
    iprop(∃ X, owns (c : Thread nD τ) M fullShare X) ⊢ (iprop(∃ f, pt (F := F) c M f) : sProp (MT nD τ sig Unit (Elt F) ℕ (UR sig nD τ) ℕ)) := by
  unfold owns pt
  iintro ⟨%X, %f, -, H⟩; iexists f; iexact H
theorem ex_owns (c : Dev nD) {sp : Space} {S : Shape} {e : EltTy} (M : Memref sig .tc sp S e) :
    (iprop(∃ f, pt (F := F) c M f) : sProp (MT nD τ sig Unit (Elt F) ℕ (UR sig nD τ) ℕ)) ⊢ iprop(∃ X, owns (c : Thread nD τ) M fullShare X) := by
  unfold pt
  iintro ⟨%f, H⟩; iexists M.view.read (Elt F) f; iapply (owns_intro (c : Thread nD τ) M fullShare f); iexact H

/-- The scratch buffers and the generator register, as the body is handed them. -/
theorem ΦA_eq (c : Dev nD) :
    (Pipeline.ΦA spec0 c : sProp (MT nD τ sig Unit (Elt F) ℕ (UR sig nD τ) ℕ)) = iprop(((∃ f, pt (F := F) c (Memref.whole cc0_scratch0) f) ∗ (∃ f, pt (F := F) c (Memref.whole cc0_scratch1) f)
      ∗ (∃ f, pt (F := F) c (Memref.whole cc0_scratch2) f)) ∗ ∃ r, prngReg c r) := by
  unfold Pipeline.ΦA; rw [scopedRest0_eq]; unfold pt; simp only [Memref.view_whole, View.set_whole]; try rfl

theorem defs₀_row (t : Fin cfg0.N) : defs₀ (F := F) .tc cfg0.body (cfg0.bodyArgs t (cfg0.slots t)) = bodyAt0 t := by
  unfold defs₀; rw [Defs.onTc_tc]

/-- What the body is called with at point `t`, and what it returns. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare d) ∗ (∃ d, owns (c : Thread nD τ) (st0_1 t) fullShare d)
    ∗ (∃ d, owns (c : Thread nD τ) (st0_2 t) fullShare d) ∗ (∃ d, owns (c : Thread nD τ) (st0_3 t) fullShare d)
    ∗ (∃ d, owns (c : Thread nD τ) (st0_4 t) fullShare d) ∗ (∃ d, owns (c : Thread nD τ) (st0_5 t) fullShare d))

theorem sound_body (c : Dev nD) (t : Fin cfg0.N) :
    bodyPre m c t ⊢ wp frame (wpE (defs₀ (F := F)) 𝒱₀ (c : Thread nD τ) none) Set.univ (bodyAt0 t) (fun _ => bodyPre m c t) := by
  unfold bodyPre bodyAt0
  rw [show (dats m 0 c).Φ t.castSucc = Pipeline.ΦA spec0 c from rfl, ΦA_eq]
  iintro ⟨⟨⟨HA, HB, HC⟩, Hg⟩, HO, H0, H1, H2, H3, H4, H5⟩
  iapply (wp_wand _ _ _) $$ [H0 H1 H2 H3 H4 H5 HA HB HC]
  · iapply (body_run c (grid0.coords t) (st0_0 t) _ (st0_1 t) _ (st0_2 t) _ (st0_3 t) _ (st0_4 t) _ (st0_5 t) _ (Memref.whole cc0_scratch0) (Memref.isWhole_whole _) (Memref.whole cc0_scratch1) (Memref.isWhole_whole _) (Memref.whole cc0_scratch2) (Memref.isWhole_whole _))
    isplitl [H0]; · iapply (owns_ex c _); iexact H0
    isplitl [H5]; · iapply (owns_ex c _); iexact H5
    isplitl [H1]; · iapply (owns_ex c _); iexact H1
    isplitl [H2]; · iapply (owns_ex c _); iexact H2
    isplitl [H3]; · iapply (owns_ex c _); iexact H3
    isplitl [H4]; · iapply (owns_ex c _); iexact H4
    isplitl [HA]; · iexact HA
    isplitl [HB]; · iexact HB
    iexact HC
  iintro %_ ⟨H0, H5, H1, H2, H3, H4, HA, HB, HC⟩
  isplitl [HA HB HC Hg]
  · isplitl [HA HB HC]
    · isplitl [HA]; · iexact HA
      isplitl [HB]; · iexact HB
      iexact HC
    iexact Hg
  isplitl [HO]; · iexact HO
  isplitl [H0]; · iapply (ex_owns c _); iexact H0
  isplitl [H1]; · iapply (ex_owns c _); iexact H1
  isplitl [H2]; · iapply (ex_owns c _); iexact H2
  isplitl [H3]; · iapply (ex_owns c _); iexact H3
  isplitl [H4]; · iapply (ex_owns c _); iexact H4
  iapply (ex_owns c _); iexact H5

theorem body_obligation (c : Dev nD) :
    BodyObligation (dats (F := F) m 0 c) (defs₀ (F := F)) 𝒱₀ () Set.univ forgets0 := fun t => by
  rw [bigSep_W0, bigSep_W0, defs₀_row]
  exact triple_restated (sound_body m c t) rfl .rfl fun _ => .rfl

/-- The host results written after the region. -/
def T0 : Finset (Ref sig .tc) := {main_v4, main_v5, main_v6}

set_option backward.isDefEq.respectTransparency.types false in
theorem run_main :
    θ_run defs (onTc (τ := τ) (main (F := F))) (s₀ m ρ)
      (fun r => Pipeline.RDat.FramePostR (cfgs 0) (fun c => (dats m 0 c).toRForget forgets0) T0 (V m) r ∧ r.2.sem = fun _ => 0) :=
  Pipeline.θ_run_frame_around_T_forget (Q' := _) cfgs (dats m) (0 : Fin 1) launch0 defs₀ 𝒱₀ forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := by
      intro ops hops op hop b hb
      simp only [List.mem_cons, List.mem_nil_iff, or_false] at hops
      subst hops
      simp only [hostOps1, List.mem_cons, List.mem_nil_iff, or_false] at hop
      rcases hop with rfl | rfl | rfl
      all_goals
        simp only [StableHlo.unary_writes, StableHlo.reshape_writes, Finset.mem_singleton] at hb
        have := Proc.devRef_injective _ hb
        subst this
        decide)
    (hmain := hmain m 𝒱₀) (hA := fun _ _ => rfl) (hΦ := fun _ _ => rfl)

theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
    ⟨((h.1 c).2 main_arg0 (by decide)).trans (V_main_arg0 m c), ((h.1 c).2 main_arg1 (by decide)).trans (V_main_arg1 m c),
      ((h.1 c).2 main_arg2 (by decide)).trans (V_main_arg2 m c)⟩, h.2⟩) (run_main m ρ)

end Cert.Proof.Kernel
-- ==== Proof.TripKernelIdeal.lean ====
module

public import proofs.«01_k».proof.Proof.Gen.KernelIdeal.Skeleton
public import proofs.«01_k».proof.Proof.Gen.KernelIdeal.Loops
public import proofs.«01_k».proof.Proof.Gen.KernelIdeal.Frame

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp (MT nD τ sig Unit (Elt F) ℕ (UR sig nD τ) ℕ) :=
  M.view.loc (c : Thread nD τ) ↦[M.view.set]{fullShare} f

/-- What the loop keeps: every buffer it touches is held whole, at contents nothing names. -/
abbrev keep (c : Dev nD) (arg3 : Memref sig .tc .vmem S1x9216x128 .i8) (arg4 : Memref sig .tc .vmem S1x576x128 .i8)
    (arg5 : Memref sig .tc .vmem S1x9216x128 .i8) (arg6 : Memref sig .tc .vmem S1x1152x128 .fp8e4m3)
    (arg8 : Memref sig .tc .vmem S1152x128 .f32) (arg9 arg10 : Memref sig .tc .vmem S4608x2x128 .bf16) : sProp (MT nD τ sig Unit (Elt F) ℕ (UR sig nD τ) ℕ) :=
  iprop((∃ f, pt (F := F) c arg3 f) ∗ (∃ f, pt (F := F) c arg4 f) ∗ (∃ f, pt (F := F) c arg5 f) ∗ (∃ f, pt (F := F) c arg6 f)
    ∗ (∃ f, pt (F := F) c arg8 f) ∗ (∃ f, pt (F := F) c arg9 f) ∗ (∃ f, pt (F := F) c arg10 f))

theorem trip (c : Dev nD) (i : grid0.Coords) (arg2 : Memref sig .tc .smem S1x1 .f32) (harg2 : arg2.IsWhole) (arg3 : Memref sig .tc .vmem S1x9216x128 .i8) (harg3 : arg3.IsWhole) (arg4 : Memref sig .tc .vmem S1x576x128 .i8) (harg4 : arg4.IsWhole) (arg5 : Memref sig .tc .vmem S1x9216x128 .i8) (harg5 : arg5.IsWhole) (arg6 : Memref sig .tc .vmem S1x1152x128 .fp8e4m3) (harg6 : arg6.IsWhole) (arg7 : Memref sig .tc .vmem S1x1 .f32) (harg7 : arg7.IsWhole) (arg8 : Memref sig .tc .vmem S1152x128 .f32) (harg8 : arg8.IsWhole) (arg9 : Memref sig .tc .vmem S4608x2x128 .bf16) (harg9 : arg9.IsWhole) (arg10 : Memref sig .tc .vmem S4608x2x128 .bf16) (harg10 : arg10.IsWhole) (v0 : Elt F .f32) (k : Fin k0_t1_loop.trips) :
    keep (F := F) c arg3 arg4 arg5 arg6 arg8 arg9 arg10
      ⊢ wp frame (wpE (defs₀ (F := F)) 𝒱₀ (c : Thread nD τ) none) Set.univ (k0_t1_body (F := F) i arg2 harg2 arg3 harg3 arg4 harg4 arg5 harg5 arg6 harg6 arg7 harg7 arg8 harg8 arg9 harg9 arg10 harg10 v0 k ())
          fun _ => keep (F := F) c arg3 arg4 arg5 arg6 arg8 arg9 arg10 := by
  unfold k0_t1_body
  iintro ⟨⟨%f3, H3⟩, ⟨%f4, H4⟩, ⟨%f5, H5⟩, ⟨%f6, H6⟩, ⟨%f8, H8⟩, ⟨%f9, H9⟩, ⟨%f10, H10⟩⟩
  sl_exec_parts!
  sl_step
  isplitl [H3]; · iexists _; iexact H3
  isplitl [H4]; · iexists _; iexact H4
  isplitl [H5]; · iexists _; iexact H5
  isplitl [H6]; · iexists _; iexact H6
  isplitl [H8]; · iexists _; iexact H8
  isplitl [H9]; · iexists _; iexact H9
  iexists _; iexact H10

@[sl_loop, instance_reducible] noncomputable def loopInv_k0_t1 (c : Dev nD) (i : grid0.Coords) (arg2 : Memref sig .tc .smem S1x1 .f32) (harg2 : arg2.IsWhole) (arg3 : Memref sig .tc .vmem S1x9216x128 .i8) (harg3 : arg3.IsWhole) (arg4 : Memref sig .tc .vmem S1x576x128 .i8) (harg4 : arg4.IsWhole) (arg5 : Memref sig .tc .vmem S1x9216x128 .i8) (harg5 : arg5.IsWhole) (arg6 : Memref sig .tc .vmem S1x1152x128 .fp8e4m3) (harg6 : arg6.IsWhole) (arg7 : Memref sig .tc .vmem S1x1 .f32) (harg7 : arg7.IsWhole) (arg8 : Memref sig .tc .vmem S1152x128 .f32) (harg8 : arg8.IsWhole) (arg9 : Memref sig .tc .vmem S4608x2x128 .bf16) (harg9 : arg9.IsWhole) (arg10 : Memref sig .tc .vmem S4608x2x128 .bf16) (harg10 : arg10.IsWhole) (v0 : Elt F .f32) :
    LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 v0 where
  inv := fun _ _ => keep (F := F) c arg3 arg4 arg5 arg6 arg8 arg9 arg10
  step := fun k _ => trip c i arg2 harg2 arg3 harg3 arg4 harg4 arg5 harg5 arg6 harg6 arg7 harg7 arg8 harg8 arg9 harg9 arg10 harg10 v0 k

theorem body_run (c : Dev nD) (i : grid0.Coords) (arg2 : Memref sig .tc .smem S1x1 .f32) (harg2 : arg2.IsWhole) (arg3 : Memref sig .tc .vmem S1x9216x128 .i8) (harg3 : arg3.IsWhole) (arg4 : Memref sig .tc .vmem S1x576x128 .i8) (harg4 : arg4.IsWhole) (arg5 : Memref sig .tc .vmem S1x9216x128 .i8) (harg5 : arg5.IsWhole) (arg6 : Memref sig .tc .vmem S1x1152x128 .fp8e4m3) (harg6 : arg6.IsWhole) (arg7 : Memref sig .tc .vmem S1x1 .f32) (harg7 : arg7.IsWhole) (arg8 : Memref sig .tc .vmem S1152x128 .f32) (harg8 : arg8.IsWhole) (arg9 : Memref sig .tc .vmem S4608x2x128 .bf16) (harg9 : arg9.IsWhole) (arg10 : Memref sig .tc .vmem S4608x2x128 .bf16) (harg10 : arg10.IsWhole) :
    iprop((∃ f, pt (F := F) c arg2 f) ∗ (∃ f, pt (F := F) c arg7 f) ∗ keep (F := F) c arg3 arg4 arg5 arg6 arg8 arg9 arg10)
      ⊢ wp frame (wpE (defs₀ (F := F)) 𝒱₀ (c : Thread nD τ) none) Set.univ (cc0__body (F := F) i arg2 harg2 arg3 harg3 arg4 harg4 arg5 harg5 arg6 harg6 arg7 harg7 arg8 harg8 arg9 harg9 arg10 harg10)
          fun _ => iprop((∃ f, pt (F := F) c arg2 f) ∗ (∃ f, pt (F := F) c arg7 f) ∗ keep (F := F) c arg3 arg4 arg5 arg6 arg8 arg9 arg10) := by
  simp only [cc0__body_eq_skeleton]; unfold cc0__body_skel
  iintro ⟨⟨%f2, H2⟩, ⟨%f7, H7⟩, ⟨%f3, H3⟩, ⟨%f4, H4⟩, ⟨%f5, H5⟩, ⟨%f6, H6⟩, ⟨%f8, H8⟩, ⟨%f9, H9⟩, ⟨%f10, H10⟩⟩
  sl_exec!
  sl_step
  isplitl [H2]; · iexists _; iexact H2
  isplitl [H7]; · iexists _; iexact H7
  isplitl [H3]; · iexists _; iexact H3
  isplitl [H4]; · iexists _; iexact H4
  isplitl [H5]; · iexists _; iexact H5
  isplitl [H6]; · iexists _; iexact H6
  isplitl [H8]; · iexists _; iexact H8
  isplitl [H9]; · iexists _; iexact H9
  iexists _; iexact H10

/-! ## The launch, with every window forgotten -/

open Idealize.ShloMosaic.Pipeline (Dat BodyObligation BodyObligationLoose)

variable (m : (ℓ : Loc nD τ sig) → Buf (Elt F) ℓ) (ρ : Dev nD → PrngReg) [∀ e, Nonempty (Elt F e)]

/-- Every window forgotten: the frame reads none of the windowed arrays. -/
def forgets0 : Fin 6 → Bool := fun _ => true

/-- The proof data on core `c`: the arrays as the region finds them, what the body leaves unnamed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem owns_ex (c : Dev nD) {sp : Space} {S : Shape} {e : EltTy} (M : Memref sig .tc sp S e) :
    iprop(∃ X, owns (c : Thread nD τ) M fullShare X) ⊢ (iprop(∃ f, pt (F := F) c M f) : sProp (MT nD τ sig Unit (Elt F) ℕ (UR sig nD τ) ℕ)) := by
  unfold owns pt
  iintro ⟨%X, %f, -, H⟩; iexists f; iexact H
theorem ex_owns (c : Dev nD) {sp : Space} {S : Shape} {e : EltTy} (M : Memref sig .tc sp S e) :
    (iprop(∃ f, pt (F := F) c M f) : sProp (MT nD τ sig Unit (Elt F) ℕ (UR sig nD τ) ℕ)) ⊢ iprop(∃ X, owns (c : Thread nD τ) M fullShare X) := by
  unfold pt
  iintro ⟨%f, H⟩; iexists M.view.read (Elt F) f; iapply (owns_intro (c : Thread nD τ) M fullShare f); iexact H

/-- The scratch buffers and the generator register, as the body is handed them. -/
theorem ΦA_eq (c : Dev nD) :
    (Pipeline.ΦA spec0 c : sProp (MT nD τ sig Unit (Elt F) ℕ (UR sig nD τ) ℕ)) = iprop(((∃ f, pt (F := F) c (Memref.whole cc0_scratch0) f) ∗ (∃ f, pt (F := F) c (Memref.whole cc0_scratch1) f)
      ∗ (∃ f, pt (F := F) c (Memref.whole cc0_scratch2) f)) ∗ ∃ r, prngReg c r) := by
  unfold Pipeline.ΦA; rw [scopedRest0_eq]; unfold pt; simp only [Memref.view_whole, View.set_whole]; try rfl

theorem defs₀_row (t : Fin cfg0.N) : defs₀ (F := F) .tc cfg0.body (cfg0.bodyArgs t (cfg0.slots t)) = bodyAt0 t := by
  unfold defs₀; rw [Defs.onTc_tc]

/-- What the body is called with at point `t`, and what it returns. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare d) ∗ (∃ d, owns (c : Thread nD τ) (st0_1 t) fullShare d)
    ∗ (∃ d, owns (c : Thread nD τ) (st0_2 t) fullShare d) ∗ (∃ d, owns (c : Thread nD τ) (st0_3 t) fullShare d)
    ∗ (∃ d, owns (c : Thread nD τ) (st0_4 t) fullShare d) ∗ (∃ d, owns (c : Thread nD τ) (st0_5 t) fullShare d))

theorem sound_body (c : Dev nD) (t : Fin cfg0.N) :
    bodyPre m c t ⊢ wp frame (wpE (defs₀ (F := F)) 𝒱₀ (c : Thread nD τ) none) Set.univ (bodyAt0 t) (fun _ => bodyPre m c t) := by
  unfold bodyPre bodyAt0
  rw [show (dats m 0 c).Φ t.castSucc = Pipeline.ΦA spec0 c from rfl, ΦA_eq]
  iintro ⟨⟨⟨HA, HB, HC⟩, Hg⟩, HO, H0, H1, H2, H3, H4, H5⟩
  iapply (wp_wand _ _ _) $$ [H0 H1 H2 H3 H4 H5 HA HB HC]
  · iapply (body_run c (grid0.coords t) (st0_0 t) _ (st0_1 t) _ (st0_2 t) _ (st0_3 t) _ (st0_4 t) _ (st0_5 t) _ (Memref.whole cc0_scratch0) (Memref.isWhole_whole _) (Memref.whole cc0_scratch1) (Memref.isWhole_whole _) (Memref.whole cc0_scratch2) (Memref.isWhole_whole _))
    isplitl [H0]; · iapply (owns_ex c _); iexact H0
    isplitl [H5]; · iapply (owns_ex c _); iexact H5
    isplitl [H1]; · iapply (owns_ex c _); iexact H1
    isplitl [H2]; · iapply (owns_ex c _); iexact H2
    isplitl [H3]; · iapply (owns_ex c _); iexact H3
    isplitl [H4]; · iapply (owns_ex c _); iexact H4
    isplitl [HA]; · iexact HA
    isplitl [HB]; · iexact HB
    iexact HC
  iintro %_ ⟨H0, H5, H1, H2, H3, H4, HA, HB, HC⟩
  isplitl [HA HB HC Hg]
  · isplitl [HA HB HC]
    · isplitl [HA]; · iexact HA
      isplitl [HB]; · iexact HB
      iexact HC
    iexact Hg
  isplitl [HO]; · iexact HO
  isplitl [H0]; · iapply (ex_owns c _); iexact H0
  isplitl [H1]; · iapply (ex_owns c _); iexact H1
  isplitl [H2]; · iapply (ex_owns c _); iexact H2
  isplitl [H3]; · iapply (ex_owns c _); iexact H3
  isplitl [H4]; · iapply (ex_owns c _); iexact H4
  iapply (ex_owns c _); iexact H5

theorem body_obligation (c : Dev nD) :
    BodyObligation (dats (F := F) m 0 c) (defs₀ (F := F)) 𝒱₀ () Set.univ forgets0 := fun t => by
  rw [bigSep_W0, bigSep_W0, defs₀_row]
  exact triple_restated (sound_body m c t) rfl .rfl fun _ => .rfl

/-- The host results written after the region. -/
def T0 : Finset (Ref sig .tc) := {main_v4, main_v5, main_v6}

set_option backward.isDefEq.respectTransparency.types false in
theorem run_main :
    θ_run defs (onTc (τ := τ) (main (F := F))) (s₀ m ρ)
      (fun r => Pipeline.RDat.FramePostR (cfgs 0) (fun c => (dats m 0 c).toRForget forgets0) T0 (V m) r ∧ r.2.sem = fun _ => 0) :=
  Pipeline.θ_run_frame_around_T_forget (Q' := _) cfgs (dats m) (0 : Fin 1) launch0 defs₀ 𝒱₀ forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := by
      intro ops hops op hop b hb
      simp only [List.mem_cons, List.mem_nil_iff, or_false] at hops
      subst hops
      simp only [hostOps1, List.mem_cons, List.mem_nil_iff, or_false] at hop
      rcases hop with rfl | rfl | rfl
      all_goals
        simp only [StableHlo.unary_writes, StableHlo.reshape_writes, Finset.mem_singleton] at hb
        have := Proc.devRef_injective _ hb
        subst this
        decide)
    (hmain := hmain m 𝒱₀) (hA := fun _ _ => rfl) (hΦ := fun _ _ => rfl)

theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
    ⟨((h.1 c).2 main_arg0 (by decide)).trans (V_main_arg0 m c), ((h.1 c).2 main_arg1 (by decide)).trans (V_main_arg1 m c),
      ((h.1 c).2 main_arg2 (by decide)).trans (V_main_arg2 m c)⟩, h.2⟩) (run_main m ρ)

end Cert.Proof.KernelIdeal
-- ==== Proof.Group.lean ====
module

public import proofs.«01_k».proof.Proof.TripKernelIdeal

/-! One group of the kernel: 64 rows of code bytes across 128 lanes. The functions here are what the body computes for a
    group, in the kernel's own operations; every one of the eight groups of a trip is an instance of them. -/

@[expose] public section

set_option maxRecDepth 65536

noncomputable section

namespace Cert.Proof.KernelIdeal

open Cert.KernelIdeal Cert.KernelIdeal.Gen
open Idealize.ShloMosaic Idealize.ShloMosaic.TcCoe

variable {F : FTy → Type} [FloatOps F]

/-- The words of a group's even and odd word rows. -/
def w0 (X : Vec F S1x64x128 .i8) : IVec S8x128 32 := k0_pay57 X
def w1 (X : Vec F S1x64x128 .i8) : IVec S8x128 32 := k0_pay64 X

/-- The magnitude fields of a word vector: rows 0..31 the low nibbles of its bytes, rows 32..63 the high ones. -/
def nib (w : IVec S8x128 32) : IVec S64x128 32 :=
  have b : IVec S32x128 32 := extui 32 (bitcast S32x128 8 (andi w (broadcast S8x128 2004318071#32)) bitcasts_S8x128_w32_S32x128_w8) natLt_8_32
  concatenate S64x128 0 [⟨S32x128, andi b (broadcast S32x128 7#32)⟩, ⟨S32x128, shrsi b (broadcast S32x128 4#32)⟩] concatenates_S32x128_S32x128_S64x128_d0

/-- Twice the magnitude a field stands for. -/
def magn (n : IVec S64x128 32) : IVec S64x128 32 :=
  select (cmpi .slt n (broadcast S64x128 4#32)) n
    (select (cmpi .slt n (broadcast S64x128 6#32)) (subi (muli (broadcast S64x128 2#32) n) (broadcast S64x128 4#32))
      (subi (muli (broadcast S64x128 4#32) n) (broadcast S64x128 16#32)))

def half (n : IVec S64x128 32) : FVec F S64x128 .f32 :=
  mulf (sitofp .f32 (magn n)) (broadcast S64x128 (Scalar.ofBits .f32 0x3F000000#32))

/-- The decoded magnitudes, the two nibbles of a byte in adjacent rows. -/
def dec (w : IVec S8x128 32) : FVec F S64x128 .bf16 :=
  interleaveRows S64x128 (truncf .bf16 (extractStridedSlice S32x128 ![0, 0] (half (F := F) (nib w)) slices_S64x128_o0_0_S32x128))
    (truncf .bf16 (extractStridedSlice S32x128 ![32, 0] (half (F := F) (nib w)) slices_S64x128_o32_0_S32x128)) bitcasts_S64x128_w16_S32x128_w32

/-- What the group stores of its magnitudes: the larger of the even and the odd word rows' values. -/
def maxS (X : Vec F S1x64x128 .i8) : Vec F S32x2x128 .bf16 :=
  have m : FVec F S64x128 .bf16 := maximumf (dec (w0 X)) (dec (w1 X))
  interleaveRows S32x2x128 (shapeCast S32x1x128 (rowsOfParity 0 S32x128 m bitcasts_S64x128_w16_S32x128_w32) shapeCasts_S32x128_S32x1x128)
    (shapeCast S32x1x128 (rowsOfParity 1 S32x128 m bitcasts_S64x128_w16_S32x128_w32) shapeCasts_S32x128_S32x1x128) bitcasts_S32x2x128_w16_S32x1x128_w32

def rowsM (a : Vec F S8x2x128 .bf16) : FVec F S16x128 .bf16 :=
  interleaveRows S16x128 (shapeCast S8x128 (rowsOfParity 0 S8x1x128 a bitcasts_S8x2x128_w16_S8x1x128_w32) shapeCasts_S8x1x128_S8x128)
    (shapeCast S8x128 (rowsOfParity 1 S8x1x128 a bitcasts_S8x2x128_w16_S8x1x128_w32) shapeCasts_S8x1x128_S8x128) bitcasts_S16x128_w16_S8x128_w32

/-- The block maxima of a group from the four byte rows of each block. -/
def gmax (a b c d : Vec F S8x2x128 .bf16) : FVec F S8x128 .f32 :=
  have m : FVec F S16x128 .bf16 := maximumf (maximumf (rowsM a) (rowsM b)) (maximumf (rowsM c) (rowsM d))
  maximumf (extf .f32 (rowsOfParity 1 S8x128 m bitcasts_S16x128_w16_S8x128_w32))
    (extf .f32 (rowsOfParity 0 S8x128 m bitcasts_S16x128_w16_S8x128_w32))

/-- The block scales before rounding. -/
def gscale (v7 : FVec F S8x128 .f32) (m f : FVec F S8x128 .f32) : FVec F S8x128 .f32 :=
  minimumf (broadcast S8x128 (Scalar.ofBits .f32 0x43E00000#32))
    (maximumf (broadcast S8x128 (Scalar.ofBits .f32 0x00000000#32)) (divf (mulf m f) v7))

/-- Four groups' block scales, rounded. -/
def cat4 (a b c d : FVec F S8x128 .f32) : FVec F S32x128 .fp8e4m3 :=
  truncf .fp8e4m3 (concatenate S32x128 0 [⟨S8x128, a⟩, ⟨S8x128, b⟩, ⟨S8x128, c⟩, ⟨S8x128, d⟩] concatenates_S8x128_S8x128_S8x128_S8x128_S32x128_d0) bitsLt_fp8e4m3_f32

/-- One group's share of the four's scales, times the tensor scale. -/
def effOf (v3 : FVec F S8x128 .f32) (off : Fin 2 → Nat) (h : S32x128.Slices off S8x128) (s : FVec F S32x128 .fp8e4m3) : FVec F S8x128 .f32 :=
  mulf (extractStridedSlice S8x128 off (extf .f32 s bitsLt_fp8e4m3_f32) h) v3

def r3Of (eff f : FVec F S8x128 .f32) : FVec F S8x128 .f32 :=
  divf (mulf (broadcast S8x128 (Scalar.ofBits .f32 0x40400000#32)) f) eff

/-- One step of the bisection: the bit `b` joined where the pattern it makes is not above `x`. -/
def bstep (x : FVec F S8x128 .f32) (lo : IVec S8x128 32) (b : BitVec 32) : IVec S8x128 32 :=
  have p : IVec S8x128 32 := ori lo (broadcast S8x128 b)
  select (cmpf .ole (bitcastToFloat .f32 p) x) p lo

def bits (x : FVec F S8x128 .f32) : IVec S8x128 32 :=
  bstep x (bstep x (bstep x (bstep x (bstep x (bstep x (bstep x (bstep x (bstep x (bstep x (bstep x (bstep x
    (broadcast S8x128 0#32) 1073741824#32) 536870912#32) 268435456#32) 134217728#32) 67108864#32) 33554432#32) 16777216#32)
    8388608#32) 4194304#32) 2097152#32) 1048576#32) 524288#32

/-- The multiplier of a group's blocks. -/
def mult (eff f : FVec F S8x128 .f32) : FVec F S8x128 .f32 :=
  select (cmpf .ogt eff (broadcast S8x128 (Scalar.ofBits .f32 0x00000000#32)))
    (mulf (bitcastToFloat .f32 (ori (bits (r3Of eff f)) (broadcast S8x128 262144#32))) (broadcast S8x128 (Scalar.ofBits .f32 0x3EAAAAAB#32)))
    (broadcast S8x128 (Scalar.ofBits .f32 0x00000000#32))

/-- The multiplier as stored for one byte row of every block. -/
def multS (r : FVec F S8x128 .f32) : Vec F S8x2x128 .bf16 :=
  interleaveRows S8x2x128 (shapeCast S8x1x128 (truncf .bf16 r) shapeCasts_S8x128_S8x1x128)
    (shapeCast S8x1x128 (truncf .bf16 r) shapeCasts_S8x128_S8x1x128) bitcasts_S8x2x128_w16_S8x1x128_w32

/-- The multipliers read back. -/
def multR (R : Vec F S32x2x128 .bf16) : FVec F S64x128 .bf16 := k0_pay56 R

def cnt (x : FVec F S64x128 .f32) : IVec S64x128 32 :=
  have ge (w : BitVec 32) : IVec S64x128 32 := extui 32 (cmpf .oge x (broadcast S64x128 (Scalar.ofBits .f32 w))) natLt_1_32
  have gt (w : BitVec 32) : IVec S64x128 32 := extui 32 (cmpf .ogt x (broadcast S64x128 (Scalar.ofBits .f32 w))) natLt_1_32
  addi (addi (addi (addi (addi (addi (gt 0x3E800000#32) (ge 0x3F400000#32)) (gt 0x3FA00000#32)) (ge 0x3FE00000#32)) (gt 0x40200000#32))
    (ge 0x40600000#32)) (gt 0x40A00000#32)

/-- The magnitude fields of the scaled values. -/
def encN (w : IVec S8x128 32) (R : FVec F S64x128 .bf16) : IVec S64x128 32 :=
  have y : FVec F S64x128 .bf16 := mulf (dec w) R
  cnt (concatenate S64x128 0 [⟨S32x128, extf .f32 (rowsOfParity 0 S32x128 y bitcasts_S64x128_w16_S32x128_w32)⟩,
    ⟨S32x128, extf .f32 (rowsOfParity 1 S32x128 y bitcasts_S64x128_w16_S32x128_w32)⟩] concatenates_S32x128_S32x128_S64x128_d0)

def packW (n : IVec S64x128 32) : IVec S8x128 32 :=
  bitcast S8x128 32 (trunci 8 (ori (extractStridedSlice S32x128 ![0, 0] n slices_S64x128_o0_0_S32x128)
    (shli (extractStridedSlice S32x128 ![32, 0] n slices_S64x128_o32_0_S32x128) (broadcast S32x128 4#32))) natLt_8_32) bitcasts_S32x128_w8_S8x128_w32

/-- The signs of the words joined to nonzero magnitudes. -/
def signW (w y : IVec S8x128 32) : IVec S8x128 32 :=
  ori y (andi (andi w (addi y (broadcast S8x128 2004318071#32))) (broadcast S8x128 2290649224#32))

def joinW (a b : IVec S8x128 32) : IVec S1x64x128 8 :=
  shapeCast S1x64x128 (bitcast S64x128 8 (shapeCast S16x128 (concatenate S8x2x128 1 [⟨S8x1x128, shapeCast S8x1x128 a shapeCasts_S8x128_S8x1x128⟩,
    ⟨S8x1x128, shapeCast S8x1x128 b shapeCasts_S8x128_S8x1x128⟩] concatenates_S8x1x128_S8x1x128_S8x2x128_d1) shapeCasts_S8x2x128_S16x128)
    bitcasts_S16x128_w32_S64x128_w8) shapeCasts_S64x128_S1x64x128

/-- The group's output bytes. -/
def codes (X : Vec F S1x64x128 .i8) (R : Vec F S32x2x128 .bf16) : IVec S1x64x128 8 :=
  joinW (signW (w0 X) (packW (encN (w0 X) (multR R)))) (signW (w1 X) (packW (encN (w1 X) (multR R))))

end Cert.Proof.KernelIdeal
-- ==== Proof.TripPieces.lean ====
module

public import proofs.«01_k».proof.Proof.Group

/-! What one trip leaves in the two outputs and the two scratch buffers, in terms of the group functions. -/

@[expose] public section

set_option maxRecDepth 65536
set_option maxHeartbeats 1000000

noncomputable section

namespace Cert.Proof.KernelIdeal

open Cert.KernelIdeal Cert.KernelIdeal.Gen
open Idealize.ShloMosaic Idealize.ShloMosaic.TcCoe

variable {F : FTy → Type} [FloatOps F] [∀ e, Nonempty (Elt F e)]
variable (c : Dev nD) (arg3 : Memref sig .tc .vmem S1x9216x128 .i8) (arg4 : Memref sig .tc .vmem S1x576x128 .i8)
    (arg8 : Memref sig .tc .vmem S1152x128 .f32) (arg9 arg10 : Memref sig .tc .vmem S4608x2x128 .bf16) (v0 : Elt F .f32) (k : Fin k0_t1_loop.trips)
    (f3 : Bf (F := F) c arg3) (f4 : Bf (F := F) c arg4) (f8 : Bf (F := F) c arg8) (f10 : Bf (F := F) c arg10)

/-- Group `(h, g)`'s code bytes, its blocks' scale factors as stored, and its multipliers read back. -/
abbrev xg (h : Fin 2) (g : Fin 4) : Vec F S1x64x128 .i8 :=
  View.readAt (Elt F) arg3.view (Rect.unit (s := S1x9216x128) (k0_off3 k (BitVec.ofNat 32 (4 * h.val)) (BitVec.ofNat 32 g.val)) S1x64x128.size (k0_off3_inb k h g)).toLoadRect f3
abbrev fg (h : Fin 2) (g : Fin 4) : FVec F S8x128 .f32 :=
  View.readAt (Elt F) arg8.view (Rect.unit (s := S1152x128) (k0_off6 k (BitVec.ofNat 32 (4 * h.val)) (BitVec.ofNat 32 g.val)) S8x128.size (k0_off6_inb k h g)).toLoadRect
    (arg8.view.writes (Elt F) f8 (trip.sl.H8_2 c arg4 k f4))

theorem H9_1_eq : trip.sl.H9_1 c arg3 k f3 = ⟨Rect.unit (s := S4608x2x128) (k0_off4 k 0#32 0#32) S32x2x128.size (k0_off4_inb k 0 0), maxS (xg c arg3 k f3 0 0)⟩ :: [] := rfl
theorem H9_2_eq : trip.sl.H9_2 c arg3 k f3 = ⟨Rect.unit (s := S4608x2x128) (k0_off4 k 0#32 1#32) S32x2x128.size (k0_off4_inb k 0 1), maxS (xg c arg3 k f3 0 1)⟩ :: trip.sl.H9_1 c arg3 k f3 := rfl
theorem H9_3_eq : trip.sl.H9_3 c arg3 k f3 = ⟨Rect.unit (s := S4608x2x128) (k0_off4 k 0#32 2#32) S32x2x128.size (k0_off4_inb k 0 2), maxS (xg c arg3 k f3 0 2)⟩ :: trip.sl.H9_2 c arg3 k f3 := rfl
theorem H9_4_eq : trip.sl.H9_4 c arg3 k f3 = ⟨Rect.unit (s := S4608x2x128) (k0_off4 k 0#32 3#32) S32x2x128.size (k0_off4_inb k 0 3), maxS (xg c arg3 k f3 0 3)⟩ :: trip.sl.H9_3 c arg3 k f3 := rfl
theorem H9_5_eq : trip.sl.H9_5 c arg3 k f3 = ⟨Rect.unit (s := S4608x2x128) (k0_off4 k 4#32 0#32) S32x2x128.size (k0_off4_inb k 1 0), maxS (xg c arg3 k f3 1 0)⟩ :: trip.sl.H9_4 c arg3 k f3 := rfl
theorem H9_6_eq : trip.sl.H9_6 c arg3 k f3 = ⟨Rect.unit (s := S4608x2x128) (k0_off4 k 4#32 1#32) S32x2x128.size (k0_off4_inb k 1 1), maxS (xg c arg3 k f3 1 1)⟩ :: trip.sl.H9_5 c arg3 k f3 := rfl
theorem H9_7_eq : trip.sl.H9_7 c arg3 k f3 = ⟨Rect.unit (s := S4608x2x128) (k0_off4 k 4#32 2#32) S32x2x128.size (k0_off4_inb k 1 2), maxS (xg c arg3 k f3 1 2)⟩ :: trip.sl.H9_6 c arg3 k f3 := rfl
theorem H9_8_eq : trip.sl.H9_8 c arg3 k f3 = ⟨Rect.unit (s := S4608x2x128) (k0_off4 k 4#32 3#32) S32x2x128.size (k0_off4_inb k 1 3), maxS (xg c arg3 k f3 1 3)⟩ :: trip.sl.H9_7 c arg3 k f3 := rfl
/-- Group (0, 0)'s block scales before rounding. -/
abbrev gs00 : FVec F S8x128 .f32 := gscale (k0_pay3 v0) (gmax (trip.sl.v129_raw c arg3 arg9 k f3) (trip.sl.v134_raw c arg3 arg9 k f3) (trip.sl.v139_raw c arg3 arg9 k f3) (trip.sl.v144_raw c arg3 arg9 k f3)) (fg c arg4 arg8 k f4 f8 0 0)
/-- Group (0, 1)'s block scales before rounding. -/
abbrev gs01 : FVec F S8x128 .f32 := gscale (k0_pay3 v0) (gmax (trip.sl.v252_raw c arg3 arg9 k f3) (trip.sl.v257_raw c arg3 arg9 k f3) (trip.sl.v262_raw c arg3 arg9 k f3) (trip.sl.v267_raw c arg3 arg9 k f3)) (fg c arg4 arg8 k f4 f8 0 1)
/-- Group (0, 2)'s block scales before rounding. -/
abbrev gs02 : FVec F S8x128 .f32 := gscale (k0_pay3 v0) (gmax (trip.sl.v375_raw c arg3 arg9 k f3) (trip.sl.v380_raw c arg3 arg9 k f3) (trip.sl.v385_raw c arg3 arg9 k f3) (trip.sl.v390_raw c arg3 arg9 k f3)) (fg c arg4 arg8 k f4 f8 0 2)
/-- Group (0, 3)'s block scales before rounding. -/
abbrev gs03 : FVec F S8x128 .f32 := gscale (k0_pay3 v0) (gmax (trip.sl.v498_raw c arg3 arg9 k f3) (trip.sl.v503_raw c arg3 arg9 k f3) (trip.sl.v508_raw c arg3 arg9 k f3) (trip.sl.v513_raw c arg3 arg9 k f3)) (fg c arg4 arg8 k f4 f8 0 3)
abbrev bs0 : FVec F S32x128 .fp8e4m3 := cat4 (gs00 c arg3 arg4 arg8 arg9 v0 k f3 f4 f8) (gs01 c arg3 arg4 arg8 arg9 v0 k f3 f4 f8) (gs02 c arg3 arg4 arg8 arg9 v0 k f3 f4 f8) (gs03 c arg3 arg4 arg8 arg9 v0 k f3 f4 f8)
/-- Group (1, 0)'s block scales before rounding. -/
abbrev gs10 : FVec F S8x128 .f32 := gscale (k0_pay3 v0) (gmax (trip.sl.v1806_raw c arg3 arg9 k f3) (trip.sl.v1811_raw c arg3 arg9 k f3) (trip.sl.v1816_raw c arg3 arg9 k f3) (trip.sl.v1821_raw c arg3 arg9 k f3)) (fg c arg4 arg8 k f4 f8 1 0)
/-- Group (1, 1)'s block scales before rounding. -/
abbrev gs11 : FVec F S8x128 .f32 := gscale (k0_pay3 v0) (gmax (trip.sl.v1929_raw c arg3 arg9 k f3) (trip.sl.v1934_raw c arg3 arg9 k f3) (trip.sl.v1939_raw c arg3 arg9 k f3) (trip.sl.v1944_raw c arg3 arg9 k f3)) (fg c arg4 arg8 k f4 f8 1 1)
/-- Group (1, 2)'s block scales before rounding. -/
abbrev gs12 : FVec F S8x128 .f32 := gscale (k0_pay3 v0) (gmax (trip.sl.v2052_raw c arg3 arg9 k f3) (trip.sl.v2057_raw c arg3 arg9 k f3) (trip.sl.v2062_raw c arg3 arg9 k f3) (trip.sl.v2067_raw c arg3 arg9 k f3)) (fg c arg4 arg8 k f4 f8 1 2)
/-- Group (1, 3)'s block scales before rounding. -/
abbrev gs13 : FVec F S8x128 .f32 := gscale (k0_pay3 v0) (gmax (trip.sl.v2175_raw c arg3 arg9 k f3) (trip.sl.v2180_raw c arg3 arg9 k f3) (trip.sl.v2185_raw c arg3 arg9 k f3) (trip.sl.v2190_raw c arg3 arg9 k f3)) (fg c arg4 arg8 k f4 f8 1 3)
abbrev bs1 : FVec F S32x128 .fp8e4m3 := cat4 (gs10 c arg3 arg4 arg8 arg9 v0 k f3 f4 f8) (gs11 c arg3 arg4 arg8 arg9 v0 k f3 f4 f8) (gs12 c arg3 arg4 arg8 arg9 v0 k f3 f4 f8) (gs13 c arg3 arg4 arg8 arg9 v0 k f3 f4 f8)
theorem H6_1_eq : trip.sl.H6_1 c arg3 arg4 arg8 arg9 v0 k f3 f4 f8 = [⟨Rect.unit (s := S1x1152x128) (k0_off8 k 0#32) S1x32x128.size (k0_off8_inb k 0), shapeCast S1x32x128 (bs0 c arg3 arg4 arg8 arg9 v0 k f3 f4 f8) shapeCasts_S32x128_S1x32x128⟩] := rfl
theorem H6_2_eq : trip.sl.H6_2 c arg3 arg4 arg8 arg9 v0 k f3 f4 f8 = ⟨Rect.unit (s := S1x1152x128) (k0_off8 k 32#32) S1x32x128.size (k0_off8_inb k 1), shapeCast S1x32x128 (bs1 c arg3 arg4 arg8 arg9 v0 k f3 f4 f8) shapeCasts_S32x128_S1x32x128⟩ :: trip.sl.H6_1 c arg3 arg4 arg8 arg9 v0 k f3 f4 f8 := rfl
abbrev ef00 : FVec F S8x128 .f32 := effOf (k0_pay1 v0) ![0, 0] slices_S32x128_o0_0_S8x128 (bs0 c arg3 arg4 arg8 arg9 v0 k f3 f4 f8)
abbrev rw00 : FVec F S8x128 .f32 := mult (ef00 c arg3 arg4 arg8 arg9 v0 k f3 f4 f8) (fg c arg4 arg8 k f4 f8 0 0)
theorem H10_4_eq : trip.sl.H10_4 c arg3 arg4 arg8 arg9 v0 k f3 f4 f8 = ⟨{ off := k0_off5 k 0#32 0#32 3#32, size := S8x2x128.size, stride := ![4, 1, 1], inb := k0_off5_inb k 0 0 3, stride_pos := spos_4_1_1 }, multS (rw00 c arg3 arg4 arg8 arg9 v0 k f3 f4 f8)⟩ :: ⟨{ off := k0_off5 k 0#32 0#32 2#32, size := S8x2x128.size, stride := ![4, 1, 1], inb := k0_off5_inb k 0 0 2, stride_pos := spos_4_1_1 }, multS (rw00 c arg3 arg4 arg8 arg9 v0 k f3 f4 f8)⟩ :: ⟨{ off := k0_off5 k 0#32 0#32 1#32, size := S8x2x128.size, stride := ![4, 1, 1], inb := k0_off5_inb k 0 0 1, stride_pos := spos_4_1_1 }, multS (rw00 c arg3 arg4 arg8 arg9 v0 k f3 f4 f8)⟩ :: ⟨{ off := k0_off5 k 0#32 0#32 0#32, size := S8x2x128.size, stride := ![4, 1, 1], inb := k0_off5_inb k 0 0 0, stride_pos := spos_4_1_1 }, multS (rw00 c arg3 arg4 arg8 arg9 v0 k f3 f4 f8)⟩ :: [] := rfl
abbrev rr00 : Vec F S32x2x128 .bf16 :=
  View.readAt (Elt F) arg10.view (Rect.unit (s := S4608x2x128) (k0_off4 k 0#32 0#32) S32x2x128.size (k0_off4_inb k 0 0)).toLoadRect (arg10.view.writes (Elt F) f10 (trip.sl.H10_4 c arg3 arg4 arg8 arg9 v0 k f3 f4 f8))
theorem H5_1_eq : trip.sl.H5_1 c arg3 arg4 arg8 arg9 arg10 v0 k f3 f4 f8 f10 = ⟨Rect.unit (s := S1x9216x128) (k0_off3 k 0#32 0#32) S1x64x128.size (k0_off3_inb k 0 0), codes (xg c arg3 k f3 0 0) (rr00 c arg3 arg4 arg8 arg9 arg10 v0 k f3 f4 f8 f10)⟩ :: [] := rfl
abbrev ef01 : FVec F S8x128 .f32 := effOf (k0_pay1 v0) ![8, 0] slices_S32x128_o8_0_S8x128 (bs0 c arg3 arg4 arg8 arg9 v0 k f3 f4 f8)
abbrev rw01 : FVec F S8x128 .f32 := mult (ef01 c arg3 arg4 arg8 arg9 v0 k f3 f4 f8) (fg c arg4 arg8 k f4 f8 0 1)
theorem H10_8_eq : trip.sl.H10_8 c arg3 arg4 arg8 arg9 v0 k f3 f4 f8 = ⟨{ off := k0_off5 k 0#32 1#32 3#32, size := S8x2x128.size, stride := ![4, 1, 1], inb := k0_off5_inb k 0 1 3, stride_pos := spos_4_1_1 }, multS (rw01 c arg3 arg4 arg8 arg9 v0 k f3 f4 f8)⟩ :: ⟨{ off := k0_off5 k 0#32 1#32 2#32, size := S8x2x128.size, stride := ![4, 1, 1], inb := k0_off5_inb k 0 1 2, stride_pos := spos_4_1_1 }, multS (rw01 c arg3 arg4 arg8 arg9 v0 k f3 f4 f8)⟩ :: ⟨{ off := k0_off5 k 0#32 1#32 1#32, size := S8x2x128.size, stride := ![4, 1, 1], inb := k0_off5_inb k 0 1 1, stride_pos := spos_4_1_1 }, multS (rw01 c arg3 arg4 arg8 arg9 v0 k f3 f4 f8)⟩ :: ⟨{ off := k0_off5 k 0#32 1#32 0#32, size := S8x2x128.size, stride := ![4, 1, 1], inb := k0_off5_inb k 0 1 0, stride_pos := spos_4_1_1 }, multS (rw01 c arg3 arg4 arg8 arg9 v0 k f3 f4 f8)⟩ :: trip.sl.H10_4 c arg3 arg4 arg8 arg9 v0 k f3 f4 f8 := rfl
abbrev rr01 : Vec F S32x2x128 .bf16 :=
  View.readAt (Elt F) arg10.view (Rect.unit (s := S4608x2x128) (k0_off4 k 0#32 1#32) S32x2x128.size (k0_off4_inb k 0 1)).toLoadRect (arg10.view.writes (Elt F) f10 (trip.sl.H10_8 c arg3 arg4 arg8 arg9 v0 k f3 f4 f8))
theorem H5_2_eq : trip.sl.H5_2 c arg3 arg4 arg8 arg9 arg10 v0 k f3 f4 f8 f10 = ⟨Rect.unit (s := S1x9216x128) (k0_off3 k 0#32 1#32) S1x64x128.size (k0_off3_inb k 0 1), codes (xg c arg3 k f3 0 1) (rr01 c arg3 arg4 arg8 arg9 arg10 v0 k f3 f4 f8 f10)⟩ :: trip.sl.H5_1 c arg3 arg4 arg8 arg9 arg10 v0 k f3 f4 f8 f10 := rfl
abbrev ef02 : FVec F S8x128 .f32 := effOf (k0_pay1 v0) ![16, 0] slices_S32x128_o16_0_S8x128 (bs0 c arg3 arg4 arg8 arg9 v0 k f3 f4 f8)
abbrev rw02 : FVec F S8x128 .f32 := mult (ef02 c arg3 arg4 arg8 arg9 v0 k f3 f4 f8) (fg c arg4 arg8 k f4 f8 0 2)
theorem H10_12_eq : trip.sl.H10_12 c arg3 arg4 arg8 arg9 v0 k f3 f4 f8 = ⟨{ off := k0_off5 k 0#32 2#32 3#32, size := S8x2x128.size, stride := ![4, 1, 1], inb := k0_off5_inb k 0 2 3, stride_pos := spos_4_1_1 }, multS (rw02 c arg3 arg4 arg8 arg9 v0 k f3 f4 f8)⟩ :: ⟨{ off := k0_off5 k 0#32 2#32 2#32, size := S8x2x128.size, stride := ![4, 1, 1], inb := k0_off5_inb k 0 2 2, stride_pos := spos_4_1_1 }, multS (rw02 c arg3 arg4 arg8 arg9 v0 k f3 f4 f8)⟩ :: ⟨{ off := k0_off5 k 0#32 2#32 1#32, size := S8x2x128.size, stride := ![4, 1, 1], inb := k0_off5_inb k 0 2 1, stride_pos := spos_4_1_1 }, multS (rw02 c arg3 arg4 arg8 arg9 v0 k f3 f4 f8)⟩ :: ⟨{ off := k0_off5 k 0#32 2#32 0#32, size := S8x2x128.size, stride := ![4, 1, 1], inb := k0_off5_inb k 0 2 0, stride_pos := spos_4_1_1 }, multS (rw02 c arg3 arg4 arg8 arg9 v0 k f3 f4 f8)⟩ :: trip.sl.H10_8 c arg3 arg4 arg8 arg9 v0 k f3 f4 f8 := rfl
abbrev rr02 : Vec F S32x2x128 .bf16 :=
  View.readAt (Elt F) arg10.view (Rect.unit (s := S4608x2x128) (k0_off4 k 0#32 2#32) S32x2x128.size (k0_off4_inb k 0 2)).toLoadRect (arg10.view.writes (Elt F) f10 (trip.sl.H10_12 c arg3 arg4 arg8 arg9 v0 k f3 f4 f8))
theorem H5_3_eq : trip.sl.H5_3 c arg3 arg4 arg8 arg9 arg10 v0 k f3 f4 f8 f10 = ⟨Rect.unit (s := S1x9216x128) (k0_off3 k 0#32 2#32) S1x64x128.size (k0_off3_inb k 0 2), codes (xg c arg3 k f3 0 2) (rr02 c arg3 arg4 arg8 arg9 arg10 v0 k f3 f4 f8 f10)⟩ :: trip.sl.H5_2 c arg3 arg4 arg8 arg9 arg10 v0 k f3 f4 f8 f10 := rfl
abbrev ef03 : FVec F S8x128 .f32 := effOf (k0_pay1 v0) ![24, 0] slices_S32x128_o24_0_S8x128 (bs0 c arg3 arg4 arg8 arg9 v0 k f3 f4 f8)
abbrev rw03 : FVec F S8x128 .f32 := mult (ef03 c arg3 arg4 arg8 arg9 v0 k f3 f4 f8) (fg c arg4 arg8 k f4 f8 0 3)
theorem H10_16_eq : trip.sl.H10_16 c arg3 arg4 arg8 arg9 v0 k f3 f4 f8 = ⟨{ off := k0_off5 k 0#32 3#32 3#32, size := S8x2x128.size, stride := ![4, 1, 1], inb := k0_off5_inb k 0 3 3, stride_pos := spos_4_1_1 }, multS (rw03 c arg3 arg4 arg8 arg9 v0 k f3 f4 f8)⟩ :: ⟨{ off := k0_off5 k 0#32 3#32 2#32, size := S8x2x128.size, stride := ![4, 1, 1], inb := k0_off5_inb k 0 3 2, stride_pos := spos_4_1_1 }, multS (rw03 c arg3 arg4 arg8 arg9 v0 k f3 f4 f8)⟩ :: ⟨{ off := k0_off5 k 0#32 3#32 1#32, size := S8x2x128.size, stride := ![4, 1, 1], inb := k0_off5_inb k 0 3 1, stride_pos := spos_4_1_1 }, multS (rw03 c arg3 arg4 arg8 arg9 v0 k f3 f4 f8)⟩ :: ⟨{ off := k0_off5 k 0#32 3#32 0#32, size := S8x2x128.size, stride := ![4, 1, 1], inb := k0_off5_inb k 0 3 0, stride_pos := spos_4_1_1 }, multS (rw03 c arg3 arg4 arg8 arg9 v0 k f3 f4 f8)⟩ :: trip.sl.H10_12 c arg3 arg4 arg8 arg9 v0 k f3 f4 f8 := rfl
abbrev rr03 : Vec F S32x2x128 .bf16 :=
  View.readAt (Elt F) arg10.view (Rect.unit (s := S4608x2x128) (k0_off4 k 0#32 3#32) S32x2x128.size (k0_off4_inb k 0 3)).toLoadRect (arg10.view.writes (Elt F) f10 (trip.sl.H10_16 c arg3 arg4 arg8 arg9 v0 k f3 f4 f8))
theorem H5_4_eq : trip.sl.H5_4 c arg3 arg4 arg8 arg9 arg10 v0 k f3 f4 f8 f10 = ⟨Rect.unit (s := S1x9216x128) (k0_off3 k 0#32 3#32) S1x64x128.size (k0_off3_inb k 0 3), codes (xg c arg3 k f3 0 3) (rr03 c arg3 arg4 arg8 arg9 arg10 v0 k f3 f4 f8 f10)⟩ :: trip.sl.H5_3 c arg3 arg4 arg8 arg9 arg10 v0 k f3 f4 f8 f10 := rfl
abbrev ef10 : FVec F S8x128 .f32 := effOf (k0_pay1 v0) ![0, 0] slices_S32x128_o0_0_S8x128 (bs1 c arg3 arg4 arg8 arg9 v0 k f3 f4 f8)
abbrev rw10 : FVec F S8x128 .f32 := mult (ef10 c arg3 arg4 arg8 arg9 v0 k f3 f4 f8) (fg c arg4 arg8 k f4 f8 1 0)
theorem H10_20_eq : trip.sl.H10_20 c arg3 arg4 arg8 arg9 v0 k f3 f4 f8 = ⟨{ off := k0_off5 k 4#32 0#32 3#32, size := S8x2x128.size, stride := ![4, 1, 1], inb := k0_off5_inb k 1 0 3, stride_pos := spos_4_1_1 }, multS (rw10 c arg3 arg4 arg8 arg9 v0 k f3 f4 f8)⟩ :: ⟨{ off := k0_off5 k 4#32 0#32 2#32, size := S8x2x128.size, stride := ![4, 1, 1], inb := k0_off5_inb k 1 0 2, stride_pos := spos_4_1_1 }, multS (rw10 c arg3 arg4 arg8 arg9 v0 k f3 f4 f8)⟩ :: ⟨{ off := k0_off5 k 4#32 0#32 1#32, size := S8x2x128.size, stride := ![4, 1, 1], inb := k0_off5_inb k 1 0 1, stride_pos := spos_4_1_1 }, multS (rw10 c arg3 arg4 arg8 arg9 v0 k f3 f4 f8)⟩ :: ⟨{ off := k0_off5 k 4#32 0#32 0#32, size := S8x2x128.size, stride := ![4, 1, 1], inb := k0_off5_inb k 1 0 0, stride_pos := spos_4_1_1 }, multS (rw10 c arg3 arg4 arg8 arg9 v0 k f3 f4 f8)⟩ :: trip.sl.H10_16 c arg3 arg4 arg8 arg9 v0 k f3 f4 f8 := rfl
abbrev rr10 : Vec F S32x2x128 .bf16 :=
  View.readAt (Elt F) arg10.view (Rect.unit (s := S4608x2x128) (k0_off4 k 4#32 0#32) S32x2x128.size (k0_off4_inb k 1 0)).toLoadRect (arg10.view.writes (Elt F) f10 (trip.sl.H10_20 c arg3 arg4 arg8 arg9 v0 k f3 f4 f8))
theorem H5_5_eq : trip.sl.H5_5 c arg3 arg4 arg8 arg9 arg10 v0 k f3 f4 f8 f10 = ⟨Rect.unit (s := S1x9216x128) (k0_off3 k 4#32 0#32) S1x64x128.size (k0_off3_inb k 1 0), codes (xg c arg3 k f3 1 0) (rr10 c arg3 arg4 arg8 arg9 arg10 v0 k f3 f4 f8 f10)⟩ :: trip.sl.H5_4 c arg3 arg4 arg8 arg9 arg10 v0 k f3 f4 f8 f10 := rfl
abbrev ef11 : FVec F S8x128 .f32 := effOf (k0_pay1 v0) ![8, 0] slices_S32x128_o8_0_S8x128 (bs1 c arg3 arg4 arg8 arg9 v0 k f3 f4 f8)
abbrev rw11 : FVec F S8x128 .f32 := mult (ef11 c arg3 arg4 arg8 arg9 v0 k f3 f4 f8) (fg c arg4 arg8 k f4 f8 1 1)
theorem H10_24_eq : trip.sl.H10_24 c arg3 arg4 arg8 arg9 v0 k f3 f4 f8 = ⟨{ off := k0_off5 k 4#32 1#32 3#32, size := S8x2x128.size, stride := ![4, 1, 1], inb := k0_off5_inb k 1 1 3, stride_pos := spos_4_1_1 }, multS (rw11 c arg3 arg4 arg8 arg9 v0 k f3 f4 f8)⟩ :: ⟨{ off := k0_off5 k 4#32 1#32 2#32, size := S8x2x128.size, stride := ![4, 1, 1], inb := k0_off5_inb k 1 1 2, stride_pos := spos_4_1_1 }, multS (rw11 c arg3 arg4 arg8 arg9 v0 k f3 f4 f8)⟩ :: ⟨{ off := k0_off5 k 4#32 1#32 1#32, size := S8x2x128.size, stride := ![4, 1, 1], inb := k0_off5_inb k 1 1 1, stride_pos := spos_4_1_1 }, multS (rw11 c arg3 arg4 arg8 arg9 v0 k f3 f4 f8)⟩ :: ⟨{ off := k0_off5 k 4#32 1#32 0#32, size := S8x2x128.size, stride := ![4, 1, 1], inb := k0_off5_inb k 1 1 0, stride_pos := spos_4_1_1 }, multS (rw11 c arg3 arg4 arg8 arg9 v0 k f3 f4 f8)⟩ :: trip.sl.H10_20 c arg3 arg4 arg8 arg9 v0 k f3 f4 f8 := rfl
abbrev rr11 : Vec F S32x2x128 .bf16 :=
  View.readAt (Elt F) arg10.view (Rect.unit (s := S4608x2x128) (k0_off4 k 4#32 1#32) S32x2x128.size (k0_off4_inb k 1 1)).toLoadRect (arg10.view.writes (Elt F) f10 (trip.sl.H10_24 c arg3 arg4 arg8 arg9 v0 k f3 f4 f8))
theorem H5_6_eq : trip.sl.H5_6 c arg3 arg4 arg8 arg9 arg10 v0 k f3 f4 f8 f10 = ⟨Rect.unit (s := S1x9216x128) (k0_off3 k 4#32 1#32) S1x64x128.size (k0_off3_inb k 1 1), codes (xg c arg3 k f3 1 1) (rr11 c arg3 arg4 arg8 arg9 arg10 v0 k f3 f4 f8 f10)⟩ :: trip.sl.H5_5 c arg3 arg4 arg8 arg9 arg10 v0 k f3 f4 f8 f10 := rfl
abbrev ef12 : FVec F S8x128 .f32 := effOf (k0_pay1 v0) ![16, 0] slices_S32x128_o16_0_S8x128 (bs1 c arg3 arg4 arg8 arg9 v0 k f3 f4 f8)
abbrev rw12 : FVec F S8x128 .f32 := mult (ef12 c arg3 arg4 arg8 arg9 v0 k f3 f4 f8) (fg c arg4 arg8 k f4 f8 1 2)
theorem H10_28_eq : trip.sl.H10_28 c arg3 arg4 arg8 arg9 v0 k f3 f4 f8 = ⟨{ off := k0_off5 k 4#32 2#32 3#32, size := S8x2x128.size, stride := ![4, 1, 1], inb := k0_off5_inb k 1 2 3, stride_pos := spos_4_1_1 }, multS (rw12 c arg3 arg4 arg8 arg9 v0 k f3 f4 f8)⟩ :: ⟨{ off := k0_off5 k 4#32 2#32 2#32, size := S8x2x128.size, stride := ![4, 1, 1], inb := k0_off5_inb k 1 2 2, stride_pos := spos_4_1_1 }, multS (rw12 c arg3 arg4 arg8 arg9 v0 k f3 f4 f8)⟩ :: ⟨{ off := k0_off5 k 4#32 2#32 1#32, size := S8x2x128.size, stride := ![4, 1, 1], inb := k0_off5_inb k 1 2 1, stride_pos := spos_4_1_1 }, multS (rw12 c arg3 arg4 arg8 arg9 v0 k f3 f4 f8)⟩ :: ⟨{ off := k0_off5 k 4#32 2#32 0#32, size := S8x2x128.size, stride := ![4, 1, 1], inb := k0_off5_inb k 1 2 0, stride_pos := spos_4_1_1 }, multS (rw12 c arg3 arg4 arg8 arg9 v0 k f3 f4 f8)⟩ :: trip.sl.H10_24 c arg3 arg4 arg8 arg9 v0 k f3 f4 f8 := rfl
abbrev rr12 : Vec F S32x2x128 .bf16 :=
  View.readAt (Elt F) arg10.view (Rect.unit (s := S4608x2x128) (k0_off4 k 4#32 2#32) S32x2x128.size (k0_off4_inb k 1 2)).toLoadRect (arg10.view.writes (Elt F) f10 (trip.sl.H10_28 c arg3 arg4 arg8 arg9 v0 k f3 f4 f8))
theorem H5_7_eq : trip.sl.H5_7 c arg3 arg4 arg8 arg9 arg10 v0 k f3 f4 f8 f10 = ⟨Rect.unit (s := S1x9216x128) (k0_off3 k 4#32 2#32) S1x64x128.size (k0_off3_inb k 1 2), codes (xg c arg3 k f3 1 2) (rr12 c arg3 arg4 arg8 arg9 arg10 v0 k f3 f4 f8 f10)⟩ :: trip.sl.H5_6 c arg3 arg4 arg8 arg9 arg10 v0 k f3 f4 f8 f10 := rfl
abbrev ef13 : FVec F S8x128 .f32 := effOf (k0_pay1 v0) ![24, 0] slices_S32x128_o24_0_S8x128 (bs1 c arg3 arg4 arg8 arg9 v0 k f3 f4 f8)
abbrev rw13 : FVec F S8x128 .f32 := mult (ef13 c arg3 arg4 arg8 arg9 v0 k f3 f4 f8) (fg c arg4 arg8 k f4 f8 1 3)
theorem H10_32_eq : trip.sl.H10_32 c arg3 arg4 arg8 arg9 v0 k f3 f4 f8 = ⟨{ off := k0_off5 k 4#32 3#32 3#32, size := S8x2x128.size, stride := ![4, 1, 1], inb := k0_off5_inb k 1 3 3, stride_pos := spos_4_1_1 }, multS (rw13 c arg3 arg4 arg8 arg9 v0 k f3 f4 f8)⟩ :: ⟨{ off := k0_off5 k 4#32 3#32 2#32, size := S8x2x128.size, stride := ![4, 1, 1], inb := k0_off5_inb k 1 3 2, stride_pos := spos_4_1_1 }, multS (rw13 c arg3 arg4 arg8 arg9 v0 k f3 f4 f8)⟩ :: ⟨{ off := k0_off5 k 4#32 3#32 1#32, size := S8x2x128.size, stride := ![4, 1, 1], inb := k0_off5_inb k 1 3 1, stride_pos := spos_4_1_1 }, multS (rw13 c arg3 arg4 arg8 arg9 v0 k f3 f4 f8)⟩ :: ⟨{ off := k0_off5 k 4#32 3#32 0#32, size := S8x2x128.size, stride := ![4, 1, 1], inb := k0_off5_inb k 1 3 0, stride_pos := spos_4_1_1 }, multS (rw13 c arg3 arg4 arg8 arg9 v0 k f3 f4 f8)⟩ :: trip.sl.H10_28 c arg3 arg4 arg8 arg9 v0 k f3 f4 f8 := rfl
abbrev rr13 : Vec F S32x2x128 .bf16 :=
  View.readAt (Elt F) arg10.view (Rect.unit (s := S4608x2x128) (k0_off4 k 4#32 3#32) S32x2x128.size (k0_off4_inb k 1 3)).toLoadRect (arg10.view.writes (Elt F) f10 (trip.sl.H10_32 c arg3 arg4 arg8 arg9 v0 k f3 f4 f8))
theorem H5_8_eq : (⟨Rect.unit (s := S1x9216x128) (k0_off3 k 4#32 3#32) S1x64x128.size (k0_off3_inb k 1 3), k0_pay4 (trip.sl.r_184 c arg3 arg4 arg8 arg9 arg10 v0 k f3 f4 f8 f10)⟩ :: trip.sl.H5_7 c arg3 arg4 arg8 arg9 arg10 v0 k f3 f4 f8 f10 : List (View.Piece (Elt F) S1x9216x128 .i8)) = ⟨Rect.unit (s := S1x9216x128) (k0_off3 k 4#32 3#32) S1x64x128.size (k0_off3_inb k 1 3), codes (xg c arg3 k f3 1 3) (rr13 c arg3 arg4 arg8 arg9 arg10 v0 k f3 f4 f8 f10)⟩ :: trip.sl.H5_7 c arg3 arg4 arg8 arg9 arg10 v0 k f3 f4 f8 f10 := rfl
end Cert.Proof.KernelIdeal
-- ==== Proof.Reads.lean ====
module

public import proofs.«01_k».proof.Proof.TripPieces
public import Idealize.ShloMosaic.Lib.Pointwise
public import Idealize.ShloMosaic.Lib.WritesUnit
public import Idealize.ShloMosaic.Lib.ValueLayout

/-! What the loads of a trip read back from the scratch buffers. -/

@[expose] public section

set_option maxRecDepth 65536
set_option maxHeartbeats 1000000

noncomputable section

namespace Cert.Proof.KernelIdeal

open Cert.KernelIdeal Cert.KernelIdeal.Gen
open Idealize.ShloMosaic Idealize.ShloMosaic.TcCoe

variable {F : FTy → Type} [FloatOps F] [∀ e, Nonempty (Elt F e)]

/-- Group `(h, g)` of trip `k`, counted from the block's first. -/
def gi (k : Fin k0_t1_loop.trips) (h : Fin 2) (g : Fin 4) : ℕ := k.val * 8 + 4 * h.val + g.val

abbrev hw (h : Fin 2) : BitVec 32 := BitVec.ofNat 32 (4 * h.val)
abbrev gw (g : Fin 4) : BitVec 32 := BitVec.ofNat 32 g.val

theorem off3_eq : ∀ (k : Fin k0_t1_loop.trips) (h : Fin 2) (g : Fin 4), k0_off3 k (hw h) (gw g) = ![0, gi k h g * 64, 0] := by decide +kernel
theorem off4_eq : ∀ (k : Fin k0_t1_loop.trips) (h : Fin 2) (g : Fin 4), k0_off4 k (hw h) (gw g) = ![gi k h g * 32, 0, 0] := by decide +kernel
theorem off5_eq : ∀ (k : Fin k0_t1_loop.trips) (h : Fin 2) (g b : Fin 4), k0_off5 k (hw h) (gw g) (gw b) = ![gi k h g * 32 + b.val, 0, 0] := by decide +kernel
theorem off6_eq : ∀ (k : Fin k0_t1_loop.trips) (h : Fin 2) (g : Fin 4), k0_off6 k (hw h) (gw g) = ![gi k h g * 8, 0] := by decide +kernel
theorem off8_eq : ∀ (k : Fin k0_t1_loop.trips) (h : Fin 2), k0_off8 k (BitVec.ofNat 32 (32 * h.val)) = ![0, k.val * 64 + 32 * h.val, 0] := by decide +kernel
theorem off1_eq : ∀ (k : Fin k0_t1_loop.trips), k0_off1 k = ![k.val * 32, 0] := by decide +kernel
theorem off2_eq : ∀ (k : Fin k0_t1_loop.trips) (p : Fin 2), k0_off2 k (BitVec.ofNat 32 p.val) = ![k.val * 64 + p.val, 0] := by decide +kernel

variable (c : Dev nD) (arg3 : Memref sig .tc .vmem S1x9216x128 .i8) (arg4 : Memref sig .tc .vmem S1x576x128 .i8)
    (arg8 : Memref sig .tc .vmem S1152x128 .f32) (arg9 arg10 : Memref sig .tc .vmem S4608x2x128 .bf16) (v0 : Elt F .f32) (k : Fin k0_t1_loop.trips)
    (f3 : Bf (F := F) c arg3) (f4 : Bf (F := F) c arg4) (f8 : Bf (F := F) c arg8) (f10 : Bf (F := F) c arg10)

theorem gi_lt (h : Fin 2) (g : Fin 4) : gi k h g < 144 := by
  have : k.val < 18 := k.isLt
  unfold gi; omega

/-- A group's byte rows are the block's. -/
theorem xg_apply (h : Fin 2) (g : Fin 4) (a : Fin 1) (r : Fin 64) (l : Fin 128) :
    xg c arg3 k f3 h g (ix3 a r l) = arg3.view.read (Elt F) f3 (ix3 (0 : Fin 1) ⟨gi k h g * 64 + r.val, by have := gi_lt k h g; omega⟩ l) := by
  unfold xg
  rw [View.readAt_apply]
  congr 1
  funext q
  apply Fin.ext
  have e := off3_eq k h g
  fin_cases q
  · show k0_off3 k (hw h) (gw g) 0 + 1 * a.val = 0
    rw [e]; simp
  · show k0_off3 k (hw h) (gw g) 1 + 1 * r.val = gi k h g * 64 + r.val
    rw [e]; simp
  · show k0_off3 k (hw h) (gw g) 2 + 1 * l.val = l.val
    rw [e]; simp

/-- A strided load of the group just stored reads every fourth row of it. -/
theorem raw_apply (h : Fin 2) (g b : Fin 4) (w : Vec F S32x2x128 .bf16) (L : List (View.Piece (Elt F) S4608x2x128 .bf16))
    (B : LoadRect S4608x2x128) (hB : B = { off := k0_off5 k (hw h) (gw g) (gw b), size := S8x2x128.size, stride := ![4, 1, 1], inb := k0_off5_inb k h g b })
    (i : Fin 8) (p : Fin 2) (l : Fin 128) :
    arg9.view.readCov (⟨Rect.unit (s := S4608x2x128) (k0_off4 k (hw h) (gw g)) S32x2x128.size (k0_off4_inb k h g), w⟩ :: L)
      { off := k0_off5 k (hw h) (gw g) (gw b), size := S8x2x128.size, stride := ![4, 1, 1], inb := k0_off5_inb k h g b } (ix3 i p l)
      = w (ix3 (⟨4 * i.val + b.val, by omega⟩ : Fin 32) p l) := by
  unfold View.readCov
  rw [View.readAt_apply]
  apply View.read_writes_cons_unit_of_mem _ _ _ _ _ _ _ (off4_eq k h g)
  have e := off5_eq k h g b
  intro q
  fin_cases q
  · show k0_off5 k (hw h) (gw g) (gw b) 0 + 4 * i.val = gi k h g * 32 + (4 * i.val + b.val)
    rw [e]; simp; omega
  · show k0_off5 k (hw h) (gw g) (gw b) 1 + 1 * p.val = 0 + p.val
    rw [e]; simp
  · show k0_off5 k (hw h) (gw g) (gw b) 2 + 1 * l.val = 0 + l.val
    rw [e]; simp

/-- The four strided stores of one multiplier fill the group's rows. -/
theorem rr_apply (h : Fin 2) (g : Fin 4) (w : Vec F S8x2x128 .bf16) (L : List (View.Piece (Elt F) S4608x2x128 .bf16)) (i : Fin 32) (p : Fin 2) (l : Fin 128) :
    View.readAt (Elt F) arg10.view (Rect.unit (s := S4608x2x128) (k0_off4 k (hw h) (gw g)) S32x2x128.size (k0_off4_inb k h g)).toLoadRect
      (arg10.view.writes (Elt F) f10
        (⟨{ off := k0_off5 k (hw h) (gw g) 3#32, size := S8x2x128.size, stride := ![4, 1, 1], inb := k0_off5_inb k h g 3, stride_pos := spos_4_1_1 }, w⟩
          :: ⟨{ off := k0_off5 k (hw h) (gw g) 2#32, size := S8x2x128.size, stride := ![4, 1, 1], inb := k0_off5_inb k h g 2, stride_pos := spos_4_1_1 }, w⟩
          :: ⟨{ off := k0_off5 k (hw h) (gw g) 1#32, size := S8x2x128.size, stride := ![4, 1, 1], inb := k0_off5_inb k h g 1, stride_pos := spos_4_1_1 }, w⟩
          :: ⟨{ off := k0_off5 k (hw h) (gw g) 0#32, size := S8x2x128.size, stride := ![4, 1, 1], inb := k0_off5_inb k h g 0, stride_pos := spos_4_1_1 }, w⟩ :: L)) (ix3 i p l)
      = w (ix3 (⟨i.val / 4, by omega⟩ : Fin 8) p l) := by
  rw [View.readAt_apply]
  have miss : ∀ (b : Fin 4) (P : List (View.Piece (Elt F) S4608x2x128 .bf16)) (y : S4608x2x128.Idx), (y 0).val = gi k h g * 32 + i.val → i.val % 4 ≠ b.val →
      arg10.view.read (Elt F) (arg10.view.writes (Elt F) f10 (⟨{ off := k0_off5 k (hw h) (gw g) (gw b), size := S8x2x128.size, stride := ![4, 1, 1], inb := k0_off5_inb k h g b, stride_pos := spos_4_1_1 }, w⟩ :: P)) y
        = arg10.view.read (Elt F) (arg10.view.writes (Elt F) f10 P) y := by
    intro b P y hy hb
    apply View.read_writes_cons_miss
    intro hm
    obtain ⟨j, hj, hj'⟩ := (LoadRect.mem_set _).mp hm 0
    have e := off5_eq k h g b
    have hj2 : (y 0).val = k0_off5 k (hw h) (gw g) (gw b) 0 + 4 * j := hj'
    rw [e, hy] at hj2
    have : i.val = b.val + 4 * j := by simp at hj2; omega
    omega
  have hit : ∀ (b : Fin 4) (P : List (View.Piece (Elt F) S4608x2x128 .bf16)) (y : S4608x2x128.Idx), (y 0).val = gi k h g * 32 + i.val → (y 1).val = p.val → (y 2).val = l.val → i.val % 4 = b.val →
      arg10.view.read (Elt F) (arg10.view.writes (Elt F) f10 (⟨{ off := k0_off5 k (hw h) (gw g) (gw b), size := S8x2x128.size, stride := ![4, 1, 1], inb := k0_off5_inb k h g b, stride_pos := spos_4_1_1 }, w⟩ :: P)) y
        = w (ix3 (⟨i.val / 4, by omega⟩ : Fin 8) p l) := by
    intro b P y hy h1 h2 hb
    apply View.read_writes_cons_hit_of_coords
    have e := off5_eq k h g b
    intro q
    fin_cases q
    · show (y 0).val = k0_off5 k (hw h) (gw g) (gw b) 0 + 4 * (i.val / 4)
      rw [e, hy]; simp; omega
    · show (y 1).val = k0_off5 k (hw h) (gw g) (gw b) 1 + 1 * p.val
      rw [e, h1]; simp
    · show (y 2).val = k0_off5 k (hw h) (gw g) (gw b) 2 + 1 * l.val
      rw [e, h2]; simp
  have e := off4_eq k h g
  have y0 : ((Rect.unit (s := S4608x2x128) (k0_off4 k (hw h) (gw g)) S32x2x128.size (k0_off4_inb k h g)).toLoadRect.idx (ix3 i p l) 0).val = gi k h g * 32 + i.val := by
    show k0_off4 k (hw h) (gw g) 0 + 1 * i.val = _
    rw [e]; simp
  have y1 : ((Rect.unit (s := S4608x2x128) (k0_off4 k (hw h) (gw g)) S32x2x128.size (k0_off4_inb k h g)).toLoadRect.idx (ix3 i p l) 1).val = p.val := by
    show k0_off4 k (hw h) (gw g) 1 + 1 * p.val = _
    rw [e]; simp
  have y2 : ((Rect.unit (s := S4608x2x128) (k0_off4 k (hw h) (gw g)) S32x2x128.size (k0_off4_inb k h g)).toLoadRect.idx (ix3 i p l) 2).val = l.val := by
    show k0_off4 k (hw h) (gw g) 2 + 1 * l.val = _
    rw [e]; simp
  generalize (Rect.unit (s := S4608x2x128) (k0_off4 k (hw h) (gw g)) S32x2x128.size (k0_off4_inb k h g)).toLoadRect.idx (ix3 i p l) = y at y0 y1 y2
  by_cases h3 : i.val % 4 = 3
  · exact hit 3 _ y y0 y1 y2 h3
  refine (miss 3 _ y y0 h3).trans ?_
  by_cases h2 : i.val % 4 = 2
  · exact hit 2 _ y y0 y1 y2 h2
  refine (miss 2 _ y y0 h2).trans ?_
  by_cases h1 : i.val % 4 = 1
  · exact hit 1 _ y y0 y1 y2 h1
  refine (miss 1 _ y y0 h1).trans ?_
  exact hit 0 _ y y0 y1 y2 (by show _ = 0; omega)

/-- A block's scale factor from the exponent byte. -/
def fac (e : BitVec 8) : F .f32 := Scalar.ofBits .f32 ((e.zeroExtend 32) <<< 23)

theorem vix2 {a b : ℕ} (i : Fin a) (j : Fin b) : ValueIdx.ix2 i j = ix2 i j := by
  funext q; fin_cases q <;> rfl
theorem vix3 {a b c : ℕ} (i : Fin a) (j : Fin b) (k : Fin c) : ValueIdx.ix3 i j k = ix3 i j k := by
  funext q; fin_cases q <;> rfl

theorem v13_apply (r : Fin 32) (l : Fin 128) :
    trip.sl.v13 c arg4 k f4 (ix2 r l) = arg4.view.read (Elt F) f4 (ix3 (0 : Fin 1) ⟨k.val * 32 + r.val, by have : k.val < 18 := k.isLt; omega⟩ l) := by
  unfold trip.sl.v13
  rw [View.readAt_apply]
  refine (congrFun (Memref.read_squeeze_slice arg4 (Rect.unit (s := S1x576x128) ![0, 0, 0] S1x576x128.size inb_S1x576x128_S1x576x128_0_0_0) (fun _ => rfl) squeezes_S1x576x128_S576x128 (by decide) f4) _).trans ?_
  have hk : k.val < 18 := k.isLt
  have e : (Rect.unit (s := S576x128) (k0_off1 k) S32x128.size (k0_off1_inb k)).toLoadRect.idx (ix2 r l) = ix2 (⟨k.val * 32 + r.val, by omega⟩ : Fin 576) l := by
    funext q
    apply Fin.ext
    fin_cases q
    · show k0_off1 k 0 + 1 * r.val = k.val * 32 + r.val
      rw [off1_eq]; simp
    · show k0_off1 k 1 + 1 * l.val = l.val
      rw [off1_eq]; simp
  rw [e, ← vix2]
  refine (ValueIdx.shapeCast_1ab_ab_apply _ _ _ _).trans ?_
  rw [View.readAt_apply, vix3]
  congr 1
  funext q
  apply Fin.ext
  fin_cases q
  · rfl
  · show 0 + 1 * (k.val * 32 + r.val) = k.val * 32 + r.val
    omega
  · show 0 + 1 * l.val = l.val
    omega

theorem pay5_apply (v : Vec F S32x128 .i8) (r : Fin 32) (l : Fin 128) : k0_pay5 v (ix2 r l) = fac (F := F) (v (ix2 r l)) := by
  unfold k0_pay5
  simp only [shapeCast_self]
  rfl

theorem fg_apply (h : Fin 2) (g : Fin 4) (i : Fin 8) (l : Fin 128) :
    fg c arg4 arg8 k f4 f8 h g (ix2 i l)
      = fac (F := F) (arg4.view.read (Elt F) f4 (ix3 (0 : Fin 1) ⟨(gi k h g * 8 + i.val) / 2, by have := gi_lt k h g; omega⟩ l)) := by
  have hk : k.val < 18 := k.isLt
  unfold fg
  rw [View.readAt_apply]
  have e := off6_eq k h g
  have y0 : ((Rect.unit (s := S1152x128) (k0_off6 k (hw h) (gw g)) S8x128.size (k0_off6_inb k h g)).toLoadRect.idx (ix2 i l) 0).val = gi k h g * 8 + i.val := by
    show k0_off6 k (hw h) (gw g) 0 + 1 * i.val = _
    rw [e]; simp
  have y1 : ((Rect.unit (s := S1152x128) (k0_off6 k (hw h) (gw g)) S8x128.size (k0_off6_inb k h g)).toLoadRect.idx (ix2 i l) 1).val = l.val := by
    show k0_off6 k (hw h) (gw g) 1 + 1 * l.val = _
    rw [e]; simp
  show arg8.view.read (Elt F) _ ((Rect.unit (s := S1152x128) (k0_off6 k (hw h) (gw g)) S8x128.size (k0_off6_inb k h g)).toLoadRect.idx (ix2 i l)) = _
  generalize (Rect.unit (s := S1152x128) (k0_off6 k (hw h) (gw g)) S8x128.size (k0_off6_inb k h g)).toLoadRect.idx (ix2 i l) = y at y0 y1
  have hgi : gi k h g = k.val * 8 + 4 * h.val + g.val := rfl
  have hin : (gi k h g * 8 + i.val) / 2 = k.val * 32 + (gi k h g * 8 + i.val - k.val * 64) / 2 := by omega
  have hlt : (gi k h g * 8 + i.val - k.val * 64) / 2 < 32 := by omega
  have fin : fac (F := F) (arg4.view.read (Elt F) f4 (ix3 (0 : Fin 1) ⟨(gi k h g * 8 + i.val) / 2, by have := gi_lt k h g; omega⟩ l))
      = k0_pay5 (trip.sl.v13 c arg4 k f4) (ix2 (⟨(gi k h g * 8 + i.val - k.val * 64) / 2, hlt⟩ : Fin 32) l) := by
    rw [pay5_apply, v13_apply]
    simp only [hin]
  rw [fin]
  unfold trip.sl.H8_2
  have e0 := off2_eq k 0
  have e1 := off2_eq k 1
  by_cases hp : (gi k h g * 8 + i.val) % 2 = 1
  · refine (View.read_writes_cons_hit_of_coords (v := arg8.view) (x := ix2 (⟨(gi k h g * 8 + i.val - k.val * 64) / 2, hlt⟩ : Fin 32) l) _ _ _ _ _ ?_).trans ?_
    · intro q
      fin_cases q
      · show (y 0).val = k0_off2 k (BitVec.ofNat 32 1) 0 + 2 * ((gi k h g * 8 + i.val - k.val * 64) / 2)
        erw [e1]; rw [y0]; simp; omega
      · show (y 1).val = k0_off2 k (BitVec.ofNat 32 1) 1 + 1 * l.val
        erw [e1]; rw [y1]; simp
    · unfold k0_pay7; rw [shapeCast_self]
  · rw [View.read_writes_cons_miss]
    · refine (View.read_writes_cons_hit_of_coords (v := arg8.view) (x := ix2 (⟨(gi k h g * 8 + i.val - k.val * 64) / 2, hlt⟩ : Fin 32) l) _ _ _ _ _ ?_).trans ?_
      · intro q
        fin_cases q
        · show (y 0).val = k0_off2 k (BitVec.ofNat 32 0) 0 + 2 * ((gi k h g * 8 + i.val - k.val * 64) / 2)
          erw [e0]; rw [y0]; simp; omega
        · show (y 1).val = k0_off2 k (BitVec.ofNat 32 0) 1 + 1 * l.val
          erw [e0]; rw [y1]; simp
      · unfold k0_pay6; rw [shapeCast_self]
    · intro hm
      obtain ⟨j, hj, hj'⟩ := (LoadRect.mem_set _).mp hm 0
      have hj2 : (y 0).val = k0_off2 k (BitVec.ofNat 32 1) 0 + 2 * j := hj'
      erw [e1] at hj2
      rw [y0] at hj2
      have : gi k h g * 8 + i.val = k.val * 64 + 1 + 2 * j := by simpa using hj2
      omega

end Cert.Proof.KernelIdeal
-- ==== Proof.Bytes.lean ====
module

public import Idealize.ShloMosaic.Lib.Pointwise

/-! Bytes of a 32-bit word, and an addition that carries from none of them into the next. -/

@[expose] public section

namespace Cert.Proof

theorem nat_bytes (n : ℕ) (hn : n < 4294967296) (h0 : n % 256 ≤ 119) (h1 : n / 256 % 256 ≤ 119) (h2 : n / 65536 % 256 ≤ 119) (h3 : n / 16777216 % 256 ≤ 119) :
    ∃ a b c d : ℕ, a ≤ 119 ∧ b ≤ 119 ∧ c ≤ 119 ∧ d ≤ 119 ∧ n = a + 256 * b + 65536 * c + 16777216 * d :=
  ⟨n % 256, n / 256 % 256, n / 65536 % 256, n / 16777216 % 256, h0, h1, h2, h3, by omega⟩

theorem nat_add_bytes (a b c d : ℕ) (ha : a ≤ 119) (hb : b ≤ 119) (hc : c ≤ 119) (hd : d ≤ 119) :
    (a + 256 * b + 65536 * c + 16777216 * d + 2004318071) % 4294967296 = (a + 119) + 256 * (b + 119) + 65536 * (c + 119) + 16777216 * (d + 119) := by
  rw [Nat.mod_eq_of_lt] <;> omega

theorem byte0 (a b c d : ℕ) (ha : a < 256) : (a + 256 * b + 65536 * c + 16777216 * d) % 256 = a := by omega
theorem byte1 (a b c d : ℕ) (ha : a < 256) (hb : b < 256) : (a + 256 * b + 65536 * c + 16777216 * d) / 256 % 256 = b := by omega
theorem byte2 (a b c d : ℕ) (ha : a < 256) (hb : b < 256) (hc : c < 256) : (a + 256 * b + 65536 * c + 16777216 * d) / 65536 % 256 = c := by omega
theorem byte3 (a b c d : ℕ) (ha : a < 256) (hb : b < 256) (hc : c < 256) (hd : d < 256) : (a + 256 * b + 65536 * c + 16777216 * d) / 16777216 % 256 = d := by omega

theorem extract_toNat (y : BitVec 32) (k : ℕ) : (y.extractLsb' k 8).toNat = y.toNat / 2 ^ k % 256 := by
  rw [BitVec.extractLsb'_toNat, Nat.shiftRight_eq_div_pow]

/-- Byte `b` of a word. -/
theorem word_byte (y : BitVec 32) (b : Fin 4) (q : ℕ) (hq : q < 8) : y.getLsbD (8 * b.val + q) = (y.extractLsb' (8 * b.val) 8).getLsbD q := by
  rw [BitVec.getLsbD_extractLsb']; simp [hq]

theorem add_byte (y : BitVec 32) (h : ∀ b : Fin 4, (y.extractLsb' (8 * b.val) 8).toNat ≤ 119) (b : Fin 4) :
    (y + 2004318071#32).extractLsb' (8 * b.val) 8 = y.extractLsb' (8 * b.val) 8 + 0x77#8 := by
  have h0 : y.toNat % 256 ≤ 119 := by have := h 0; rw [extract_toNat] at this; simpa using this
  have h1 : y.toNat / 256 % 256 ≤ 119 := by have := h 1; rw [extract_toNat] at this; exact this
  have h2 : y.toNat / 65536 % 256 ≤ 119 := by have := h 2; rw [extract_toNat] at this; exact this
  have h3 : y.toNat / 16777216 % 256 ≤ 119 := by have := h 3; rw [extract_toNat] at this; exact this
  obtain ⟨p, q, r, s, hp, hq, hr, hs, hy⟩ := nat_bytes y.toNat y.isLt h0 h1 h2 h3
  apply BitVec.eq_of_toNat_eq
  rw [BitVec.toNat_add, extract_toNat, extract_toNat, BitVec.toNat_add, hy]
  have e2 : (2004318071#32).toNat = 2004318071 := rfl
  have e8 : (0x77#8).toNat = 119 := rfl
  rw [e2, e8]
  have e32 : (2 : ℕ) ^ 32 = 4294967296 := by norm_num
  have e256 : (2 : ℕ) ^ 8 = 256 := by norm_num
  rw [e32, e256, nat_add_bytes p q r s hp hq hr hs]
  match b with
  | 0 => rw [show (2:ℕ) ^ (8 * (0 : Fin 4).val) = 1 by rfl, Nat.div_one, Nat.div_one, byte0 _ _ _ _ (by omega), byte0 _ _ _ _ (by omega), Nat.mod_eq_of_lt (by omega)]
  | 1 => rw [show (2:ℕ) ^ (8 * (1 : Fin 4).val) = 256 by rfl, byte1 _ _ _ _ (by omega) (by omega), byte1 _ _ _ _ (by omega) (by omega), Nat.mod_eq_of_lt (by omega)]
  | 2 => rw [show (2:ℕ) ^ (8 * (2 : Fin 4).val) = 65536 by rfl, byte2 _ _ _ _ (by omega) (by omega) (by omega), byte2 _ _ _ _ (by omega) (by omega) (by omega), Nat.mod_eq_of_lt (by omega)]
  | 3 => rw [show (2:ℕ) ^ (8 * (3 : Fin 4).val) = 16777216 by rfl, byte3 _ _ _ _ (by omega) (by omega) (by omega) (by omega), byte3 _ _ _ _ (by omega) (by omega) (by omega) (by omega), Nat.mod_eq_of_lt (by omega)]

/-- Two nibbles' magnitude fields in a byte. -/
def pk (lo hi : BitVec 32) : BitVec 8 := BitVec.setWidth 8 (lo ||| hi <<< 4)

theorem pk_le (a b : BitVec 32) (ha : a.toNat ≤ 7) (hb : b.toNat ≤ 7) : (pk a b).toNat ≤ 119 := by
  have : ∀ i j : Fin 8, (pk (BitVec.ofNat 32 i.val) (BitVec.ofNat 32 j.val)).toNat ≤ 119 := by decide
  have h := this ⟨a.toNat, by omega⟩ ⟨b.toNat, by omega⟩
  simpa using h

/-- A byte's sign bits joined to the nonzero magnitudes `y`. -/
def sgn (x y : BitVec 8) : BitVec 8 := y ||| (x &&& (y + 0x77#8) &&& 0x88#8)

end Cert.Proof
-- ==== Proof.GroupPt.lean ====
module

public import proofs.«01_k».proof.Proof.Reads
public import Idealize.ShloMosaic.Lib.BitcastFour
public import Idealize.ShloMosaic.Lib.BitcastPair
public import proofs.«01_k».proof.Proof.Bytes

/-! The group functions read at one element, over the reals. -/

@[expose] public section

set_option maxRecDepth 65536
set_option maxHeartbeats 1000000

noncomputable section

namespace Cert.Proof.KernelIdeal

open Cert.KernelIdeal Cert.KernelIdeal.Gen
open Idealize.ShloMosaic Idealize.ShloMosaic.TcCoe

/-- `w` holds the bytes `x`: byte row `r` is byte `r % 4` of word row `r / 4`. -/
def IsW (w : IVec S8x128 32) (x : Fin 32 → Fin 128 → BitVec 8) : Prop :=
  ∀ (i : Fin 8) (b : Fin 4) (l : Fin 128) (q : ℕ), q < 8 →
    (w (ix2 i l)).getLsbD (8 * b.val + q) = (x ⟨4 * i.val + b.val, by omega⟩ l).getLsbD q

/-- Byte row `r` of the group's word rows of parity `k`. -/
def bx (X : Vec Ideal S1x64x128 .i8) (k : Fin 2) (r : Fin 32) (l : Fin 128) : BitVec 8 :=
  X (ix3 (0 : Fin 1) ⟨8 * (r.val / 4) + 4 * k.val + r.val % 4, by omega⟩ l)

theorem w_apply (X : Vec Ideal S1x64x128 .i8) (a : Fin 16) (l : Fin 128) (b : Fin 4) (q : ℕ) (hq : q < 8) :
    (bitcast S16x128 32 (shapeCast S64x128 X shapeCasts_S1x64x128_S64x128) bitcasts_S64x128_w8_S16x128_w32 (ix2 a l)).getLsbD (8 * b.val + q)
      = BitVec.getLsbD (X (ix3 (0 : Fin 1) ⟨4 * a.val + b.val, by omega⟩ l)) q := by
  rw [← vix2]
  rw [bitcast_8_32_getLsbD_ix2 _ _ a l (8 * b.val + q) (by omega) (⟨4 * a.val + b.val, by omega⟩ : Fin 64) (by show 4 * a.val + b.val = _; omega)]
  rw [ValueIdx.shapeCast_1ab_ab_apply, vix3]
  congr 1; omega

theorem isW0 (X : Vec Ideal S1x64x128 .i8) : IsW (w0 X) (bx X 0) := by
  intro i b l q hq
  have h := w_apply X (⟨2 * i.val, by omega⟩ : Fin 16) l b q hq
  have e : w0 X (ix2 i l) = bitcast S16x128 32 (shapeCast S64x128 X shapeCasts_S1x64x128_S64x128) bitcasts_S64x128_w8_S16x128_w32 (ix2 (⟨2 * i.val, by omega⟩ : Fin 16) l) := by
    unfold w0 k0_pay57
    generalize bitcast S16x128 32 (shapeCast S64x128 X shapeCasts_S1x64x128_S64x128) bitcasts_S64x128_w8_S16x128_w32 = z
    rw [← vix2, ← vix2]
    refine (shapeCast_apply _ _ _ (ValueIdx.ix3 i (0 : Fin 1) l) ?_).trans ?_
    · rw [Shape.rowMajor_val_three, Shape.rowMajor_val_two]; show (i.val * 1 + 0) * 128 + l.val = i.val * 128 + l.val; omega
    refine Eq.trans ?_ (shapeCast_apply z shapeCasts_S16x128_S8x2x128 (ValueIdx.ix3 i (0 : Fin 2) l) _ ?_)
    · rw [vix3, vix3]; pointwise
    · rw [Shape.rowMajor_val_three, Shape.rowMajor_val_two]; show (2 * i.val) * 128 + l.val = (i.val * 2 + 0) * 128 + l.val; omega
  rw [e, h]
  unfold bx
  congr 3
  apply Fin.ext; show 4 * (2 * i.val) + b.val = 8 * ((4 * i.val + b.val) / 4) + 4 * 0 + (4 * i.val + b.val) % 4; omega

theorem isW1 (X : Vec Ideal S1x64x128 .i8) : IsW (w1 X) (bx X 1) := by
  intro i b l q hq
  have h := w_apply X (⟨2 * i.val + 1, by omega⟩ : Fin 16) l b q hq
  have e : w1 X (ix2 i l) = bitcast S16x128 32 (shapeCast S64x128 X shapeCasts_S1x64x128_S64x128) bitcasts_S64x128_w8_S16x128_w32 (ix2 (⟨2 * i.val + 1, by omega⟩ : Fin 16) l) := by
    unfold w1 k0_pay64
    generalize bitcast S16x128 32 (shapeCast S64x128 X shapeCasts_S1x64x128_S64x128) bitcasts_S64x128_w8_S16x128_w32 = z
    rw [← vix2, ← vix2]
    refine (shapeCast_apply _ _ _ (ValueIdx.ix3 i (0 : Fin 1) l) ?_).trans ?_
    · rw [Shape.rowMajor_val_three, Shape.rowMajor_val_two]; show (i.val * 1 + 0) * 128 + l.val = i.val * 128 + l.val; omega
    refine Eq.trans ?_ (shapeCast_apply z shapeCasts_S16x128_S8x2x128 (ValueIdx.ix3 i (1 : Fin 2) l) _ ?_)
    · rw [vix3, vix3]; pointwise
    · rw [Shape.rowMajor_val_three, Shape.rowMajor_val_two]; show (2 * i.val + 1) * 128 + l.val = (i.val * 2 + 1) * 128 + l.val; omega
  rw [e, h]
  unfold bx
  congr 3
  apply Fin.ext; show 4 * (2 * i.val + 1) + b.val = 8 * ((4 * i.val + b.val) / 4) + 4 * 1 + (4 * i.val + b.val) % 4; omega

/-- The words' bytes, cast back. -/
theorem bytes_apply (w : IVec S8x128 32) (x : Fin 32 → Fin 128 → BitVec 8) (hw : IsW w x) (r : Fin 32) (l : Fin 128) :
    bitcast S32x128 8 w bitcasts_S8x128_w32_S32x128_w8 (ix2 r l) = x r l := by
  apply BitVec.eq_of_getLsbD_eq
  intro q hq
  rw [bitcast_getLsbD _ _ _ q hq (by decide)]
  have hr : Shape.row S32x128 (ix2 r l) = r.val := rfl
  have e : ∀ (p : ℕ) (hp), p = r.val / 4 → Shape.Bitcasts.srcIdx bitcasts_S8x128_w32_S32x128_w8 (ix2 r l) p hp = ix2 (⟨r.val / 4, by omega⟩ : Fin 8) l := by
    intro p hp hpe
    subst hpe
    funext a
    fin_cases a <;> rfl
  have hm : (Shape.row S32x128 (ix2 r l) * 8 + q) % 32 = 8 * (r.val % 4) + q := by rw [hr]; omega
  rw [hm, e _ _ (by rw [hr]; omega)]
  have := hw (⟨r.val / 4, by omega⟩) (⟨r.val % 4, by omega⟩) l q hq
  simp only at this
  rw [this]
  congr 2
  apply Fin.ext; show 4 * (r.val / 4) + r.val % 4 = r.val; omega

theorem isW_and (w : IVec S8x128 32) (x : Fin 32 → Fin 128 → BitVec 8) (hw : IsW w x) (C : BitVec 32) (D : BitVec 8)
    (hC : ∀ (b : Fin 4) (q : Fin 8), C.getLsbD (8 * b.val + q.val) = D.getLsbD q.val) :
    IsW (andi w (broadcast S8x128 C)) (fun r l => x r l &&& D) := by
  intro i b l q hq
  show (w (ix2 i l) &&& C).getLsbD _ = _
  rw [BitVec.getLsbD_and, BitVec.getLsbD_and, hw i b l q hq, hC b ⟨q, hq⟩]

/-- The magnitude field of nibble `p` of a byte. -/
def fld (x : BitVec 8) (p : Fin 2) : BitVec 32 :=
  if p = 0 then BitVec.zeroExtend 32 (x &&& 0x77#8) &&& 7#32 else BitVec.sshiftRight (BitVec.zeroExtend 32 (x &&& 0x77#8)) 4

theorem odd_mod (n : ℕ) : (2 * n + 1) % 2 = 1 := by omega
theorem odd_div (n : ℕ) : (2 * n + 1) / 2 = n := by omega
theorem even_mod (n : ℕ) : 2 * n % 2 = 0 := by omega
theorem even_div (n : ℕ) : 2 * n / 2 = n := by omega

theorem nib_apply (w : IVec S8x128 32) (x : Fin 32 → Fin 128 → BitVec 8) (hw : IsW w x) (r : Fin 32) (p : Fin 2) (l : Fin 128) :
    nib w (ix2 (⟨32 * p.val + r.val, by omega⟩ : Fin 64) l) = fld (x r l) p := by
  have hb := bytes_apply _ _ (isW_and w x hw 2004318071#32 0x77#8 (by decide)) r l
  unfold nib
  generalize bitcast S32x128 8 (andi w (broadcast S8x128 2004318071#32)) bitcasts_S8x128_w32_S32x128_w8 = z at hb
  have hb' : z (ix2 r l) = x r l &&& 119#8 := hb
  unfold fld
  fin_cases p
  · pointwise
    rw [hb']; rfl
  · pointwise
    rw [hb']; rfl

/-- The value of a nibble's magnitude field. -/
def val (x : BitVec 8) (p : Fin 2) : EReal :=
  half (F := Ideal) (fun _ => fld x p) (ix2 (0 : Fin 64) (0 : Fin 128))

theorem half_apply (n : IVec S64x128 32) (r : Fin 64) (l : Fin 128) :
    half (F := Ideal) n (ix2 r l) = half (F := Ideal) (fun _ => n (ix2 r l)) (ix2 (0 : Fin 64) (0 : Fin 128)) := rfl

theorem dec_apply (w : IVec S8x128 32) (x : Fin 32 → Fin 128 → BitVec 8) (hw : IsW w x) (r : Fin 32) (p : Fin 2) (l : Fin 128) :
    dec (F := Ideal) w (ix2 (⟨2 * r.val + p.val, by omega⟩ : Fin 64) l) = val (x r l) p := by
  have hb := nib_apply w x hw r p l
  unfold dec
  have hh : half (F := Ideal) (nib w) (ix2 (⟨32 * p.val + r.val, by omega⟩ : Fin 64) l) = val (x r l) p := by
    unfold val
    rw [half_apply, hb]
  generalize half (F := Ideal) (nib w) = z at hh
  fin_cases p
  · pointwise
    rw [if_pos (by omega)]; refine Eq.trans ?_ hh; congr 2; apply Fin.ext; show 2 * r.val / 2 = 32 * 0 + r.val; omega
  · pointwise
    rw [if_neg (by omega)]; refine Eq.trans ?_ hh; congr 2; apply Fin.ext; show 32 + (2 * r.val + 1) / 2 = 32 * 1 + r.val; omega

theorem maxS_apply (X : Vec Ideal S1x64x128 .i8) (r : Fin 32) (p : Fin 2) (l : Fin 128) :
    maxS (F := Ideal) X (ix3 r p l) = max (val (bx X 0 r l) p) (val (bx X 1 r l) p) := by
  have h0 := dec_apply _ _ (isW0 X) r p l
  have h1 := dec_apply _ _ (isW1 X) r p l
  unfold maxS
  generalize dec (F := Ideal) (w0 X) = z0 at *
  generalize dec (F := Ideal) (w1 X) = z1 at *
  rw [← h0, ← h1]
  fin_cases p
  · pointwise
  · pointwise

theorem gmax_apply (a b c d : Vec Ideal S8x2x128 .bf16) (i : Fin 8) (l : Fin 128) :
    gmax (F := Ideal) a b c d (ix2 i l) = max
      (max (max (a (ix3 i 1 l)) (b (ix3 i 1 l))) (max (c (ix3 i 1 l)) (d (ix3 i 1 l))))
      (max (max (a (ix3 i 0 l)) (b (ix3 i 0 l))) (max (c (ix3 i 0 l)) (d (ix3 i 0 l)))) := by
  unfold gmax rowsM
  pointwise
  simp only [odd_mod, odd_div, even_mod, even_div, if_true, one_ne_zero, if_false, Fin.eta]

/-- The scale of a block of greatest magnitude `m` and factor `f`, `v7` six times the tensor scale. -/
def scl (v7 m f : EReal) : EReal :=
  min (Ideal.ofBits .f32 0x43E00000#32) (max 0 (Ideal.div (m * f) v7))

theorem gscale_apply (v7 m f : FVec Ideal S8x128 .f32) (i : Fin 8) (l : Fin 128) :
    gscale v7 m f (ix2 i l) = scl (v7 (ix2 i l)) (m (ix2 i l)) (f (ix2 i l)) := by
  unfold gscale scl
  pointwise

theorem cat4_apply (a b c d : FVec Ideal S8x128 .f32) (g : Fin 4) (i : Fin 8) (l : Fin 128) :
    cat4 a b c d (ix2 (⟨8 * g.val + i.val, by omega⟩ : Fin 32) l) = (![a, b, c, d] g) (ix2 i l) := by
  unfold cat4
  fin_cases g
  · pointwise
    try rw [dif_pos (by omega)]
    try rfl
  · pointwise
    try rw [dif_neg (by omega), dif_pos (by omega)]
    try simp only [show 8 + i.val - 8 = i.val by omega]
    try rfl
  · pointwise
    try rw [dif_neg (by omega), dif_neg (by omega), dif_pos (by omega)]
    try simp only [show 16 + i.val - 8 - 8 = i.val by omega]
    try rfl
  · pointwise
    try rw [dif_neg (by omega), dif_neg (by omega), dif_neg (by omega)]
    try simp only [show 24 + i.val - 8 - 8 - 8 = i.val by omega]
    try rfl

theorem effOf_apply (v3 : FVec Ideal S8x128 .f32) (o : ℕ) (h : S32x128.Slices ![o, 0] S8x128) (s : FVec Ideal S32x128 .fp8e4m3) (i : Fin 8) (l : Fin 128) (ho : o + i.val < 32) :
    effOf v3 ![o, 0] h s (ix2 i l) = s (ix2 (⟨o + i.val, ho⟩ : Fin 32) l) * v3 (ix2 i l) := by
  unfold effOf
  pointwise

/-- One step of the bisection and the whole of it, at one element. -/
def stepS (x : EReal) (lo b : BitVec 32) : BitVec 32 := if Ideal.ofBits .f32 (lo ||| b) ≤ x then lo ||| b else lo
def bitsS (x : EReal) : BitVec 32 :=
  stepS x (stepS x (stepS x (stepS x (stepS x (stepS x (stepS x (stepS x (stepS x (stepS x (stepS x (stepS x
    0#32 1073741824#32) 536870912#32) 268435456#32) 134217728#32) 67108864#32) 33554432#32) 16777216#32)
    8388608#32) 4194304#32) 2097152#32) 1048576#32) 524288#32

theorem bstep_apply (x : FVec Ideal S8x128 .f32) (lo : IVec S8x128 32) (b : BitVec 32) (j : S8x128.Idx) : bstep x lo b j = stepS (x j) (lo j) b := by
  unfold bstep stepS
  pointwise
  rfl

theorem bits_apply (x : FVec Ideal S8x128 .f32) (j : S8x128.Idx) : bits x j = bitsS (x j) := by
  unfold bits bitsS
  simp only [bstep_apply]
  rfl

/-- The multiplier of a block from its factor and its effective scale. -/
def mlt (eff f : EReal) : EReal :=
  if 0 < eff then Ideal.ofBits .f32 (bitsS (Ideal.div (Ideal.ofBits .f32 0x40400000#32 * f) eff) ||| 262144#32) * Ideal.ofBits .f32 0x3EAAAAAB#32 else 0

theorem mult_apply (eff f : FVec Ideal S8x128 .f32) (i : Fin 8) (l : Fin 128) :
    mult eff f (ix2 i l) = mlt (eff (ix2 i l)) (f (ix2 i l)) := by
  have h := bits_apply (r3Of eff f) (ix2 i l)
  unfold mult mlt
  generalize bits (r3Of eff f) = z at h
  pointwise
  rw [h]
  unfold r3Of
  pointwise
  rfl

theorem multS_apply (r : FVec Ideal S8x128 .f32) (i : Fin 8) (p : Fin 2) (l : Fin 128) :
    multS (F := Ideal) r (ix3 i p l) = r (ix2 i l) := by
  unfold multS
  fin_cases p
  · pointwise
  · pointwise

theorem multR_apply (R : Vec Ideal S32x2x128 .bf16) (r : Fin 32) (p : Fin 2) (l : Fin 128) :
    multR R (ix2 (⟨2 * r.val + p.val, by omega⟩ : Fin 64) l) = R (ix3 r p l) := by
  unfold multR k0_pay56
  fin_cases p
  · pointwise
    first | done | simp only [odd_mod, odd_div, even_mod, even_div, if_true, one_ne_zero, if_false, Fin.eta]
  · pointwise
    first | done | simp only [odd_mod, odd_div, even_mod, even_div, if_true, one_ne_zero, if_false, Fin.eta]

/-- The magnitude field of a scaled value. -/
def cntS (v : EReal) : BitVec 32 := cnt (F := Ideal) (fun _ => v) (ix2 (0 : Fin 64) (0 : Fin 128))

theorem cnt_apply (v : FVec Ideal S64x128 .f32) (r : Fin 64) (l : Fin 128) : cnt v (ix2 r l) = cntS (v (ix2 r l)) := rfl

theorem encN_apply (w : IVec S8x128 32) (x : Fin 32 → Fin 128 → BitVec 8) (hw : IsW w x) (R : FVec Ideal S64x128 .bf16) (r : Fin 32) (p : Fin 2) (l : Fin 128) :
    encN w R (ix2 (⟨32 * p.val + r.val, by omega⟩ : Fin 64) l) = cntS (val (x r l) p * R (ix2 (⟨2 * r.val + p.val, by omega⟩ : Fin 64) l)) := by
  have h := dec_apply w x hw r p l
  unfold encN
  rw [← h]
  generalize dec (F := Ideal) w = z at *
  rw [cnt_apply]
  congr 1
  fin_cases p
  · pointwise
  · pointwise

theorem packW_isW (n : IVec S64x128 32) :
    IsW (packW n) (fun r l => pk (n (ix2 (⟨r.val, by omega⟩ : Fin 64) l)) (n (ix2 (⟨32 + r.val, by omega⟩ : Fin 64) l))) := by
  intro i b l q hq
  unfold packW
  rw [← vix2]
  rw [bitcast_8_32_getLsbD_ix2 _ _ i l (8 * b.val + q) (by omega) (⟨4 * i.val + b.val, by omega⟩ : Fin 32) (by show 4 * i.val + b.val = _; omega)]
  rw [show (8 * b.val + q) % 8 = q by omega]
  congr 1
  rw [vix2]
  pointwise
  rfl

theorem joinW_apply (a b : IVec S8x128 32) (x y : Fin 32 → Fin 128 → BitVec 8) (ha : IsW a x) (hb : IsW b y) (k : Fin 2) (r : Fin 32) (l : Fin 128) :
    joinW a b (ix3 (0 : Fin 1) (⟨8 * (r.val / 4) + 4 * k.val + r.val % 4, by omega⟩ : Fin 64) l) = if k = 0 then x r l else y r l := by
  unfold joinW
  have hr4 : r.val / 4 < 8 := by omega
  have hz : shapeCast S16x128 (concatenate S8x2x128 1 [⟨S8x1x128, shapeCast S8x1x128 a shapeCasts_S8x128_S8x1x128⟩,
      ⟨S8x1x128, shapeCast S8x1x128 b shapeCasts_S8x128_S8x1x128⟩] concatenates_S8x1x128_S8x1x128_S8x2x128_d1) shapeCasts_S8x2x128_S16x128
        (ix2 (⟨2 * (r.val / 4) + k.val, by omega⟩ : Fin 16) l) = if k = 0 then a (ix2 (⟨r.val / 4, hr4⟩ : Fin 8) l) else b (ix2 (⟨r.val / 4, hr4⟩ : Fin 8) l) := by
    refine (shapeCast_apply _ _ _ (ValueIdx.ix3 (⟨r.val / 4, hr4⟩ : Fin 8) k l) ?_).trans ?_
    · rw [Shape.rowMajor_val_three, Shape.rowMajor_val_two]; show (r.val / 4 * 2 + k.val) * 128 + l.val = (2 * (r.val / 4) + k.val) * 128 + l.val; omega
    rw [vix3]
    fin_cases k
    · pointwise
    · pointwise
  generalize shapeCast S16x128 (concatenate S8x2x128 1 [⟨S8x1x128, shapeCast S8x1x128 a shapeCasts_S8x128_S8x1x128⟩,
      ⟨S8x1x128, shapeCast S8x1x128 b shapeCasts_S8x128_S8x1x128⟩] concatenates_S8x1x128_S8x1x128_S8x2x128_d1) shapeCasts_S8x2x128_S16x128 = z at *
  rw [← vix3, ValueIdx.shapeCast_ab_1ab_apply, vix2]
  apply BitVec.eq_of_getLsbD_eq
  intro q hq
  rw [bitcast_getLsbD _ _ _ q hq (by decide)]
  have hrow : ∀ (ρ : Fin 64), Shape.row S64x128 (ix2 ρ l) = ρ.val := fun _ => rfl
  have e : ∀ (ρ : Fin 64) (p : ℕ) (hp) (p' : ℕ) (hp' : p' < 16), p = p' → Shape.Bitcasts.srcIdx bitcasts_S16x128_w32_S64x128_w8 (ix2 ρ l) p hp = ix2 (⟨p', hp'⟩ : Fin 16) l := by
    intro ρ p hp p' hp' hpe
    subst hpe
    funext a
    fin_cases a <;> rfl
  rw [e _ _ _ (2 * (r.val / 4) + k.val) (by omega) (by rw [hrow]; show ((8 * (r.val / 4) + 4 * k.val + r.val % 4) * 8 + q) / 32 = _; omega), hz, hrow]
  have hm : ((8 * (r.val / 4) + 4 * k.val + r.val % 4) * 8 + q) % 32 = 8 * (r.val % 4) + q := by omega
  show BitVec.getLsbD _ (((8 * (r.val / 4) + 4 * k.val + r.val % 4) * 8 + q) % 32) = _
  rw [hm]
  have hr : (⟨4 * (r.val / 4) + r.val % 4, by omega⟩ : Fin 32) = r := Fin.ext (by show 4 * (r.val / 4) + r.val % 4 = r.val; omega)
  have h1 := ha ⟨r.val / 4, hr4⟩ ⟨r.val % 4, by omega⟩ l q hq
  have h2 := hb ⟨r.val / 4, hr4⟩ ⟨r.val % 4, by omega⟩ l q hq
  simp only [hr] at h1 h2
  split_ifs
  · exact h1
  · exact h2

end Cert.Proof.KernelIdeal
-- ==== Proof.GroupCodes.lean ====
module

public import proofs.«01_k».proof.Proof.GroupPt

/-! The code bytes of a group, read at one element. -/

@[expose] public section

set_option maxRecDepth 65536
set_option maxHeartbeats 1000000

noncomputable section

namespace Cert.Proof.KernelIdeal

open Cert.KernelIdeal Cert.KernelIdeal.Gen
open Idealize.ShloMosaic Idealize.ShloMosaic.TcCoe

theorem signW_isW (w y : IVec S8x128 32) (x v : Fin 32 → Fin 128 → BitVec 8) (hw : IsW w x) (hy : IsW y v) (hv : ∀ r l, (v r l).toNat ≤ 119) :
    IsW (signW w y) (fun r l => sgn (x r l) (v r l)) := by
  intro i b l q hq
  have hyb : ∀ b : Fin 4, (y (ix2 i l)).extractLsb' (8 * b.val) 8 = v ⟨4 * i.val + b.val, by omega⟩ l := by
    intro b
    apply BitVec.eq_of_getLsbD_eq
    intro q hq
    rw [← word_byte _ b q hq, hy i b l q hq]
  have ha := add_byte (y (ix2 i l)) (fun b => by rw [hyb]; exact hv _ _) b
  show (y (ix2 i l) ||| (w (ix2 i l) &&& (y (ix2 i l) + 2004318071#32) &&& 2290649224#32)).getLsbD (8 * b.val + q) = _
  have hC : ∀ (b : Fin 4) (q : Fin 8), (2290649224#32).getLsbD (8 * b.val + q.val) = (0x88#8).getLsbD q.val := by decide
  unfold sgn
  simp only [BitVec.getLsbD_or, BitVec.getLsbD_and]
  rw [hw i b l q hq, hy i b l q hq, word_byte _ b q hq, ha, hyb, hC b ⟨q, hq⟩]

theorem packO (n : IVec S64x128 32) (w : IVec S8x128 32) (x : Fin 32 → Fin 128 → BitVec 8) (hw : IsW w x) (y0 y1 : Fin 32 → Fin 128 → BitVec 32)
    (h0 : ∀ (r : Fin 32) (l : Fin 128), n (ix2 (⟨r.val, by omega⟩ : Fin 64) l) = y0 r l)
    (h1 : ∀ (r : Fin 32) (l : Fin 128), n (ix2 (⟨32 + r.val, by omega⟩ : Fin 64) l) = y1 r l)
    (l0 : ∀ r l, (y0 r l).toNat ≤ 7) (l1 : ∀ r l, (y1 r l).toNat ≤ 7) :
    IsW (signW w (packW n)) (fun r l => sgn (x r l) (pk (y0 r l) (y1 r l))) := by
  have e : (fun (r : Fin 32) (l : Fin 128) => pk (n (ix2 (⟨r.val, by omega⟩ : Fin 64) l)) (n (ix2 (⟨32 + r.val, by omega⟩ : Fin 64) l))) = fun r l => pk (y0 r l) (y1 r l) := by
    funext r l
    rw [h0 r l, h1 r l]
  have hp := packW_isW n
  rw [e] at hp
  exact signW_isW _ _ _ _ hw hp (fun r l => pk_le _ _ (l0 r l) (l1 r l))

/-- The output byte of a code byte at a block's multiplier. -/
def obyte (x : BitVec 8) (m : EReal) : BitVec 8 := sgn x (pk (cntS (val x 0 * m)) (cntS (val x 1 * m)))

theorem seven_le : ∀ a b c d e f g : BitVec 1,
    (a.zeroExtend 32 + b.zeroExtend 32 + c.zeroExtend 32 + d.zeroExtend 32 + e.zeroExtend 32 + f.zeroExtend 32 + g.zeroExtend 32).toNat ≤ 7 := by decide +kernel

theorem cntS_le (v : EReal) : (cntS v).toNat ≤ 7 := seven_le _ _ _ _ _ _ _

theorem enc_isW (w : IVec S8x128 32) (x : Fin 32 → Fin 128 → BitVec 8) (hw : IsW w x) (R : Vec Ideal S32x2x128 .bf16) (m : Fin 8 → Fin 128 → EReal)
    (hR : ∀ (r : Fin 32) (p : Fin 2) (l : Fin 128), R (ix3 r p l) = m ⟨r.val / 4, by omega⟩ l) :
    IsW (signW w (packW (encN w (multR R)))) (fun r l => obyte (x r l) (m ⟨r.val / 4, by omega⟩ l)) := by
  have e : ∀ (r : Fin 32) (p : Fin 2) (l : Fin 128), encN w (multR R) (ix2 (⟨32 * p.val + r.val, by omega⟩ : Fin 64) l) = cntS (val (x r l) p * m ⟨r.val / 4, by omega⟩ l) := by
    intro r p l
    rw [encN_apply w x hw, multR_apply, hR]
  generalize encN w (multR R) = n at e ⊢
  refine packO n w x hw (fun r l => cntS (val (x r l) 0 * m ⟨r.val / 4, by omega⟩ l)) (fun r l => cntS (val (x r l) 1 * m ⟨r.val / 4, by omega⟩ l)) ?_ ?_ (fun r l => cntS_le _) (fun r l => cntS_le _)
  · intro r l
    rw [← e r 0 l]
    have : (⟨r.val, by omega⟩ : Fin 64) = ⟨32 * (0 : Fin 2).val + r.val, by omega⟩ := Fin.ext (by show r.val = 32 * 0 + r.val; omega)
    rw [this]
  · intro r l
    rw [← e r 1 l]
    rfl

theorem codes_apply (X : Vec Ideal S1x64x128 .i8) (R : Vec Ideal S32x2x128 .bf16) (m : Fin 8 → Fin 128 → EReal)
    (hR : ∀ (r : Fin 32) (p : Fin 2) (l : Fin 128), R (ix3 r p l) = m ⟨r.val / 4, by omega⟩ l) (ρ : Fin 64) (l : Fin 128) :
    codes X R (ix3 (0 : Fin 1) ρ l) = obyte (X (ix3 (0 : Fin 1) ρ l)) (m ⟨ρ.val / 8, by omega⟩ l) := by
  have h := joinW_apply _ _ _ _ (enc_isW _ _ (isW0 X) R m hR) (enc_isW _ _ (isW1 X) R m hR) ⟨ρ.val / 4 % 2, by omega⟩ ⟨4 * (ρ.val / 8) + ρ.val % 4, by omega⟩ l
  have hρ : (⟨8 * ((4 * (ρ.val / 8) + ρ.val % 4) / 4) + 4 * (ρ.val / 4 % 2) + (4 * (ρ.val / 8) + ρ.val % 4) % 4, by omega⟩ : Fin 64) = ρ := Fin.ext (by
    show 8 * ((4 * (ρ.val / 8) + ρ.val % 4) / 4) + 4 * (ρ.val / 4 % 2) + (4 * (ρ.val / 8) + ρ.val % 4) % 4 = ρ.val; omega)
  have hm : (⟨(4 * (ρ.val / 8) + ρ.val % 4) / 4, by omega⟩ : Fin 8) = ⟨ρ.val / 8, by omega⟩ := Fin.ext (by show (4 * (ρ.val / 8) + ρ.val % 4) / 4 = ρ.val / 8; omega)
  have b0 : ρ.val / 4 % 2 = 0 → bx X 0 ⟨4 * (ρ.val / 8) + ρ.val % 4, by omega⟩ l = X (ix3 (0 : Fin 1) ρ l) := by
    intro hk
    have : (⟨8 * ((4 * (ρ.val / 8) + ρ.val % 4) / 4) + 4 * 0 + (4 * (ρ.val / 8) + ρ.val % 4) % 4, by omega⟩ : Fin 64) = ρ := Fin.ext (by
      show 8 * ((4 * (ρ.val / 8) + ρ.val % 4) / 4) + 4 * 0 + (4 * (ρ.val / 8) + ρ.val % 4) % 4 = ρ.val; omega)
    show X (ix3 (0 : Fin 1) (⟨8 * ((4 * (ρ.val / 8) + ρ.val % 4) / 4) + 4 * 0 + (4 * (ρ.val / 8) + ρ.val % 4) % 4, by omega⟩ : Fin 64) l) = _
    rw [this]
  have b1 : ρ.val / 4 % 2 ≠ 0 → bx X 1 ⟨4 * (ρ.val / 8) + ρ.val % 4, by omega⟩ l = X (ix3 (0 : Fin 1) ρ l) := by
    intro hk
    have : (⟨8 * ((4 * (ρ.val / 8) + ρ.val % 4) / 4) + 4 * 1 + (4 * (ρ.val / 8) + ρ.val % 4) % 4, by omega⟩ : Fin 64) = ρ := Fin.ext (by
      show 8 * ((4 * (ρ.val / 8) + ρ.val % 4) / 4) + 4 * 1 + (4 * (ρ.val / 8) + ρ.val % 4) % 4 = ρ.val; omega)
    show X (ix3 (0 : Fin 1) (⟨8 * ((4 * (ρ.val / 8) + ρ.val % 4) / 4) + 4 * 1 + (4 * (ρ.val / 8) + ρ.val % 4) % 4, by omega⟩ : Fin 64) l) = _
    rw [this]
  simp only [hρ, hm] at h
  unfold codes
  refine h.trans ?_
  by_cases hk : ρ.val / 4 % 2 = 0
  · rw [if_pos (Fin.ext hk), b0 hk]
  · rw [if_neg (fun hh => hk (congrArg Fin.val hh)), b1 hk]

end Cert.Proof.KernelIdeal
-- ==== Proof.ValueTrip.lean ====
module

public import proofs.«01_k».proof.Proof.TripPieces

/-! One trip of the body's loop, with what it leaves in the two outputs. -/

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

/-- The stores of one trip into the code bytes' block. -/
abbrev T5 (c : Dev nD) (arg3 : Memref sig .tc .vmem S1x9216x128 .i8) (arg4 : Memref sig .tc .vmem S1x576x128 .i8)
    (arg8 : Memref sig .tc .vmem S1152x128 .f32) (arg9 arg10 : Memref sig .tc .vmem S4608x2x128 .bf16) (v0 : Elt F .f32) (k : Fin k0_t1_loop.trips)
    (f3 : Bf (F := F) c arg3) (f4 : Bf (F := F) c arg4) (f8 : Bf (F := F) c arg8) (f10 : Bf (F := F) c arg10) : List (View.Piece (Elt F) S1x9216x128 .i8) :=
  ⟨Rect.unit (s := S1x9216x128) (k0_off3 k 4#32 3#32) S1x64x128.size (k0_off3_inb k 1 3), k0_pay4 (trip.sl.r_184 c arg3 arg4 arg8 arg9 arg10 v0 k f3 f4 f8 f10)⟩ :: trip.sl.H5_7 c arg3 arg4 arg8 arg9 arg10 v0 k f3 f4 f8 f10

/-- The buffers before trip `k`, the outputs at named contents. -/
abbrev held (c : Dev nD) (arg3 : Memref sig .tc .vmem S1x9216x128 .i8) (arg4 : Memref sig .tc .vmem S1x576x128 .i8)
    (arg8 : Memref sig .tc .vmem S1152x128 .f32) (arg9 arg10 : Memref sig .tc .vmem S4608x2x128 .bf16)
    (f3 : Bf (F := F) c arg3) (f4 : Bf (F := F) c arg4) : sProp (MT nD τ sig Unit (Elt F) ℕ (UR sig nD τ) ℕ) :=
  iprop(pt (F := F) c arg3 f3 ∗ pt (F := F) c arg4 f4
    ∗ (∃ f, pt (F := F) c arg8 f) ∗ (∃ f, pt (F := F) c arg9 f) ∗ (∃ f, pt (F := F) c arg10 f))

theorem trip_val (c : Dev nD) (i : grid0.Coords) (arg2 : Memref sig .tc .smem S1x1 .f32) (harg2 : arg2.IsWhole) (arg3 : Memref sig .tc .vmem S1x9216x128 .i8) (harg3 : arg3.IsWhole) (arg4 : Memref sig .tc .vmem S1x576x128 .i8) (harg4 : arg4.IsWhole) (arg5 : Memref sig .tc .vmem S1x9216x128 .i8) (harg5 : arg5.IsWhole) (arg6 : Memref sig .tc .vmem S1x1152x128 .fp8e4m3) (harg6 : arg6.IsWhole) (arg7 : Memref sig .tc .vmem S1x1 .f32) (harg7 : arg7.IsWhole) (arg8 : Memref sig .tc .vmem S1152x128 .f32) (harg8 : arg8.IsWhole) (arg9 : Memref sig .tc .vmem S4608x2x128 .bf16) (harg9 : arg9.IsWhole) (arg10 : Memref sig .tc .vmem S4608x2x128 .bf16) (harg10 : arg10.IsWhole) (v0 : Elt F .f32) (k : Fin k0_t1_loop.trips)
    (f3 : Bf (F := F) c arg3) (f4 : Bf (F := F) c arg4) (f5 : Bf (F := F) c arg5) (f6 : Bf (F := F) c arg6) :
    iprop(held (F := F) c arg3 arg4 arg8 arg9 arg10 f3 f4 ∗ pt (F := F) c arg5 f5 ∗ pt (F := F) c arg6 f6)
      ⊢ wp frame (wpE (defs₀ (F := F)) 𝒱₀ (c : Thread nD τ) none) Set.univ (k0_t1_body (F := F) i arg2 harg2 arg3 harg3 arg4 harg4 arg5 harg5 arg6 harg6 arg7 harg7 arg8 harg8 arg9 harg9 arg10 harg10 v0 k ())
          fun _ => iprop(held (F := F) c arg3 arg4 arg8 arg9 arg10 f3 f4
            ∗ (∃ f8, ∃ f10, pt (F := F) c arg5 (arg5.view.writes (Elt F) f5 (T5 c arg3 arg4 arg8 arg9 arg10 v0 k f3 f4 f8 f10))
              ∗ pt (F := F) c arg6 (arg6.view.writes (Elt F) f6 (trip.sl.H6_2 c arg3 arg4 arg8 arg9 v0 k f3 f4 f8)))) := by
  unfold k0_t1_body
  iintro ⟨⟨H3, H4, ⟨%f8, H8⟩, ⟨%f9, H9⟩, ⟨%f10, H10⟩⟩, H5, H6⟩
  sl_exec_parts!
  sl_step
  isplitl [H3 H4 H8 H9 H10]
  · isplitl [H3]; · iexact H3
    isplitl [H4]; · iexact H4
    isplitl [H8]; · iexists _; iexact H8
    isplitl [H9]; · iexists _; iexact H9
    iexists _; iexact H10
  iexists f8
  iexists f10
  isplitl [H5]; · iexact H5
  iexact H6

end Cert.Proof.KernelIdeal
-- ==== Proof.TripSpec.lean ====
module

public import proofs.«01_k».proof.Proof.GroupCodes
public import proofs.«01_k».proof.Proof.ValueTrip

/-! What one trip leaves in the two outputs, element by element. -/

@[expose] public section

set_option maxRecDepth 65536
set_option maxHeartbeats 1000000

noncomputable section

namespace Cert.Proof.KernelIdeal

open Cert.KernelIdeal Cert.KernelIdeal.Gen
open Idealize.ShloMosaic Idealize.ShloMosaic.TcCoe

/-- The greatest magnitude of a block's eight bytes. -/
def bmax (x : Fin 8 → BitVec 8) : EReal :=
  max (max (max (max (val (x 0) 1) (val (x 4) 1)) (max (val (x 1) 1) (val (x 5) 1))) (max (max (val (x 2) 1) (val (x 6) 1)) (max (val (x 3) 1) (val (x 7) 1))))
    (max (max (max (val (x 0) 0) (val (x 4) 0)) (max (val (x 1) 0) (val (x 5) 0))) (max (max (val (x 2) 0) (val (x 6) 0)) (max (val (x 3) 0) (val (x 7) 0))))

/-- The tensor scale, and six times it. -/
def tsc (v0 : EReal) : EReal := k0_pay1 (F := Ideal) v0 (ix2 (0 : Fin 8) (0 : Fin 128))
def tsc6 (v0 : EReal) : EReal := k0_pay3 (F := Ideal) v0 (ix2 (0 : Fin 8) (0 : Fin 128))

/-- A block's scale, from its bytes and its factor's exponent. -/
def osA (x : Fin 8 → BitVec 8) (e : BitVec 8) (v0 : EReal) : EReal := scl (tsc6 v0) (bmax x) (fac (F := Ideal) e)
/-- A block's multiplier. -/
def mA (x : Fin 8 → BitVec 8) (e : BitVec 8) (v0 : EReal) : EReal := mlt (osA x e v0 * tsc v0) (fac (F := Ideal) e)

abbrev Xrow (X : Vec Ideal S1x9216x128 .i8) (ρ : Fin 1152) (l : Fin 128) (q : Fin 8) : BitVec 8 := X (ix3 (0 : Fin 1) (⟨8 * ρ.val + q.val, by omega⟩ : Fin 9216) l)
abbrev Srow (S : Vec Ideal S1x576x128 .i8) (ρ : Fin 1152) (l : Fin 128) : BitVec 8 := S (ix3 (0 : Fin 1) (⟨ρ.val / 2, by omega⟩ : Fin 576) l)

/-- The block of scales and the block of code bytes, from the block of code bytes and the block of factors. -/
def osB (X : Vec Ideal S1x9216x128 .i8) (S : Vec Ideal S1x576x128 .i8) (v0 : EReal) (ρ : Fin 1152) (l : Fin 128) : EReal :=
  osA (Xrow X ρ l) (Srow S ρ l) v0
def oB (X : Vec Ideal S1x9216x128 .i8) (S : Vec Ideal S1x576x128 .i8) (v0 : EReal) (ρ : Fin 9216) (l : Fin 128) : BitVec 8 :=
  obyte (X (ix3 (0 : Fin 1) ρ l)) (mA (Xrow X ⟨ρ.val / 8, by omega⟩ l) (Srow S ⟨ρ.val / 8, by omega⟩ l) v0)

variable (c : Dev nD) (arg3 : Memref sig .tc .vmem S1x9216x128 .i8) (arg4 : Memref sig .tc .vmem S1x576x128 .i8)
    (arg8 : Memref sig .tc .vmem S1152x128 .f32) (arg9 arg10 : Memref sig .tc .vmem S4608x2x128 .bf16) (v0 : Elt Ideal .f32) (k : Fin k0_t1_loop.trips)
    (f3 : Bf (F := Ideal) c arg3) (f4 : Bf (F := Ideal) c arg4) (f8 : Bf (F := Ideal) c arg8) (f10 : Bf (F := Ideal) c arg10)

abbrev RX : Vec Ideal S1x9216x128 .i8 := arg3.view.read (Elt Ideal) f3
abbrev RS : Vec Ideal S1x576x128 .i8 := arg4.view.read (Elt Ideal) f4

theorem gs_gen (h : Fin 2) (g : Fin 4) (a0 a1 a2 a3 : Vec Ideal S8x2x128 .bf16)
    (h0 : ∀ (i : Fin 8) (p : Fin 2) (l : Fin 128), a0 (ix3 i p l) = maxS (F := Ideal) (xg c arg3 k f3 h g) (ix3 (⟨4 * i.val + (0 : Fin 4).val, by show 4 * i.val + 0 < 32; omega⟩ : Fin 32) p l))
    (h1 : ∀ (i : Fin 8) (p : Fin 2) (l : Fin 128), a1 (ix3 i p l) = maxS (F := Ideal) (xg c arg3 k f3 h g) (ix3 (⟨4 * i.val + (1 : Fin 4).val, by show 4 * i.val + 1 < 32; omega⟩ : Fin 32) p l))
    (h2 : ∀ (i : Fin 8) (p : Fin 2) (l : Fin 128), a2 (ix3 i p l) = maxS (F := Ideal) (xg c arg3 k f3 h g) (ix3 (⟨4 * i.val + (2 : Fin 4).val, by show 4 * i.val + 2 < 32; omega⟩ : Fin 32) p l))
    (h3 : ∀ (i : Fin 8) (p : Fin 2) (l : Fin 128), a3 (ix3 i p l) = maxS (F := Ideal) (xg c arg3 k f3 h g) (ix3 (⟨4 * i.val + (3 : Fin 4).val, by show 4 * i.val + 3 < 32; omega⟩ : Fin 32) p l))
    (i : Fin 8) (l : Fin 128) :
    gscale (F := Ideal) (k0_pay3 (F := Ideal) v0) (gmax (F := Ideal) a0 a1 a2 a3) (fg c arg4 arg8 k f4 f8 h g) (ix2 i l)
      = osB (RX c arg3 f3) (RS c arg4 f4) v0 ⟨gi k h g * 8 + i.val, by have := gi_lt k h g; omega⟩ l := by
  have hg := gi_lt k h g
  have hb : ∀ (b : Fin 4) (kk : Fin 2) (q : Fin 8), q.val = 4 * kk.val + b.val → bx (xg c arg3 k f3 h g) kk (⟨4 * i.val + b.val, by omega⟩ : Fin 32) l
      = Xrow (RX c arg3 f3) ⟨gi k h g * 8 + i.val, by omega⟩ l q := by
    intro b kk q hq
    unfold bx
    rw [xg_apply]
    show arg3.view.read (Elt Ideal) f3 _ = arg3.view.read (Elt Ideal) f3 _
    congr 2
    apply Fin.ext
    show gi k h g * 64 + (8 * ((4 * i.val + b.val) / 4) + 4 * kk.val + (4 * i.val + b.val) % 4) = 8 * (gi k h g * 8 + i.val) + q.val
    omega
  rw [gscale_apply, gmax_apply, fg_apply]
  simp only [h0, h1, h2, h3, maxS_apply]
  rw [hb 0 0 0 rfl, hb 0 1 4 rfl, hb 1 0 1 rfl, hb 1 1 5 rfl, hb 2 0 2 rfl, hb 2 1 6 rfl, hb 3 0 3 rfl, hb 3 1 7 rfl]
  rfl

/-- The code bytes of a group, from its blocks' effective scales. -/
theorem codes_gen (h : Fin 2) (g : Fin 4) (e : FVec Ideal S8x128 .f32) (R : Vec Ideal S32x2x128 .bf16)
    (he : ∀ (i : Fin 8) (l : Fin 128), e (ix2 i l) = osB (RX c arg3 f3) (RS c arg4 f4) v0 ⟨gi k h g * 8 + i.val, by have := gi_lt k h g; omega⟩ l * tsc v0)
    (hR : ∀ (r : Fin 32) (p : Fin 2) (l : Fin 128), R (ix3 r p l) = multS (F := Ideal) (mult (F := Ideal) e (fg c arg4 arg8 k f4 f8 h g)) (ix3 (⟨r.val / 4, by omega⟩ : Fin 8) p l))
    (ρ : Fin 64) (l : Fin 128) :
    codes (F := Ideal) (xg c arg3 k f3 h g) R (ix3 (0 : Fin 1) ρ l) = oB (RX c arg3 f3) (RS c arg4 f4) v0 ⟨gi k h g * 64 + ρ.val, by have := gi_lt k h g; omega⟩ l := by
  have hg := gi_lt k h g
  have hm := codes_apply (xg c arg3 k f3 h g) R
    (fun i l => mA (Xrow (RX c arg3 f3) ⟨gi k h g * 8 + i.val, by omega⟩ l) (Srow (RS c arg4 f4) ⟨gi k h g * 8 + i.val, by omega⟩ l) v0)
    (fun r p l => by rw [hR, multS_apply, mult_apply, he, fg_apply]; rfl) ρ l
  refine hm.trans ?_
  rw [xg_apply]
  have e1 : (⟨gi k h g * 8 + ρ.val / 8, by omega⟩ : Fin 1152) = ⟨(gi k h g * 64 + ρ.val) / 8, by omega⟩ := Fin.ext (by show gi k h g * 8 + ρ.val / 8 = (gi k h g * 64 + ρ.val) / 8; omega)
  show obyte _ (mA (Xrow (RX c arg3 f3) ⟨gi k h g * 8 + ρ.val / 8, _⟩ l) (Srow (RS c arg4 f4) ⟨gi k h g * 8 + ρ.val / 8, _⟩ l) v0) = _
  unfold oB
  rw [e1]

theorem gs00_apply (i : Fin 8) (l : Fin 128) : gs00 c arg3 arg4 arg8 arg9 v0 k f3 f4 f8 (ix2 i l) = osB (RX c arg3 f3) (RS c arg4 f4) v0 ⟨gi k 0 0 * 8 + i.val, by have := gi_lt k 0 0; omega⟩ l := by
  refine gs_gen c arg3 arg4 arg8 v0 k f3 f4 f8 0 0 _ _ _ _ ?_ ?_ ?_ ?_ i l
  · intro i p l; unfold trip.sl.v129_raw; rw [H9_1_eq]; exact raw_apply arg9 k 0 0 0 _ _ _ rfl i p l
  · intro i p l; unfold trip.sl.v134_raw; rw [H9_1_eq]; exact raw_apply arg9 k 0 0 1 _ _ _ rfl i p l
  · intro i p l; unfold trip.sl.v139_raw; rw [H9_1_eq]; exact raw_apply arg9 k 0 0 2 _ _ _ rfl i p l
  · intro i p l; unfold trip.sl.v144_raw; rw [H9_1_eq]; exact raw_apply arg9 k 0 0 3 _ _ _ rfl i p l
theorem gs01_apply (i : Fin 8) (l : Fin 128) : gs01 c arg3 arg4 arg8 arg9 v0 k f3 f4 f8 (ix2 i l) = osB (RX c arg3 f3) (RS c arg4 f4) v0 ⟨gi k 0 1 * 8 + i.val, by have := gi_lt k 0 1; omega⟩ l := by
  refine gs_gen c arg3 arg4 arg8 v0 k f3 f4 f8 0 1 _ _ _ _ ?_ ?_ ?_ ?_ i l
  · intro i p l; unfold trip.sl.v252_raw; rw [H9_2_eq]; exact raw_apply arg9 k 0 1 0 _ _ _ rfl i p l
  · intro i p l; unfold trip.sl.v257_raw; rw [H9_2_eq]; exact raw_apply arg9 k 0 1 1 _ _ _ rfl i p l
  · intro i p l; unfold trip.sl.v262_raw; rw [H9_2_eq]; exact raw_apply arg9 k 0 1 2 _ _ _ rfl i p l
  · intro i p l; unfold trip.sl.v267_raw; rw [H9_2_eq]; exact raw_apply arg9 k 0 1 3 _ _ _ rfl i p l
theorem gs02_apply (i : Fin 8) (l : Fin 128) : gs02 c arg3 arg4 arg8 arg9 v0 k f3 f4 f8 (ix2 i l) = osB (RX c arg3 f3) (RS c arg4 f4) v0 ⟨gi k 0 2 * 8 + i.val, by have := gi_lt k 0 2; omega⟩ l := by
  refine gs_gen c arg3 arg4 arg8 v0 k f3 f4 f8 0 2 _ _ _ _ ?_ ?_ ?_ ?_ i l
  · intro i p l; unfold trip.sl.v375_raw; rw [H9_3_eq]; exact raw_apply arg9 k 0 2 0 _ _ _ rfl i p l
  · intro i p l; unfold trip.sl.v380_raw; rw [H9_3_eq]; exact raw_apply arg9 k 0 2 1 _ _ _ rfl i p l
  · intro i p l; unfold trip.sl.v385_raw; rw [H9_3_eq]; exact raw_apply arg9 k 0 2 2 _ _ _ rfl i p l
  · intro i p l; unfold trip.sl.v390_raw; rw [H9_3_eq]; exact raw_apply arg9 k 0 2 3 _ _ _ rfl i p l
theorem gs03_apply (i : Fin 8) (l : Fin 128) : gs03 c arg3 arg4 arg8 arg9 v0 k f3 f4 f8 (ix2 i l) = osB (RX c arg3 f3) (RS c arg4 f4) v0 ⟨gi k 0 3 * 8 + i.val, by have := gi_lt k 0 3; omega⟩ l := by
  refine gs_gen c arg3 arg4 arg8 v0 k f3 f4 f8 0 3 _ _ _ _ ?_ ?_ ?_ ?_ i l
  · intro i p l; unfold trip.sl.v498_raw; rw [H9_4_eq]; exact raw_apply arg9 k 0 3 0 _ _ _ rfl i p l
  · intro i p l; unfold trip.sl.v503_raw; rw [H9_4_eq]; exact raw_apply arg9 k 0 3 1 _ _ _ rfl i p l
  · intro i p l; unfold trip.sl.v508_raw; rw [H9_4_eq]; exact raw_apply arg9 k 0 3 2 _ _ _ rfl i p l
  · intro i p l; unfold trip.sl.v513_raw; rw [H9_4_eq]; exact raw_apply arg9 k 0 3 3 _ _ _ rfl i p l

theorem bs0_apply (r : Fin 32) (l : Fin 128) : bs0 c arg3 arg4 arg8 arg9 v0 k f3 f4 f8 (ix2 r l) = osB (RX c arg3 f3) (RS c arg4 f4) v0 ⟨k.val * 64 + 32 * 0 + r.val, by have : k.val < 18 := k.isLt; omega⟩ l := by
  have hk : k.val < 18 := k.isLt
  have hr : r = ⟨8 * (⟨r.val / 8, by omega⟩ : Fin 4).val + (⟨r.val % 8, by omega⟩ : Fin 8).val, by show 8 * (r.val / 8) + r.val % 8 < 32; omega⟩ := Fin.ext (by show r.val = 8 * (r.val / 8) + r.val % 8; omega)
  have key : ∀ (g : Fin 4) (i : Fin 8), bs0 c arg3 arg4 arg8 arg9 v0 k f3 f4 f8 (ix2 (⟨8 * g.val + i.val, by omega⟩ : Fin 32) l) = osB (RX c arg3 f3) (RS c arg4 f4) v0 ⟨gi k 0 g * 8 + i.val, by have := gi_lt k 0 g; omega⟩ l := by
    intro g i
    refine (cat4_apply _ _ _ _ g i l).trans ?_
    fin_cases g
    · exact gs00_apply c arg3 arg4 arg8 arg9 v0 k f3 f4 f8 i l |> fun e => e
    · exact gs01_apply c arg3 arg4 arg8 arg9 v0 k f3 f4 f8 i l
    · exact gs02_apply c arg3 arg4 arg8 arg9 v0 k f3 f4 f8 i l
    · exact gs03_apply c arg3 arg4 arg8 arg9 v0 k f3 f4 f8 i l
  refine (congrArg (fun r => bs0 c arg3 arg4 arg8 arg9 v0 k f3 f4 f8 (ix2 r l)) hr).trans ((key _ _).trans ?_)
  congr 1
  apply Fin.ext
  show (k.val * 8 + 4 * 0 + r.val / 8) * 8 + r.val % 8 = k.val * 64 + 32 * 0 + r.val
  omega

theorem gs10_apply (i : Fin 8) (l : Fin 128) : gs10 c arg3 arg4 arg8 arg9 v0 k f3 f4 f8 (ix2 i l) = osB (RX c arg3 f3) (RS c arg4 f4) v0 ⟨gi k 1 0 * 8 + i.val, by have := gi_lt k 1 0; omega⟩ l := by
  refine gs_gen c arg3 arg4 arg8 v0 k f3 f4 f8 1 0 _ _ _ _ ?_ ?_ ?_ ?_ i l
  · intro i p l; unfold trip.sl.v1806_raw; rw [H9_5_eq]; exact raw_apply arg9 k 1 0 0 _ _ _ rfl i p l
  · intro i p l; unfold trip.sl.v1811_raw; rw [H9_5_eq]; exact raw_apply arg9 k 1 0 1 _ _ _ rfl i p l
  · intro i p l; unfold trip.sl.v1816_raw; rw [H9_5_eq]; exact raw_apply arg9 k 1 0 2 _ _ _ rfl i p l
  · intro i p l; unfold trip.sl.v1821_raw; rw [H9_5_eq]; exact raw_apply arg9 k 1 0 3 _ _ _ rfl i p l
theorem gs11_apply (i : Fin 8) (l : Fin 128) : gs11 c arg3 arg4 arg8 arg9 v0 k f3 f4 f8 (ix2 i l) = osB (RX c arg3 f3) (RS c arg4 f4) v0 ⟨gi k 1 1 * 8 + i.val, by have := gi_lt k 1 1; omega⟩ l := by
  refine gs_gen c arg3 arg4 arg8 v0 k f3 f4 f8 1 1 _ _ _ _ ?_ ?_ ?_ ?_ i l
  · intro i p l; unfold trip.sl.v1929_raw; rw [H9_6_eq]; exact raw_apply arg9 k 1 1 0 _ _ _ rfl i p l
  · intro i p l; unfold trip.sl.v1934_raw; rw [H9_6_eq]; exact raw_apply arg9 k 1 1 1 _ _ _ rfl i p l
  · intro i p l; unfold trip.sl.v1939_raw; rw [H9_6_eq]; exact raw_apply arg9 k 1 1 2 _ _ _ rfl i p l
  · intro i p l; unfold trip.sl.v1944_raw; rw [H9_6_eq]; exact raw_apply arg9 k 1 1 3 _ _ _ rfl i p l
theorem gs12_apply (i : Fin 8) (l : Fin 128) : gs12 c arg3 arg4 arg8 arg9 v0 k f3 f4 f8 (ix2 i l) = osB (RX c arg3 f3) (RS c arg4 f4) v0 ⟨gi k 1 2 * 8 + i.val, by have := gi_lt k 1 2; omega⟩ l := by
  refine gs_gen c arg3 arg4 arg8 v0 k f3 f4 f8 1 2 _ _ _ _ ?_ ?_ ?_ ?_ i l
  · intro i p l; unfold trip.sl.v2052_raw; rw [H9_7_eq]; exact raw_apply arg9 k 1 2 0 _ _ _ rfl i p l
  · intro i p l; unfold trip.sl.v2057_raw; rw [H9_7_eq]; exact raw_apply arg9 k 1 2 1 _ _ _ rfl i p l
  · intro i p l; unfold trip.sl.v2062_raw; rw [H9_7_eq]; exact raw_apply arg9 k 1 2 2 _ _ _ rfl i p l
  · intro i p l; unfold trip.sl.v2067_raw; rw [H9_7_eq]; exact raw_apply arg9 k 1 2 3 _ _ _ rfl i p l
theorem gs13_apply (i : Fin 8) (l : Fin 128) : gs13 c arg3 arg4 arg8 arg9 v0 k f3 f4 f8 (ix2 i l) = osB (RX c arg3 f3) (RS c arg4 f4) v0 ⟨gi k 1 3 * 8 + i.val, by have := gi_lt k 1 3; omega⟩ l := by
  refine gs_gen c arg3 arg4 arg8 v0 k f3 f4 f8 1 3 _ _ _ _ ?_ ?_ ?_ ?_ i l
  · intro i p l; unfold trip.sl.v2175_raw; rw [H9_8_eq]; exact raw_apply arg9 k 1 3 0 _ _ _ rfl i p l
  · intro i p l; unfold trip.sl.v2180_raw; rw [H9_8_eq]; exact raw_apply arg9 k 1 3 1 _ _ _ rfl i p l
  · intro i p l; unfold trip.sl.v2185_raw; rw [H9_8_eq]; exact raw_apply arg9 k 1 3 2 _ _ _ rfl i p l
  · intro i p l; unfold trip.sl.v2190_raw; rw [H9_8_eq]; exact raw_apply arg9 k 1 3 3 _ _ _ rfl i p l

theorem bs1_apply (r : Fin 32) (l : Fin 128) : bs1 c arg3 arg4 arg8 arg9 v0 k f3 f4 f8 (ix2 r l) = osB (RX c arg3 f3) (RS c arg4 f4) v0 ⟨k.val * 64 + 32 * 1 + r.val, by have : k.val < 18 := k.isLt; omega⟩ l := by
  have hk : k.val < 18 := k.isLt
  have hr : r = ⟨8 * (⟨r.val / 8, by omega⟩ : Fin 4).val + (⟨r.val % 8, by omega⟩ : Fin 8).val, by show 8 * (r.val / 8) + r.val % 8 < 32; omega⟩ := Fin.ext (by show r.val = 8 * (r.val / 8) + r.val % 8; omega)
  have key : ∀ (g : Fin 4) (i : Fin 8), bs1 c arg3 arg4 arg8 arg9 v0 k f3 f4 f8 (ix2 (⟨8 * g.val + i.val, by omega⟩ : Fin 32) l) = osB (RX c arg3 f3) (RS c arg4 f4) v0 ⟨gi k 1 g * 8 + i.val, by have := gi_lt k 1 g; omega⟩ l := by
    intro g i
    refine (cat4_apply _ _ _ _ g i l).trans ?_
    fin_cases g
    · exact gs10_apply c arg3 arg4 arg8 arg9 v0 k f3 f4 f8 i l |> fun e => e
    · exact gs11_apply c arg3 arg4 arg8 arg9 v0 k f3 f4 f8 i l
    · exact gs12_apply c arg3 arg4 arg8 arg9 v0 k f3 f4 f8 i l
    · exact gs13_apply c arg3 arg4 arg8 arg9 v0 k f3 f4 f8 i l
  refine (congrArg (fun r => bs1 c arg3 arg4 arg8 arg9 v0 k f3 f4 f8 (ix2 r l)) hr).trans ((key _ _).trans ?_)
  congr 1
  apply Fin.ext
  show (k.val * 8 + 4 * 1 + r.val / 8) * 8 + r.val % 8 = k.val * 64 + 32 * 1 + r.val
  omega

theorem co00_apply (ρ : Fin 64) (l : Fin 128) : codes (xg c arg3 k f3 0 0) (rr00 c arg3 arg4 arg8 arg9 arg10 v0 k f3 f4 f8 f10) (ix3 (0 : Fin 1) ρ l)
    = oB (RX c arg3 f3) (RS c arg4 f4) v0 ⟨gi k 0 0 * 64 + ρ.val, by have := gi_lt k 0 0; omega⟩ l := by
  have hk : k.val < 18 := k.isLt
  refine codes_gen c arg3 arg4 arg8 v0 k f3 f4 f8 0 0 (ef00 c arg3 arg4 arg8 arg9 v0 k f3 f4 f8) _ ?_ ?_ ρ l
  · intro i l
    refine (effOf_apply _ _ _ _ i l (by omega)).trans ?_
    rw [bs0_apply]
    show osB _ _ _ ⟨k.val * 64 + 32 * 0 + (0 + i.val), _⟩ l * tsc v0 = osB _ _ _ ⟨(k.val * 8 + 4 * 0 + 0) * 8 + i.val, _⟩ l * tsc v0
    congr 2
    apply Fin.ext
    show k.val * 64 + 32 * 0 + (0 + i.val) = (k.val * 8 + 4 * 0 + 0) * 8 + i.val
    omega
  · intro r p l
    unfold rr00
    rw [H10_4_eq]
    exact rr_apply c arg10 k f10 0 0 _ _ r p l

theorem co01_apply (ρ : Fin 64) (l : Fin 128) : codes (xg c arg3 k f3 0 1) (rr01 c arg3 arg4 arg8 arg9 arg10 v0 k f3 f4 f8 f10) (ix3 (0 : Fin 1) ρ l)
    = oB (RX c arg3 f3) (RS c arg4 f4) v0 ⟨gi k 0 1 * 64 + ρ.val, by have := gi_lt k 0 1; omega⟩ l := by
  have hk : k.val < 18 := k.isLt
  refine codes_gen c arg3 arg4 arg8 v0 k f3 f4 f8 0 1 (ef01 c arg3 arg4 arg8 arg9 v0 k f3 f4 f8) _ ?_ ?_ ρ l
  · intro i l
    refine (effOf_apply _ _ _ _ i l (by omega)).trans ?_
    rw [bs0_apply]
    show osB _ _ _ ⟨k.val * 64 + 32 * 0 + (8 + i.val), _⟩ l * tsc v0 = osB _ _ _ ⟨(k.val * 8 + 4 * 0 + 1) * 8 + i.val, _⟩ l * tsc v0
    congr 2
    apply Fin.ext
    show k.val * 64 + 32 * 0 + (8 + i.val) = (k.val * 8 + 4 * 0 + 1) * 8 + i.val
    omega
  · intro r p l
    unfold rr01
    rw [H10_8_eq]
    exact rr_apply c arg10 k f10 0 1 _ _ r p l

theorem co02_apply (ρ : Fin 64) (l : Fin 128) : codes (xg c arg3 k f3 0 2) (rr02 c arg3 arg4 arg8 arg9 arg10 v0 k f3 f4 f8 f10) (ix3 (0 : Fin 1) ρ l)
    = oB (RX c arg3 f3) (RS c arg4 f4) v0 ⟨gi k 0 2 * 64 + ρ.val, by have := gi_lt k 0 2; omega⟩ l := by
  have hk : k.val < 18 := k.isLt
  refine codes_gen c arg3 arg4 arg8 v0 k f3 f4 f8 0 2 (ef02 c arg3 arg4 arg8 arg9 v0 k f3 f4 f8) _ ?_ ?_ ρ l
  · intro i l
    refine (effOf_apply _ _ _ _ i l (by omega)).trans ?_
    rw [bs0_apply]
    show osB _ _ _ ⟨k.val * 64 + 32 * 0 + (16 + i.val), _⟩ l * tsc v0 = osB _ _ _ ⟨(k.val * 8 + 4 * 0 + 2) * 8 + i.val, _⟩ l * tsc v0
    congr 2
    apply Fin.ext
    show k.val * 64 + 32 * 0 + (16 + i.val) = (k.val * 8 + 4 * 0 + 2) * 8 + i.val
    omega
  · intro r p l
    unfold rr02
    rw [H10_12_eq]
    exact rr_apply c arg10 k f10 0 2 _ _ r p l

theorem co03_apply (ρ : Fin 64) (l : Fin 128) : codes (xg c arg3 k f3 0 3) (rr03 c arg3 arg4 arg8 arg9 arg10 v0 k f3 f4 f8 f10) (ix3 (0 : Fin 1) ρ l)
    = oB (RX c arg3 f3) (RS c arg4 f4) v0 ⟨gi k 0 3 * 64 + ρ.val, by have := gi_lt k 0 3; omega⟩ l := by
  have hk : k.val < 18 := k.isLt
  refine codes_gen c arg3 arg4 arg8 v0 k f3 f4 f8 0 3 (ef03 c arg3 arg4 arg8 arg9 v0 k f3 f4 f8) _ ?_ ?_ ρ l
  · intro i l
    refine (effOf_apply _ _ _ _ i l (by omega)).trans ?_
    rw [bs0_apply]
    show osB _ _ _ ⟨k.val * 64 + 32 * 0 + (24 + i.val), _⟩ l * tsc v0 = osB _ _ _ ⟨(k.val * 8 + 4 * 0 + 3) * 8 + i.val, _⟩ l * tsc v0
    congr 2
    apply Fin.ext
    show k.val * 64 + 32 * 0 + (24 + i.val) = (k.val * 8 + 4 * 0 + 3) * 8 + i.val
    omega
  · intro r p l
    unfold rr03
    rw [H10_16_eq]
    exact rr_apply c arg10 k f10 0 3 _ _ r p l

theorem co10_apply (ρ : Fin 64) (l : Fin 128) : codes (xg c arg3 k f3 1 0) (rr10 c arg3 arg4 arg8 arg9 arg10 v0 k f3 f4 f8 f10) (ix3 (0 : Fin 1) ρ l)
    = oB (RX c arg3 f3) (RS c arg4 f4) v0 ⟨gi k 1 0 * 64 + ρ.val, by have := gi_lt k 1 0; omega⟩ l := by
  have hk : k.val < 18 := k.isLt
  refine codes_gen c arg3 arg4 arg8 v0 k f3 f4 f8 1 0 (ef10 c arg3 arg4 arg8 arg9 v0 k f3 f4 f8) _ ?_ ?_ ρ l
  · intro i l
    refine (effOf_apply _ _ _ _ i l (by omega)).trans ?_
    rw [bs1_apply]
    show osB _ _ _ ⟨k.val * 64 + 32 * 1 + (0 + i.val), _⟩ l * tsc v0 = osB _ _ _ ⟨(k.val * 8 + 4 * 1 + 0) * 8 + i.val, _⟩ l * tsc v0
    congr 2
    apply Fin.ext
    show k.val * 64 + 32 * 1 + (0 + i.val) = (k.val * 8 + 4 * 1 + 0) * 8 + i.val
    omega
  · intro r p l
    unfold rr10
    rw [H10_20_eq]
    exact rr_apply c arg10 k f10 1 0 _ _ r p l

theorem co11_apply (ρ : Fin 64) (l : Fin 128) : codes (xg c arg3 k f3 1 1) (rr11 c arg3 arg4 arg8 arg9 arg10 v0 k f3 f4 f8 f10) (ix3 (0 : Fin 1) ρ l)
    = oB (RX c arg3 f3) (RS c arg4 f4) v0 ⟨gi k 1 1 * 64 + ρ.val, by have := gi_lt k 1 1; omega⟩ l := by
  have hk : k.val < 18 := k.isLt
  refine codes_gen c arg3 arg4 arg8 v0 k f3 f4 f8 1 1 (ef11 c arg3 arg4 arg8 arg9 v0 k f3 f4 f8) _ ?_ ?_ ρ l
  · intro i l
    refine (effOf_apply _ _ _ _ i l (by omega)).trans ?_
    rw [bs1_apply]
    show osB _ _ _ ⟨k.val * 64 + 32 * 1 + (8 + i.val), _⟩ l * tsc v0 = osB _ _ _ ⟨(k.val * 8 + 4 * 1 + 1) * 8 + i.val, _⟩ l * tsc v0
    congr 2
    apply Fin.ext
    show k.val * 64 + 32 * 1 + (8 + i.val) = (k.val * 8 + 4 * 1 + 1) * 8 + i.val
    omega
  · intro r p l
    unfold rr11
    rw [H10_24_eq]
    exact rr_apply c arg10 k f10 1 1 _ _ r p l

theorem co12_apply (ρ : Fin 64) (l : Fin 128) : codes (xg c arg3 k f3 1 2) (rr12 c arg3 arg4 arg8 arg9 arg10 v0 k f3 f4 f8 f10) (ix3 (0 : Fin 1) ρ l)
    = oB (RX c arg3 f3) (RS c arg4 f4) v0 ⟨gi k 1 2 * 64 + ρ.val, by have := gi_lt k 1 2; omega⟩ l := by
  have hk : k.val < 18 := k.isLt
  refine codes_gen c arg3 arg4 arg8 v0 k f3 f4 f8 1 2 (ef12 c arg3 arg4 arg8 arg9 v0 k f3 f4 f8) _ ?_ ?_ ρ l
  · intro i l
    refine (effOf_apply _ _ _ _ i l (by omega)).trans ?_
    rw [bs1_apply]
    show osB _ _ _ ⟨k.val * 64 + 32 * 1 + (16 + i.val), _⟩ l * tsc v0 = osB _ _ _ ⟨(k.val * 8 + 4 * 1 + 2) * 8 + i.val, _⟩ l * tsc v0
    congr 2
    apply Fin.ext
    show k.val * 64 + 32 * 1 + (16 + i.val) = (k.val * 8 + 4 * 1 + 2) * 8 + i.val
    omega
  · intro r p l
    unfold rr12
    rw [H10_28_eq]
    exact rr_apply c arg10 k f10 1 2 _ _ r p l

theorem co13_apply (ρ : Fin 64) (l : Fin 128) : codes (xg c arg3 k f3 1 3) (rr13 c arg3 arg4 arg8 arg9 arg10 v0 k f3 f4 f8 f10) (ix3 (0 : Fin 1) ρ l)
    = oB (RX c arg3 f3) (RS c arg4 f4) v0 ⟨gi k 1 3 * 64 + ρ.val, by have := gi_lt k 1 3; omega⟩ l := by
  have hk : k.val < 18 := k.isLt
  refine codes_gen c arg3 arg4 arg8 v0 k f3 f4 f8 1 3 (ef13 c arg3 arg4 arg8 arg9 v0 k f3 f4 f8) _ ?_ ?_ ρ l
  · intro i l
    refine (effOf_apply _ _ _ _ i l (by omega)).trans ?_
    rw [bs1_apply]
    show osB _ _ _ ⟨k.val * 64 + 32 * 1 + (24 + i.val), _⟩ l * tsc v0 = osB _ _ _ ⟨(k.val * 8 + 4 * 1 + 3) * 8 + i.val, _⟩ l * tsc v0
    congr 2
    apply Fin.ext
    show k.val * 64 + 32 * 1 + (24 + i.val) = (k.val * 8 + 4 * 1 + 3) * 8 + i.val
    omega
  · intro r p l
    unfold rr13
    rw [H10_32_eq]
    exact rr_apply c arg10 k f10 1 3 _ _ r p l

end Cert.Proof.KernelIdeal
-- ==== Proof.Scalar.lean ====
module

public import proofs.«01_k».proof.Proof.TripSpec
public import Idealize.ShloMosaic.Lib.Pointwise

/-! Numbers: the seven magnitudes, the powers of two. -/

@[expose] public section

set_option maxRecDepth 65536
set_option maxHeartbeats 1000000

noncomputable section

namespace Cert.Proof

open Idealize.ShloMosaic
open Cert.Proof.KernelIdeal

/-- The magnitude of a code's low three bits, and of one half of a byte. -/
def tab (k : ℕ) : ℝ := match k with | 0 => 0 | 1 => 1/2 | 2 => 1 | 3 => 3/2 | 4 => 2 | 5 => 3 | 6 => 4 | _ => 6
def nibN (x : BitVec 8) (p : Fin 2) : ℕ := if p = 0 then (x &&& 7#8).toNat else ((x >>> 4) &&& 7#8).toNat
def mg (x : BitVec 8) (p : Fin 2) : ℝ := tab (nibN x p)

theorem nibN_lt (x : BitVec 8) (p : Fin 2) : nibN x p < 8 := by
  unfold nibN; split <;> (revert x; decide +kernel)

theorem fld_eq (x : BitVec 8) (p : Fin 2) : fld x p = BitVec.ofNat 32 (nibN x p) := by
  unfold fld nibN
  revert x p; decide +kernel

theorem b_half : (Ideal.ofBits .f32 0x3F000000#32 : EReal) = ((1/2 : ℝ) : EReal) := by
  simp [Ideal.ofBits, Ideal.ieee, -EReal.coe_mul]; norm_num [-EReal.coe_mul]
theorem b_one : (Ideal.ofBits .f32 0x3F800000#32 : EReal) = ((1 : ℝ) : EReal) := by
  simp [Ideal.ofBits, Ideal.ieee, -EReal.coe_mul]; norm_num [-EReal.coe_mul]
theorem b_two : (Ideal.ofBits .f32 0x40000000#32 : EReal) = ((2 : ℝ) : EReal) := by
  simp [Ideal.ofBits, Ideal.ieee, -EReal.coe_mul]; norm_num [-EReal.coe_mul]
theorem b_six : (Ideal.ofBits .f32 0x40C00000#32 : EReal) = ((6 : ℝ) : EReal) := by
  simp [Ideal.ofBits, Ideal.ieee, -EReal.coe_mul]; norm_num [-EReal.coe_mul]
theorem b_2688 : (Ideal.ofBits .f32 0x45280000#32 : EReal) = ((2688 : ℝ) : EReal) := by
  simp [Ideal.ofBits, Ideal.ieee, -EReal.coe_mul]; norm_num [-EReal.coe_mul]
theorem b_448 : (Ideal.ofBits .f32 0x43E00000#32 : EReal) = ((448 : ℝ) : EReal) := by
  simp [Ideal.ofBits, Ideal.ieee, -EReal.coe_mul]; norm_num [-EReal.coe_mul]
theorem b_ninf : (Ideal.ofBits .f32 0xFF800000#32 : EReal) = ⊥ := by
  simp [Ideal.ofBits, Ideal.ieee]

/-- The doubled magnitude of a code, as the integer selects form it. -/
def mgn (n : BitVec 32) : BitVec 32 :=
  Scalar.select (IntOp.cmpi .slt n 4#32) n
    (Scalar.select (IntOp.cmpi .slt n 6#32) (IntOp.subi (IntOp.muli 2#32 n) 4#32) (IntOp.subi (IntOp.muli 4#32 n) 16#32))
theorem half_at (n : BitVec 32) : (half (F := Ideal) (fun _ => n) (ix2 0 0) : EReal) = (((mgn n).toInt : ℝ) : EReal) * Ideal.ofBits .f32 0x3F000000#32 := by
  unfold half magn mgn
  pointwise []
  rfl

theorem val_eq (x : BitVec 8) (p : Fin 2) : val x p = ((mg x p : ℝ) : EReal) := by
  unfold val mg
  rw [fld_eq]
  have h := nibN_lt x p
  generalize nibN x p = k at h
  rw [half_at, b_half, ← EReal.coe_mul]
  congr 1
  have e0 : (mgn 0#32).toInt = 0 := by decide
  have e1 : (mgn 1#32).toInt = 1 := by decide
  have e2 : (mgn 2#32).toInt = 2 := by decide
  have e3 : (mgn 3#32).toInt = 3 := by decide
  have e4 : (mgn 4#32).toInt = 4 := by decide
  have e5 : (mgn 5#32).toInt = 6 := by decide
  have e6 : (mgn 6#32).toInt = 8 := by decide
  have e7 : (mgn 7#32).toInt = 12 := by decide
  interval_cases k
  · rw [e0]; norm_num [tab]
  · rw [e1]; norm_num [tab]
  · rw [e2]; norm_num [tab]
  · rw [e3]; norm_num [tab]
  · rw [e4]; norm_num [tab]
  · rw [e5]; norm_num [tab]
  · rw [e6]; norm_num [tab]
  · rw [e7]; norm_num [tab]

theorem tab_nonneg (k : ℕ) : 0 ≤ tab k := by unfold tab; split <;> norm_num
theorem mg_nonneg (x : BitVec 8) (p : Fin 2) : 0 ≤ mg x p := tab_nonneg _

/-- A positive normal pattern, by its exponent and fraction. -/
theorem ieee_norm (w : BitVec 32) (x f : ℕ) (hn : (w.extractLsb' (8 + 23) 1 == 1#1) = false) (hx : (w.extractLsb' 23 8).toNat = x)
    (hf : (w.extractLsb' 0 23).toNat = f) (h0 : x ≠ 0) (h1 : x ≠ 255) :
    Ideal.ieee 8 23 w = ((((2 ^ 23 + f : ℕ) : ℝ) * (2 : ℝ) ^ ((x : ℤ) - 127 - 23) : ℝ) : EReal) := by
  unfold Ideal.ieee
  simp only [hn, hx, hf]
  rw [if_neg (by norm_num; exact h1), if_neg h0]
  congr 1
  norm_num

theorem sc_neg : ∀ e : BitVec 8, (((e.zeroExtend 32) <<< 23).extractLsb' (8 + 23) 1 == 1#1) = false := by decide +kernel
theorem sc_exp : ∀ e : BitVec 8, (((e.zeroExtend 32) <<< 23).extractLsb' 23 8).toNat = e.toNat := by decide +kernel
theorem sc_frac : ∀ e : BitVec 8, (((e.zeroExtend 32) <<< 23).extractLsb' 0 23).toNat = 0 := by decide +kernel

/-- The factor of a block's scale byte. -/
theorem fac_eq (e : BitVec 8) (h1 : 1#8 ≤ e) (h2 : e ≤ 254#8) :
    (fac (F := Ideal) e : EReal) = (((2 : ℝ) ^ ((e.toNat : ℤ) - 127) : ℝ) : EReal) := by
  have g1 : 1 ≤ e.toNat := h1
  have g2 : e.toNat ≤ 254 := h2
  have h := ieee_norm _ _ _ (sc_neg e) (sc_exp e) (sc_frac e) (by omega) (by omega)
  refine Eq.trans (b := Ideal.ieee 8 23 ((e.zeroExtend 32) <<< 23)) rfl (h.trans ?_)
  congr 1
  rw [show ((e.toNat : ℤ) - 127 - 23) = ((e.toNat : ℤ) - 127) + (-23) by ring, zpow_add₀ (by norm_num)]
  norm_num
  ring

theorem pow_eq (e : BitVec 8) : Ideal.pow (Ideal.ofBits .f32 0x40000000#32) ((((IntOp.subi (e.zeroExtend 32) 127#32).toInt : ℝ)) : EReal)
    = (((2 : ℝ) ^ ((e.toNat : ℤ) - 127) : ℝ) : EReal) := by
  have h : ∀ e : BitVec 8, (IntOp.subi (e.zeroExtend 32) 127#32).toInt = (e.toNat : ℤ) - 127 := by decide +kernel
  rw [b_two, h e, Ideal.pow_coe_coe]
  congr 1
  exact Real.rpow_intCast 2 _

/-! The greatest magnitude of a block. -/
theorem le_bmax (x : Fin 8 → BitVec 8) (q : Fin 8) (p : Fin 2) : val (x q) p ≤ bmax x := by
  unfold bmax
  fin_cases q <;> fin_cases p <;> simp
theorem bmax_ex (x : Fin 8 → BitVec 8) : ∃ q p, bmax x = val (x q) p := by
  have hm : ∀ a b : EReal, (∃ q p, a = val (x q) p) → (∃ q p, b = val (x q) p) → ∃ q p, max a b = val (x q) p :=
    fun a b ha hb => by rcases max_choice a b with h | h <;> rw [h] <;> assumption
  unfold bmax
  repeat first | exact ⟨_, _, rfl⟩ | apply hm

end Cert.Proof
-- ==== Proof.Bucket.lean ====
module

public import proofs.«01_k».proof.Proof.Scalar

/-! The kernel's multiplier: the leading bits of a ratio `R`, moved to the middle of their bucket, decide
every threshold as `R` itself does. -/

@[expose] public section

set_option maxRecDepth 65536
set_option maxHeartbeats 1000000

noncomputable section

namespace Cert.Proof

open Idealize.ShloMosaic
open Cert.Proof.KernelIdeal

/-- Four times each threshold, and twice each magnitude but zero. -/
def ths : List ℕ := [1, 3, 5, 7, 10, 14, 20]
def mgs : List ℕ := [1, 2, 3, 4, 6, 8, 12]

/-- `y` lies strictly on the side of each threshold on which `n * R / 6` lies. -/
def Th (n : ℕ) (R y : ℝ) : Prop :=
  ∀ t ∈ ths, ((t : ℝ) / 4 ≤ n * R / 6 ∧ (t : ℝ) / 4 < y) ∨ ((n : ℝ) * R / 6 < t / 4 ∧ y < t / 4)

/-- Sixteen times the lower edge of a bucket, and its middle. -/
def gn (k : ℕ) : ℕ := 2 * (16 + k % 16) * 2 ^ (k / 16)
def mn (k : ℕ) : ℕ := gn k + 2 ^ (k / 16)

theorem dec_tab : ∀ k : Fin 64, ∀ n ∈ mgs, ∀ t ∈ ths, (24 * t ≤ n * gn k.val ∧ t * 24 * 33554432 < n * mn k.val * 33554433)
    ∨ (n * gn (k.val + 1) ≤ 24 * t ∧ n * mn k.val * 33554433 < t * 24 * 33554432) := by decide +kernel

def cC : ℝ := 33554433 / 100663296
theorem b_third : (Ideal.ofBits .f32 0x3EAAAAAB#32 : EReal) = ((cC : ℝ) : EReal) := by
  unfold cC
  simp [Ideal.ofBits, Ideal.ieee, -EReal.coe_mul]; norm_num [-EReal.coe_mul]

theorem th_bucket (k : Fin 64) (n : ℕ) (hn : n ∈ mgs) (R : ℝ) (h1 : (gn k.val : ℝ) ≤ 16 * R) (h2 : 16 * R < gn (k.val + 1)) :
    Th n R ((n : ℝ) / 2 * ((mn k.val : ℝ) / 16 * cC)) := by
  intro t ht
  have hp : (0 : ℝ) < n := by
    have : ∀ n ∈ mgs, 0 < n := by decide
    exact_mod_cast this n hn
  rcases dec_tab k n hn t ht with ⟨a, b⟩ | ⟨a, b⟩
  · left
    have a' : (24 : ℝ) * t ≤ n * gn k.val := by exact_mod_cast a
    have b' : (t : ℝ) * 24 * 33554432 < n * mn k.val * 33554433 := by exact_mod_cast b
    have c := mul_le_mul_of_nonneg_left h1 hp.le
    constructor
    · linarith
    · unfold cC; linarith
  · right
    have a' : (n : ℝ) * gn (k.val + 1) ≤ 24 * t := by exact_mod_cast a
    have b' : (n : ℝ) * mn k.val * 33554433 < t * 24 * 33554432 := by exact_mod_cast b
    have c := mul_lt_mul_of_pos_left h2 hp
    constructor
    · linarith
    · unfold cC; linarith

theorem th_big (n : ℕ) (hn : n ∈ mgs) (R M : ℝ) (h1 : 32 ≤ R) (h2 : 32 ≤ M) : Th n R ((n : ℝ) / 2 * (M * cC)) := by
  intro t ht
  left
  have hp : (1 : ℝ) ≤ n := by
    have : ∀ n ∈ mgs, 1 ≤ n := by decide
    exact_mod_cast this n hn
  have ht' : (t : ℝ) ≤ 20 := by
    have : ∀ n ∈ ths, n ≤ 20 := by decide
    exact_mod_cast this t ht
  have c1 : (32 : ℝ) ≤ n * R := by nlinarith
  have c2 : (32 : ℝ) ≤ n * M := by nlinarith
  constructor
  · linarith
  · unfold cC; linarith

theorem ex_bucket (f : ℕ → ℝ) (R : ℝ) (n : ℕ) (h0 : f 0 ≤ R) (h1 : R < f n) : ∃ k, k < n ∧ f k ≤ R ∧ R < f (k + 1) := by
  induction n with
  | zero => exact absurd h0 (not_le.mpr h1)
  | succ n ih =>
    by_cases h : R < f n
    · obtain ⟨k, a, b, c⟩ := ih h
      exact ⟨k, by omega, b, c⟩
    · exact ⟨n, by omega, not_lt.mp h, h1⟩

/-! The words of the bucket edges. -/
def bw (j : ℕ) : BitVec 32 := BitVec.ofNat 32 (j * 524288)

theorem w_neg : ∀ k : Fin 65, ((bw (2048 + k.val)).extractLsb' (8 + 23) 1 == 1#1) = false := by decide +kernel
theorem w_exp : ∀ k : Fin 65, ((bw (2048 + k.val)).extractLsb' 23 8).toNat = 128 + k.val / 16 := by decide +kernel
theorem w_frac : ∀ k : Fin 65, ((bw (2048 + k.val)).extractLsb' 0 23).toNat = (k.val % 16) * 524288 := by decide +kernel
theorem m_neg : ∀ k : Fin 64, ((bw (2048 + k.val) ||| 262144#32).extractLsb' (8 + 23) 1 == 1#1) = false := by decide +kernel
theorem m_exp : ∀ k : Fin 64, ((bw (2048 + k.val) ||| 262144#32).extractLsb' 23 8).toNat = 128 + k.val / 16 := by decide +kernel
theorem m_frac : ∀ k : Fin 64, ((bw (2048 + k.val) ||| 262144#32).extractLsb' 0 23).toNat = (k.val % 16) * 524288 + 262144 := by decide +kernel

theorem pw (j : ℕ) : (2 : ℝ) ^ (((128 + j : ℕ) : ℤ) - 127 - 23) = 2 ^ j / 4194304 := by
  rw [show (((128 + j : ℕ) : ℤ) - 127 - 23) = (j : ℤ) + (-22) by push_cast; ring, zpow_add₀ (by norm_num), zpow_natCast]
  norm_num
  ring

theorem w_val (k : Fin 65) : (Ideal.ofBits .f32 (bw (2048 + k.val)) : EReal) = (((gn k.val : ℝ) / 16 : ℝ) : EReal) := by
  have h := ieee_norm _ _ _ (w_neg k) (w_exp k) (w_frac k) (by omega) (by omega)
  refine Eq.trans (b := Ideal.ieee 8 23 (bw (2048 + k.val))) rfl (h.trans ?_)
  congr 1
  rw [pw]
  unfold gn
  generalize k.val % 16 = a
  generalize k.val / 16 = j
  push_cast
  ring
theorem m_val (k : Fin 64) : (Ideal.ofBits .f32 (bw (2048 + k.val) ||| 262144#32) : EReal) = (((mn k.val : ℝ) / 16 : ℝ) : EReal) := by
  have h := ieee_norm _ _ _ (m_neg k) (m_exp k) (m_frac k) (by omega) (by omega)
  refine Eq.trans (b := Ideal.ieee 8 23 (bw (2048 + k.val) ||| 262144#32)) rfl (h.trans ?_)
  congr 1
  rw [pw]
  unfold mn gn
  generalize k.val % 16 = a
  generalize k.val / 16 = j
  push_cast
  ring

/-- A pattern of exponent at least 132 is a number of at least 32. -/
theorem big_val (w : BitVec 32) (hn : (w.extractLsb' (8 + 23) 1 == 1#1) = false) (h0 : 132 ≤ (w.extractLsb' 23 8).toNat)
    (h1 : (w.extractLsb' 23 8).toNat ≠ 255) : ∃ M : ℝ, (Ideal.ofBits .f32 w : EReal) = ((M : ℝ) : EReal) ∧ 32 ≤ M := by
  refine ⟨_, ieee_norm w _ _ hn rfl rfl (by omega) h1, ?_⟩
  have e : (2 : ℝ) ^ (-18 : ℤ) ≤ (2 : ℝ) ^ (((w.extractLsb' 23 8).toNat : ℤ) - 127 - 23) :=
    zpow_le_zpow_right₀ (by norm_num) (by omega)
  have f : ((2 ^ 23 : ℕ) : ℝ) ≤ ((2 ^ 23 + (w.extractLsb' 0 23).toNat : ℕ) : ℝ) := by exact_mod_cast Nat.le_add_right _ _
  calc (32 : ℝ) = ((2 ^ 23 : ℕ) : ℝ) * (2 : ℝ) ^ (-18 : ℤ) := by norm_num
    _ ≤ _ := mul_le_mul f e (by positivity) (by positivity)

/-! The bisection, inside the buckets. -/
def tN (K lo b : ℕ) : ℕ := if lo + b ≤ K then lo + b else lo
def valid (j : ℕ) : Prop := (2048 ≤ j ∧ j ≤ 2112) ∨ j = 3072 ∨ j = 2560 ∨ j = 2304 ∨ j = 2176
instance (j : ℕ) : Decidable (valid j) := by unfold valid; infer_instance

theorem gn_mono : ∀ i j : Fin 65, i < j → gn i.val < gn j.val := by decide +kernel

theorem cmpW (k : Fin 64) (R : ℝ) (h1 : (gn k.val : ℝ) ≤ 16 * R) (h2 : 16 * R < gn (k.val + 1)) (j : ℕ) (hj : valid j) :
    ((Ideal.ofBits .f32 (bw j) : EReal) ≤ ((R : ℝ) : EReal)) ↔ j ≤ 2048 + k.val := by
  have hb : ∀ i j : Fin 65, i ≤ j → (gn i.val : ℝ) ≤ gn j.val := fun i j h => by
    rcases h.lt_or_eq with h | h
    · exact_mod_cast (gn_mono i j h).le
    · rw [h]
  have hR : R < 32 := by
    have := hb ⟨k.val + 1, by omega⟩ ⟨64, by omega⟩ (by show k.val + 1 ≤ 64; omega)
    have e : (gn 64 : ℝ) = 512 := by have : gn 64 = 512 := by decide
                                     rw [this]; norm_num
    simp only [e] at this
    linarith
  have big : ∀ w : BitVec 32, ((w.extractLsb' (8 + 23) 1 == 1#1) = false) → 132 ≤ (w.extractLsb' 23 8).toNat → (w.extractLsb' 23 8).toNat ≠ 255 →
      ¬ (Ideal.ofBits .f32 w : EReal) ≤ ((R : ℝ) : EReal) := fun w a b c h => by
    obtain ⟨M, e, hM⟩ := big_val w a b c
    rw [e, EReal.coe_le_coe_iff] at h
    linarith
  rcases hj with ⟨a, b⟩ | h | h | h | h
  · obtain ⟨i, rfl⟩ := Nat.exists_eq_add_of_le a
    rw [w_val ⟨i, by omega⟩, EReal.coe_le_coe_iff]
    constructor
    · intro h
      by_contra hc
      have := hb ⟨k.val + 1, by omega⟩ ⟨i, by omega⟩ (by show k.val + 1 ≤ i; omega)
      simp only at this h
      linarith
    · intro h
      have := hb ⟨i, by omega⟩ ⟨k.val, by omega⟩ (by show i ≤ k.val; omega)
      simp only at this ⊢
      linarith
  all_goals
    subst h
    refine iff_of_false (big _ (by decide +kernel) (by decide +kernel) (by decide +kernel)) (by omega)

theorem stepW (K lo b : ℕ) (R : ℝ) (wl wb : BitVec 32) (hl : wl = bw lo) (hb : wb = bw b) (ho : bw lo ||| bw b = bw (lo + b))
    (hc : ((Ideal.ofBits .f32 (bw (lo + b)) : EReal) ≤ ((R : ℝ) : EReal)) ↔ lo + b ≤ K) : stepS R wl wb = bw (tN K lo b) := by
  unfold stepS tN
  rw [hl, hb, ho]
  by_cases h : lo + b ≤ K
  · rw [if_pos h, if_pos (hc.mpr h)]
  · rw [if_neg h, if_neg (fun e => h (hc.mp e))]

def lN (K : ℕ) : ℕ → ℕ
  | 0 => 0
  | i + 1 => tN K (lN K i) (2048 / 2 ^ i)
theorem lN_zero (K : ℕ) : lN K 0 = 0 := rfl
theorem chain_ok : ∀ k : Fin 64, ∀ i : Fin 12, valid (lN (2048 + k.val) i.val + 2048 / 2 ^ i.val)
    ∧ bw (lN (2048 + k.val) i.val) ||| bw (2048 / 2 ^ i.val) = bw (lN (2048 + k.val) i.val + 2048 / 2 ^ i.val) := by decide +kernel
theorem chain_end : ∀ k : Fin 64, lN (2048 + k.val) 12 = 2048 + k.val := by decide +kernel

theorem bits_bucket (k : Fin 64) (R : ℝ) (h1 : (gn k.val : ℝ) ≤ 16 * R) (h2 : 16 * R < gn (k.val + 1)) : bitsS R = bw (2048 + k.val) := by
  have s : ∀ (i i' : ℕ) (hi : i < 12) (e : i + 1 = i') (wb : BitVec 32), wb = bw (2048 / 2 ^ i) → stepS R (bw (lN (2048 + k.val) i)) wb = bw (lN (2048 + k.val) i') :=
    fun i i' hi e wb hb => by
      subst e
      exact stepW _ _ _ R _ wb rfl hb (chain_ok k ⟨i, hi⟩).2 (cmpW k R h1 h2 _ (chain_ok k ⟨i, hi⟩).1)
  have z : (0#32 : BitVec 32) = bw (lN (2048 + k.val) 0) := by rw [lN_zero]; decide
  unfold bitsS
  rw [z, s 0 1 (by decide) rfl 1073741824#32 (by decide), s 1 2 (by decide) rfl 536870912#32 (by decide), s 2 3 (by decide) rfl 268435456#32 (by decide), s 3 4 (by decide) rfl 134217728#32 (by decide), s 4 5 (by decide) rfl 67108864#32 (by decide), s 5 6 (by decide) rfl 33554432#32 (by decide), s 6 7 (by decide) rfl 16777216#32 (by decide), s 7 8 (by decide) rfl 8388608#32 (by decide), s 8 9 (by decide) rfl 4194304#32 (by decide), s 9 10 (by decide) rfl 2097152#32 (by decide), s 10 11 (by decide) rfl 1048576#32 (by decide), s 11 12 (by decide) rfl 524288#32 (by decide)]
  exact congrArg bw (chain_end k)

/-! The bisection above the buckets. -/
def ob (c : Bool) (b : BitVec 32) : BitVec 32 := if c then b else 0#32
theorem step_or (x : EReal) (lo b : BitVec 32) : ∃ c : Bool, stepS x lo b = lo ||| ob c b ∧ (c = true ↔ Ideal.ofBits .f32 (lo ||| b) ≤ x) := by
  unfold stepS ob
  by_cases h : Ideal.ofBits .f32 (lo ||| b) ≤ x
  · exact ⟨true, by rw [if_pos h, if_pos rfl], iff_of_true rfl h⟩
  · exact ⟨false, by rw [if_neg h]; simp, iff_of_false (by simp) h⟩

theorem bits_fields : ∀ c2 c3 c4 c5 c6 c7 c8 c9 ca cb cc : Bool, (c2 || c3 || c4 || c5 || c6) = true → (c2 && c3 && c4 && c5 && c6 && c7 && c8) = false →
    let w := (0#32 ||| ob true 1073741824#32 ||| ob c2 536870912#32 ||| ob c3 268435456#32 ||| ob c4 134217728#32 ||| ob c5 67108864#32 ||| ob c6 33554432#32 ||| ob c7 16777216#32
      ||| ob c8 8388608#32 ||| ob c9 4194304#32 ||| ob ca 2097152#32 ||| ob cb 1048576#32 ||| ob cc 524288#32) ||| 262144#32
    ((w.extractLsb' (8 + 23) 1 == 1#1) = false) ∧ 132 ≤ (w.extractLsb' 23 8).toNat ∧ (w.extractLsb' 23 8).toNat ≠ 255 := by decide +kernel

theorem bits_big (R : ℝ) (h : 32 ≤ R) : ∃ M : ℝ, (Ideal.ofBits .f32 (bitsS R ||| 262144#32) : EReal) = ((M : ℝ) : EReal) ∧ 32 ≤ M := by
  unfold bitsS
  obtain ⟨c1, e1, i1⟩ := step_or R 0#32 1073741824#32
  rw [e1]
  have hc1 : c1 = true := by
    rw [i1]
    have e : (Ideal.ofBits .f32 (0#32 ||| 1073741824#32) : EReal) = ((2 : ℝ) : EReal) := b_two
    rw [e, EReal.coe_le_coe_iff]; linarith
  subst hc1
  obtain ⟨c2, e2, i2⟩ := step_or R (0#32 ||| ob true 1073741824#32) 536870912#32
  rw [e2]
  obtain ⟨c3, e3, i3⟩ := step_or R (0#32 ||| ob true 1073741824#32 ||| ob c2 536870912#32) 268435456#32
  rw [e3]
  obtain ⟨c4, e4, i4⟩ := step_or R (0#32 ||| ob true 1073741824#32 ||| ob c2 536870912#32 ||| ob c3 268435456#32) 134217728#32
  rw [e4]
  obtain ⟨c5, e5, i5⟩ := step_or R (0#32 ||| ob true 1073741824#32 ||| ob c2 536870912#32 ||| ob c3 268435456#32 ||| ob c4 134217728#32) 67108864#32
  rw [e5]
  obtain ⟨c6, e6, i6⟩ := step_or R (0#32 ||| ob true 1073741824#32 ||| ob c2 536870912#32 ||| ob c3 268435456#32 ||| ob c4 134217728#32 ||| ob c5 67108864#32) 33554432#32
  rw [e6]
  have hc6 : (c2 || c3 || c4 || c5 || c6) = true := by
    by_contra hc
    have hf : c2 = false ∧ c3 = false ∧ c4 = false ∧ c5 = false ∧ c6 = false := by
      revert hc; clear i2 i3 i4 i5 i6 e1 e2 e3 e4 e5 e6 i1; revert c2 c3 c4 c5 c6; decide
    obtain ⟨rfl, rfl, rfl, rfl, rfl⟩ := hf
    have e : (Ideal.ofBits .f32 (0#32 ||| ob true 1073741824#32 ||| ob false 536870912#32 ||| ob false 268435456#32 ||| ob false 134217728#32 ||| ob false 67108864#32 ||| 33554432#32) : EReal)
        = ((32 : ℝ) : EReal) := by
      refine Eq.trans (b := Ideal.ofBits .f32 (bw (2048 + (64 : Fin 65).val))) ?_ ((w_val 64).trans ?_)
      · exact congrArg _ (by decide)
      · congr 1
        have : gn (64 : Fin 65).val = 512 := by decide
        rw [this]; norm_num
    have := i6.mpr (by rw [e, EReal.coe_le_coe_iff]; exact h)
    exact absurd this (by decide)
  obtain ⟨c7, e7, i7⟩ := step_or R (0#32 ||| ob true 1073741824#32 ||| ob c2 536870912#32 ||| ob c3 268435456#32 ||| ob c4 134217728#32 ||| ob c5 67108864#32 ||| ob c6 33554432#32) 16777216#32
  rw [e7]
  obtain ⟨c8, e8, i8⟩ := step_or R (0#32 ||| ob true 1073741824#32 ||| ob c2 536870912#32 ||| ob c3 268435456#32 ||| ob c4 134217728#32 ||| ob c5 67108864#32 ||| ob c6 33554432#32 ||| ob c7 16777216#32) 8388608#32
  rw [e8]
  have hc8 : (c2 && c3 && c4 && c5 && c6 && c7 && c8) = false := by
    by_contra hc
    have hf : c2 = true ∧ c3 = true ∧ c4 = true ∧ c5 = true ∧ c6 = true ∧ c7 = true ∧ c8 = true := by
      simpa [and_assoc] using hc
    obtain ⟨rfl, rfl, rfl, rfl, rfl, rfl, rfl⟩ := hf
    have e : (Ideal.ofBits .f32 (0#32 ||| ob true 1073741824#32 ||| ob true 536870912#32 ||| ob true 268435456#32 ||| ob true 134217728#32 ||| ob true 67108864#32 ||| ob true 33554432#32
        ||| ob true 16777216#32 ||| 8388608#32) : EReal) = ⊤ := by
      refine Eq.trans (b := Ideal.ofBits .f32 0x7F800000#32) (congrArg _ (by decide)) ?_
      simp [Ideal.ofBits, Ideal.ieee]
    have := i8.mp rfl
    rw [e] at this
    exact absurd (top_le_iff.mp this) (EReal.coe_ne_top R)
  obtain ⟨c9, e9, -⟩ := step_or R (0#32 ||| ob true 1073741824#32 ||| ob c2 536870912#32 ||| ob c3 268435456#32 ||| ob c4 134217728#32 ||| ob c5 67108864#32 ||| ob c6 33554432#32 ||| ob c7 16777216#32 ||| ob c8 8388608#32) 4194304#32
  rw [e9]
  obtain ⟨ca, ea, -⟩ := step_or R (0#32 ||| ob true 1073741824#32 ||| ob c2 536870912#32 ||| ob c3 268435456#32 ||| ob c4 134217728#32 ||| ob c5 67108864#32 ||| ob c6 33554432#32 ||| ob c7 16777216#32 ||| ob c8 8388608#32 ||| ob c9 4194304#32) 2097152#32
  rw [ea]
  obtain ⟨cb, eb, -⟩ := step_or R (0#32 ||| ob true 1073741824#32 ||| ob c2 536870912#32 ||| ob c3 268435456#32 ||| ob c4 134217728#32 ||| ob c5 67108864#32 ||| ob c6 33554432#32 ||| ob c7 16777216#32 ||| ob c8 8388608#32 ||| ob c9 4194304#32 ||| ob ca 2097152#32) 1048576#32
  rw [eb]
  obtain ⟨cc, ec, -⟩ := step_or R (0#32 ||| ob true 1073741824#32 ||| ob c2 536870912#32 ||| ob c3 268435456#32 ||| ob c4 134217728#32 ||| ob c5 67108864#32 ||| ob c6 33554432#32 ||| ob c7 16777216#32 ||| ob c8 8388608#32 ||| ob c9 4194304#32 ||| ob ca 2097152#32 ||| ob cb 1048576#32) 524288#32
  rw [ec]
  obtain ⟨a, b, c⟩ := bits_fields c2 c3 c4 c5 c6 c7 c8 c9 ca cb cc hc6 hc8
  exact big_val _ a b c

/-- The moved bits decide each threshold as the ratio does. -/
theorem mul_th (R : ℝ) (h : 2 ≤ R) : ∃ M : ℝ, (Ideal.ofBits .f32 (bitsS R ||| 262144#32) : EReal) = ((M : ℝ) : EReal) ∧
    ∀ n ∈ mgs, Th n R ((n : ℝ) / 2 * (M * cC)) := by
  by_cases hb : 32 ≤ R
  · obtain ⟨M, e, hM⟩ := bits_big R hb
    exact ⟨M, e, fun n hn => th_big n hn R M hb hM⟩
  · have e0 : gn 0 = 32 := by decide
    have e1 : gn 64 = 512 := by decide
    obtain ⟨k, hk, a, b⟩ := ex_bucket (fun k => (gn k : ℝ)) (16 * R) 64 (by simp only [e0]; push_cast; linarith) (by simp only [e1]; push_cast; linarith)
    refine ⟨(mn k : ℝ) / 16, ?_, fun n hn => th_bucket ⟨k, hk⟩ n hn R a b⟩
    rw [bits_bucket ⟨k, hk⟩ R a b]
    exact m_val ⟨k, hk⟩

end Cert.Proof
-- ==== Proof.TripDone.lean ====
module

public import proofs.«01_k».proof.Proof.TripSpec
public import Idealize.ShloMosaic.Lib.WritesUnit
public import Idealize.ShloMosaic.Lib.ValueLayout

/-! The body of the kernel, with what it leaves in the three outputs. -/

@[expose] public section

set_option maxRecDepth 65536
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable [∀ e, Nonempty (Elt Ideal e)]

section pure

variable (c : Dev nD) (arg3 : Memref sig .tc .vmem S1x9216x128 .i8) (arg4 : Memref sig .tc .vmem S1x576x128 .i8)
    (arg5 : Memref sig .tc .vmem S1x9216x128 .i8) (arg6 : Memref sig .tc .vmem S1x1152x128 .fp8e4m3)
    (arg8 : Memref sig .tc .vmem S1152x128 .f32) (arg9 arg10 : Memref sig .tc .vmem S4608x2x128 .bf16) (v0 : Elt Ideal .f32) (k : Fin k0_t1_loop.trips)
    (f3 : Bf (F := Ideal) c arg3) (f4 : Bf (F := Ideal) c arg4) (f5 : Bf (F := Ideal) c arg5) (f6 : Bf (F := Ideal) c arg6) (f8 : Bf (F := Ideal) c arg8) (f10 : Bf (F := Ideal) c arg10)

/-- The rows of the scales' block, and of the code bytes' block, that the trips before `n` have written. -/
def osDone (n : ℕ) : Prop := ∀ (ρ : Fin 1152) (l : Fin 128), ρ.val < 64 * n →
  arg6.view.read (Elt Ideal) f6 (ix3 (0 : Fin 1) ρ l) = osB (RX c arg3 f3) (RS c arg4 f4) v0 ρ l
def oDone (n : ℕ) : Prop := ∀ (ρ : Fin 9216) (l : Fin 128), ρ.val < 512 * n →
  arg5.view.read (Elt Ideal) f5 (ix3 (0 : Fin 1) ρ l) = oB (RX c arg3 f3) (RS c arg4 f4) v0 ρ l

theorem os_piece (h : Fin 2) (w : FVec Ideal S32x128 .fp8e4m3) (L : List (View.Piece (Elt Ideal) S1x1152x128 .fp8e4m3))
    (hwv : ∀ (r : Fin 32) (l : Fin 128), w (ix2 r l) = osB (RX c arg3 f3) (RS c arg4 f4) v0 ⟨k.val * 64 + 32 * h.val + r.val, by have : k.val < 18 := k.isLt; omega⟩ l)
    (hL : ∀ (ρ : Fin 1152) (l : Fin 128), ρ.val < k.val * 64 + 32 * h.val →
      arg6.view.read (Elt Ideal) (arg6.view.writes (Elt Ideal) f6 L) (ix3 (0 : Fin 1) ρ l) = osB (RX c arg3 f3) (RS c arg4 f4) v0 ρ l)
    (ρ : Fin 1152) (l : Fin 128) (hρ : ρ.val < k.val * 64 + 32 * h.val + 32) :
    arg6.view.read (Elt Ideal) (arg6.view.writes (Elt Ideal) f6 (⟨Rect.unit (s := S1x1152x128) (k0_off8 k (BitVec.ofNat 32 (32 * h.val))) S1x32x128.size (k0_off8_inb k h), shapeCast S1x32x128 w shapeCasts_S32x128_S1x32x128⟩ :: L)) (ix3 (0 : Fin 1) ρ l)
      = osB (RX c arg3 f3) (RS c arg4 f4) v0 ρ l := by
  by_cases hlo : ρ.val < k.val * 64 + 32 * h.val
  · refine (View.read_writes_cons_unit_of_not_mem _ _ _ _ _ _ (off8_eq k h) (1 : Fin 3) ?_).trans (hL ρ l hlo)
    left; show ρ.val < k.val * 64 + 32 * h.val; exact hlo
  · refine (View.read_writes_cons_unit_of_mem _ _ _ _ _ _ (ix3 (0 : Fin 1) (⟨ρ.val - (k.val * 64 + 32 * h.val), by omega⟩ : Fin 32) l) (off8_eq k h) ?_).trans ?_
    · intro q
      fin_cases q
      · rfl
      · show ρ.val = k.val * 64 + 32 * h.val + (ρ.val - (k.val * 64 + 32 * h.val)); omega
      · show l.val = 0 + l.val; omega
    · rw [← vix3, ValueIdx.shapeCast_ab_1ab_apply, vix2, hwv]
      congr 1
      apply Fin.ext
      show k.val * 64 + 32 * h.val + (ρ.val - (k.val * 64 + 32 * h.val)) = ρ.val; omega

theorem os_trip (h0 : osDone c arg3 arg4 arg6 v0 f3 f4 f6 k.val) :
    osDone c arg3 arg4 arg6 v0 f3 f4 (arg6.view.writes (Elt Ideal) f6 (trip.sl.H6_2 c arg3 arg4 arg8 arg9 v0 k f3 f4 f8)) (k.val + 1) := by
  intro ρ l hρ
  rw [H6_2_eq]
  refine os_piece c arg3 arg4 arg6 v0 k f3 f4 f6 1 _ _ (fun r l => bs1_apply c arg3 arg4 arg8 arg9 v0 k f3 f4 f8 r l) ?_ ρ l (by show ρ.val < k.val * 64 + 32 * 1 + 32; omega)
  intro ρ l hρ
  rw [H6_1_eq]
  refine os_piece c arg3 arg4 arg6 v0 k f3 f4 f6 0 _ _ (fun r l => bs0_apply c arg3 arg4 arg8 arg9 v0 k f3 f4 f8 r l) ?_ ρ l (by have : ρ.val < k.val * 64 + 32 * 1 := hρ; show ρ.val < k.val * 64 + 32 * 0 + 32; omega)
  intro ρ l hρ
  exact h0 ρ l (by have : ρ.val < k.val * 64 + 32 * 0 := hρ; omega)

theorem o_piece (h : Fin 2) (g : Fin 4) (w : IVec S1x64x128 8) (L : List (View.Piece (Elt Ideal) S1x9216x128 .i8))
    (hwv : ∀ (r : Fin 64) (l : Fin 128), w (ix3 (0 : Fin 1) r l) = oB (RX c arg3 f3) (RS c arg4 f4) v0 ⟨gi k h g * 64 + r.val, by have := gi_lt k h g; omega⟩ l)
    (hL : ∀ (ρ : Fin 9216) (l : Fin 128), ρ.val < gi k h g * 64 →
      arg5.view.read (Elt Ideal) (arg5.view.writes (Elt Ideal) f5 L) (ix3 (0 : Fin 1) ρ l) = oB (RX c arg3 f3) (RS c arg4 f4) v0 ρ l)
    (ρ : Fin 9216) (l : Fin 128) (hρ : ρ.val < gi k h g * 64 + 64) :
    arg5.view.read (Elt Ideal) (arg5.view.writes (Elt Ideal) f5 (⟨Rect.unit (s := S1x9216x128) (k0_off3 k (hw h) (gw g)) S1x64x128.size (k0_off3_inb k h g), w⟩ :: L)) (ix3 (0 : Fin 1) ρ l)
      = oB (RX c arg3 f3) (RS c arg4 f4) v0 ρ l := by
  by_cases hlo : ρ.val < gi k h g * 64
  · refine (View.read_writes_cons_unit_of_not_mem _ _ _ _ _ _ (off3_eq k h g) (1 : Fin 3) ?_).trans (hL ρ l hlo)
    left; show ρ.val < gi k h g * 64; exact hlo
  · refine (View.read_writes_cons_unit_of_mem _ _ _ _ _ _ (ix3 (0 : Fin 1) (⟨ρ.val - gi k h g * 64, by omega⟩ : Fin 64) l) (off3_eq k h g) ?_).trans ?_
    · intro q
      fin_cases q
      · rfl
      · show ρ.val = gi k h g * 64 + (ρ.val - gi k h g * 64); omega
      · show l.val = 0 + l.val; omega
    · rw [hwv]
      congr 1
      apply Fin.ext
      show gi k h g * 64 + (ρ.val - gi k h g * 64) = ρ.val; omega

/-- The rows before `n` are written. -/
def oUpto (L : List (View.Piece (Elt Ideal) S1x9216x128 .i8)) (n : ℕ) : Prop := ∀ (ρ : Fin 9216) (l : Fin 128), ρ.val < n →
  arg5.view.read (Elt Ideal) (arg5.view.writes (Elt Ideal) f5 L) (ix3 (0 : Fin 1) ρ l) = oB (RX c arg3 f3) (RS c arg4 f4) v0 ρ l

theorem o_step (h : Fin 2) (g : Fin 4) (w : IVec S1x64x128 8) (L L' : List (View.Piece (Elt Ideal) S1x9216x128 .i8))
    (hL' : L' = ⟨Rect.unit (s := S1x9216x128) (k0_off3 k (hw h) (gw g)) S1x64x128.size (k0_off3_inb k h g), w⟩ :: L)
    (hwv : ∀ (r : Fin 64) (l : Fin 128), w (ix3 (0 : Fin 1) r l) = oB (RX c arg3 f3) (RS c arg4 f4) v0 ⟨gi k h g * 64 + r.val, by have := gi_lt k h g; omega⟩ l)
    (hL : oUpto c arg3 arg4 arg5 v0 f3 f4 f5 L (gi k h g * 64)) (n : ℕ) (hn : n = gi k h g * 64 + 64) : oUpto c arg3 arg4 arg5 v0 f3 f4 f5 L' n := by
  subst hL' hn
  exact fun ρ l hρ => o_piece c arg3 arg4 arg5 v0 k f3 f4 f5 h g w L hwv hL ρ l hρ

theorem o_1 (hL : oUpto c arg3 arg4 arg5 v0 f3 f4 f5 ([]) (gi k 0 0 * 64)) : oUpto c arg3 arg4 arg5 v0 f3 f4 f5 (trip.sl.H5_1 c arg3 arg4 arg8 arg9 arg10 v0 k f3 f4 f8 f10) (gi k 0 0 * 64 + 64) :=
  o_step c arg3 arg4 arg5 v0 k f3 f4 f5 0 0 (codes (xg c arg3 k f3 0 0) (rr00 c arg3 arg4 arg8 arg9 arg10 v0 k f3 f4 f8 f10)) ([]) _ (H5_1_eq c arg3 arg4 arg8 arg9 arg10 v0 k f3 f4 f8 f10)
    (fun r l => co00_apply c arg3 arg4 arg8 arg9 arg10 v0 k f3 f4 f8 f10 r l) hL _ rfl

theorem o_2 (hL : oUpto c arg3 arg4 arg5 v0 f3 f4 f5 (trip.sl.H5_1 c arg3 arg4 arg8 arg9 arg10 v0 k f3 f4 f8 f10) (gi k 0 1 * 64)) : oUpto c arg3 arg4 arg5 v0 f3 f4 f5 (trip.sl.H5_2 c arg3 arg4 arg8 arg9 arg10 v0 k f3 f4 f8 f10) (gi k 0 1 * 64 + 64) :=
  o_step c arg3 arg4 arg5 v0 k f3 f4 f5 0 1 (codes (xg c arg3 k f3 0 1) (rr01 c arg3 arg4 arg8 arg9 arg10 v0 k f3 f4 f8 f10)) (trip.sl.H5_1 c arg3 arg4 arg8 arg9 arg10 v0 k f3 f4 f8 f10) _ (H5_2_eq c arg3 arg4 arg8 arg9 arg10 v0 k f3 f4 f8 f10)
    (fun r l => co01_apply c arg3 arg4 arg8 arg9 arg10 v0 k f3 f4 f8 f10 r l) hL _ rfl

theorem o_3 (hL : oUpto c arg3 arg4 arg5 v0 f3 f4 f5 (trip.sl.H5_2 c arg3 arg4 arg8 arg9 arg10 v0 k f3 f4 f8 f10) (gi k 0 2 * 64)) : oUpto c arg3 arg4 arg5 v0 f3 f4 f5 (trip.sl.H5_3 c arg3 arg4 arg8 arg9 arg10 v0 k f3 f4 f8 f10) (gi k 0 2 * 64 + 64) :=
  o_step c arg3 arg4 arg5 v0 k f3 f4 f5 0 2 (codes (xg c arg3 k f3 0 2) (rr02 c arg3 arg4 arg8 arg9 arg10 v0 k f3 f4 f8 f10)) (trip.sl.H5_2 c arg3 arg4 arg8 arg9 arg10 v0 k f3 f4 f8 f10) _ (H5_3_eq c arg3 arg4 arg8 arg9 arg10 v0 k f3 f4 f8 f10)
    (fun r l => co02_apply c arg3 arg4 arg8 arg9 arg10 v0 k f3 f4 f8 f10 r l) hL _ rfl

theorem o_4 (hL : oUpto c arg3 arg4 arg5 v0 f3 f4 f5 (trip.sl.H5_3 c arg3 arg4 arg8 arg9 arg10 v0 k f3 f4 f8 f10) (gi k 0 3 * 64)) : oUpto c arg3 arg4 arg5 v0 f3 f4 f5 (trip.sl.H5_4 c arg3 arg4 arg8 arg9 arg10 v0 k f3 f4 f8 f10) (gi k 0 3 * 64 + 64) :=
  o_step c arg3 arg4 arg5 v0 k f3 f4 f5 0 3 (codes (xg c arg3 k f3 0 3) (rr03 c arg3 arg4 arg8 arg9 arg10 v0 k f3 f4 f8 f10)) (trip.sl.H5_3 c arg3 arg4 arg8 arg9 arg10 v0 k f3 f4 f8 f10) _ (H5_4_eq c arg3 arg4 arg8 arg9 arg10 v0 k f3 f4 f8 f10)
    (fun r l => co03_apply c arg3 arg4 arg8 arg9 arg10 v0 k f3 f4 f8 f10 r l) hL _ rfl

theorem o_5 (hL : oUpto c arg3 arg4 arg5 v0 f3 f4 f5 (trip.sl.H5_4 c arg3 arg4 arg8 arg9 arg10 v0 k f3 f4 f8 f10) (gi k 1 0 * 64)) : oUpto c arg3 arg4 arg5 v0 f3 f4 f5 (trip.sl.H5_5 c arg3 arg4 arg8 arg9 arg10 v0 k f3 f4 f8 f10) (gi k 1 0 * 64 + 64) :=
  o_step c arg3 arg4 arg5 v0 k f3 f4 f5 1 0 (codes (xg c arg3 k f3 1 0) (rr10 c arg3 arg4 arg8 arg9 arg10 v0 k f3 f4 f8 f10)) (trip.sl.H5_4 c arg3 arg4 arg8 arg9 arg10 v0 k f3 f4 f8 f10) _ (H5_5_eq c arg3 arg4 arg8 arg9 arg10 v0 k f3 f4 f8 f10)
    (fun r l => co10_apply c arg3 arg4 arg8 arg9 arg10 v0 k f3 f4 f8 f10 r l) hL _ rfl

theorem o_6 (hL : oUpto c arg3 arg4 arg5 v0 f3 f4 f5 (trip.sl.H5_5 c arg3 arg4 arg8 arg9 arg10 v0 k f3 f4 f8 f10) (gi k 1 1 * 64)) : oUpto c arg3 arg4 arg5 v0 f3 f4 f5 (trip.sl.H5_6 c arg3 arg4 arg8 arg9 arg10 v0 k f3 f4 f8 f10) (gi k 1 1 * 64 + 64) :=
  o_step c arg3 arg4 arg5 v0 k f3 f4 f5 1 1 (codes (xg c arg3 k f3 1 1) (rr11 c arg3 arg4 arg8 arg9 arg10 v0 k f3 f4 f8 f10)) (trip.sl.H5_5 c arg3 arg4 arg8 arg9 arg10 v0 k f3 f4 f8 f10) _ (H5_6_eq c arg3 arg4 arg8 arg9 arg10 v0 k f3 f4 f8 f10)
    (fun r l => co11_apply c arg3 arg4 arg8 arg9 arg10 v0 k f3 f4 f8 f10 r l) hL _ rfl

theorem o_7 (hL : oUpto c arg3 arg4 arg5 v0 f3 f4 f5 (trip.sl.H5_6 c arg3 arg4 arg8 arg9 arg10 v0 k f3 f4 f8 f10) (gi k 1 2 * 64)) : oUpto c arg3 arg4 arg5 v0 f3 f4 f5 (trip.sl.H5_7 c arg3 arg4 arg8 arg9 arg10 v0 k f3 f4 f8 f10) (gi k 1 2 * 64 + 64) :=
  o_step c arg3 arg4 arg5 v0 k f3 f4 f5 1 2 (codes (xg c arg3 k f3 1 2) (rr12 c arg3 arg4 arg8 arg9 arg10 v0 k f3 f4 f8 f10)) (trip.sl.H5_6 c arg3 arg4 arg8 arg9 arg10 v0 k f3 f4 f8 f10) _ (H5_7_eq c arg3 arg4 arg8 arg9 arg10 v0 k f3 f4 f8 f10)
    (fun r l => co12_apply c arg3 arg4 arg8 arg9 arg10 v0 k f3 f4 f8 f10 r l) hL _ rfl

theorem o_8 (hL : oUpto c arg3 arg4 arg5 v0 f3 f4 f5 (trip.sl.H5_7 c arg3 arg4 arg8 arg9 arg10 v0 k f3 f4 f8 f10) (gi k 1 3 * 64)) : oUpto c arg3 arg4 arg5 v0 f3 f4 f5 (T5 c arg3 arg4 arg8 arg9 arg10 v0 k f3 f4 f8 f10) (gi k 1 3 * 64 + 64) :=
  o_step c arg3 arg4 arg5 v0 k f3 f4 f5 1 3 (codes (xg c arg3 k f3 1 3) (rr13 c arg3 arg4 arg8 arg9 arg10 v0 k f3 f4 f8 f10)) (trip.sl.H5_7 c arg3 arg4 arg8 arg9 arg10 v0 k f3 f4 f8 f10) _ (H5_8_eq c arg3 arg4 arg8 arg9 arg10 v0 k f3 f4 f8 f10)
    (fun r l => co13_apply c arg3 arg4 arg8 arg9 arg10 v0 k f3 f4 f8 f10 r l) hL _ rfl

theorem o_trip (h0 : oDone c arg3 arg4 arg5 v0 f3 f4 f5 k.val) :
    oDone c arg3 arg4 arg5 v0 f3 f4 (arg5.view.writes (Elt Ideal) f5 (T5 c arg3 arg4 arg8 arg9 arg10 v0 k f3 f4 f8 f10)) (k.val + 1) := by
  have st : ∀ (n n' : ℕ) (L), n = n' → oUpto c arg3 arg4 arg5 v0 f3 f4 f5 L n → oUpto c arg3 arg4 arg5 v0 f3 f4 f5 L n' := fun _ _ _ e h => e ▸ h
  have e : ∀ (h h' : Fin 2) (g g' : Fin 4), 4 * h.val + g.val + 1 = 4 * h'.val + g'.val → gi k h g * 64 + 64 = gi k h' g' * 64 := by
    intro h h' g g' he; unfold gi; omega
  have s0 : oUpto c arg3 arg4 arg5 v0 f3 f4 f5 [] (gi k 0 0 * 64) := fun ρ l hρ => h0 ρ l (by have : ρ.val < (k.val * 8 + 4 * 0 + 0) * 64 := hρ; omega)
  have s1 := st _ _ _ (e 0 0 0 1 rfl) (o_1 c arg3 arg4 arg5 arg8 arg9 arg10 v0 k f3 f4 f5 f8 f10 s0)
  have s2 := st _ _ _ (e 0 0 1 2 rfl) (o_2 c arg3 arg4 arg5 arg8 arg9 arg10 v0 k f3 f4 f5 f8 f10 s1)
  have s3 := st _ _ _ (e 0 0 2 3 rfl) (o_3 c arg3 arg4 arg5 arg8 arg9 arg10 v0 k f3 f4 f5 f8 f10 s2)
  have s4 := st _ _ _ (e 0 1 3 0 rfl) (o_4 c arg3 arg4 arg5 arg8 arg9 arg10 v0 k f3 f4 f5 f8 f10 s3)
  have s5 := st _ _ _ (e 1 1 0 1 rfl) (o_5 c arg3 arg4 arg5 arg8 arg9 arg10 v0 k f3 f4 f5 f8 f10 s4)
  have s6 := st _ _ _ (e 1 1 1 2 rfl) (o_6 c arg3 arg4 arg5 arg8 arg9 arg10 v0 k f3 f4 f5 f8 f10 s5)
  have s7 := st _ _ _ (e 1 1 2 3 rfl) (o_7 c arg3 arg4 arg5 arg8 arg9 arg10 v0 k f3 f4 f5 f8 f10 s6)
  have s8 := o_8 c arg3 arg4 arg5 arg8 arg9 arg10 v0 k f3 f4 f5 f8 f10 s7
  exact fun ρ l hρ => s8 ρ l (by show ρ.val < (k.val * 8 + 4 * 1 + 3) * 64 + 64; omega)

end pure

end Cert.Proof.KernelIdeal
-- ==== Proof.BodyVal.lean ====
module

public import proofs.«01_k».proof.Proof.TripDone
public import Idealize.ShloMosaic.Lib.WritesUnit
public import Idealize.ShloMosaic.Lib.ValueLayout

/-! The body of the kernel, with what it leaves in the three outputs. -/

@[expose] public section

set_option maxRecDepth 65536
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable [∀ e, Nonempty (Elt Ideal e)]

/-- What the loop keeps before trip `n`. -/
abbrev keepV (c : Dev nD) (arg3 : Memref sig .tc .vmem S1x9216x128 .i8) (arg4 : Memref sig .tc .vmem S1x576x128 .i8)
    (arg5 : Memref sig .tc .vmem S1x9216x128 .i8) (arg6 : Memref sig .tc .vmem S1x1152x128 .fp8e4m3)
    (arg8 : Memref sig .tc .vmem S1152x128 .f32) (arg9 arg10 : Memref sig .tc .vmem S4608x2x128 .bf16) (v0 : Elt Ideal .f32)
    (f3 : Bf (F := Ideal) c arg3) (f4 : Bf (F := Ideal) c arg4) (n : ℕ) : sProp (MT nD τ sig Unit (Elt Ideal) ℕ (UR sig nD τ) ℕ) :=
  iprop(held (F := Ideal) c arg3 arg4 arg8 arg9 arg10 f3 f4
    ∗ (∃ f5, pt (F := Ideal) c arg5 f5 ∗ ⌜oDone c arg3 arg4 arg5 v0 f3 f4 f5 n⌝)
    ∗ (∃ f6, pt (F := Ideal) c arg6 f6 ∗ ⌜osDone c arg3 arg4 arg6 v0 f3 f4 f6 n⌝))

theorem trip_inv (c : Dev nD) (i : grid0.Coords) (arg2 : Memref sig .tc .smem S1x1 .f32) (harg2 : arg2.IsWhole) (arg3 : Memref sig .tc .vmem S1x9216x128 .i8) (harg3 : arg3.IsWhole) (arg4 : Memref sig .tc .vmem S1x576x128 .i8) (harg4 : arg4.IsWhole) (arg5 : Memref sig .tc .vmem S1x9216x128 .i8) (harg5 : arg5.IsWhole) (arg6 : Memref sig .tc .vmem S1x1152x128 .fp8e4m3) (harg6 : arg6.IsWhole) (arg7 : Memref sig .tc .vmem S1x1 .f32) (harg7 : arg7.IsWhole) (arg8 : Memref sig .tc .vmem S1152x128 .f32) (harg8 : arg8.IsWhole) (arg9 : Memref sig .tc .vmem S4608x2x128 .bf16) (harg9 : arg9.IsWhole) (arg10 : Memref sig .tc .vmem S4608x2x128 .bf16) (harg10 : arg10.IsWhole) (v0 : Elt Ideal .f32) (f3 : Bf (F := Ideal) c arg3) (f4 : Bf (F := Ideal) c arg4) (k : Fin k0_t1_loop.trips) :
    keepV c arg3 arg4 arg5 arg6 arg8 arg9 arg10 v0 f3 f4 k.val
      ⊢ wp frame (wpE (defs₀ (F := Ideal)) 𝒱₀ (c : Thread nD τ) none) Set.univ (k0_t1_body (F := Ideal) i arg2 harg2 arg3 harg3 arg4 harg4 arg5 harg5 arg6 harg6 arg7 harg7 arg8 harg8 arg9 harg9 arg10 harg10 v0 k ())
          fun _ => keepV c arg3 arg4 arg5 arg6 arg8 arg9 arg10 v0 f3 f4 (k.val + 1) := by
  iintro ⟨HH, ⟨%f5, H5, %h5⟩, ⟨%f6, H6, %h6⟩⟩
  iapply (wp_wand _ _ _) $$ [HH H5 H6]
  · iapply (trip_val (F := Ideal) c i arg2 harg2 arg3 harg3 arg4 harg4 arg5 harg5 arg6 harg6 arg7 harg7 arg8 harg8 arg9 harg9 arg10 harg10 v0 k f3 f4 f5 f6)
    isplitl [HH]; · iexact HH
    isplitl [H5]; · iexact H5
    iexact H6
  iintro %_ ⟨HH, ⟨%f8, %f10, H5, H6⟩⟩
  isplitl [HH]; · iexact HH
  isplitl [H5]
  · iexists _
    isplitl [H5]; · iexact H5
    ipureintro
    exact o_trip c arg3 arg4 arg5 arg8 arg9 arg10 v0 k f3 f4 f5 f8 f10 h5
  · iexists _
    isplitl [H6]; · iexact H6
    ipureintro
    exact os_trip c arg3 arg4 arg6 arg8 arg9 v0 k f3 f4 f6 f8 h6

@[instance_reducible] def loopVal (c : Dev nD) (i : grid0.Coords) (arg2 : Memref sig .tc .smem S1x1 .f32) (harg2 : arg2.IsWhole) (arg3 : Memref sig .tc .vmem S1x9216x128 .i8) (harg3 : arg3.IsWhole) (arg4 : Memref sig .tc .vmem S1x576x128 .i8) (harg4 : arg4.IsWhole) (arg5 : Memref sig .tc .vmem S1x9216x128 .i8) (harg5 : arg5.IsWhole) (arg6 : Memref sig .tc .vmem S1x1152x128 .fp8e4m3) (harg6 : arg6.IsWhole) (arg7 : Memref sig .tc .vmem S1x1 .f32) (harg7 : arg7.IsWhole) (arg8 : Memref sig .tc .vmem S1152x128 .f32) (harg8 : arg8.IsWhole) (arg9 : Memref sig .tc .vmem S4608x2x128 .bf16) (harg9 : arg9.IsWhole) (arg10 : Memref sig .tc .vmem S4608x2x128 .bf16) (harg10 : arg10.IsWhole) (v0 : Elt Ideal .f32) (f3 : Bf (F := Ideal) c arg3) (f4 : Bf (F := Ideal) c arg4) :
    LoopInvTy_k0_t1 (F := Ideal) Unit ℕ (UU nD τ) ℕ 𝒱₀ c none Set.univ i arg2 harg2 arg3 harg3 arg4 harg4 arg5 harg5 arg6 harg6 arg7 harg7 arg8 harg8 arg9 harg9 arg10 harg10 v0 where
  inv := fun n _ => keepV c arg3 arg4 arg5 arg6 arg8 arg9 arg10 v0 f3 f4 n
  step := fun k _ => trip_inv c i arg2 harg2 arg3 harg3 arg4 harg4 arg5 harg5 arg6 harg6 arg7 harg7 arg8 harg8 arg9 harg9 arg10 harg10 v0 f3 f4 k

theorem body_val (c : Dev nD) (i : grid0.Coords) (arg2 : Memref sig .tc .smem S1x1 .f32) (harg2 : arg2.IsWhole) (arg3 : Memref sig .tc .vmem S1x9216x128 .i8) (harg3 : arg3.IsWhole) (arg4 : Memref sig .tc .vmem S1x576x128 .i8) (harg4 : arg4.IsWhole) (arg5 : Memref sig .tc .vmem S1x9216x128 .i8) (harg5 : arg5.IsWhole) (arg6 : Memref sig .tc .vmem S1x1152x128 .fp8e4m3) (harg6 : arg6.IsWhole) (arg7 : Memref sig .tc .vmem S1x1 .f32) (harg7 : arg7.IsWhole) (arg8 : Memref sig .tc .vmem S1152x128 .f32) (harg8 : arg8.IsWhole) (arg9 : Memref sig .tc .vmem S4608x2x128 .bf16) (harg9 : arg9.IsWhole) (arg10 : Memref sig .tc .vmem S4608x2x128 .bf16) (harg10 : arg10.IsWhole) (f2 : Bf (F := Ideal) c arg2) (f3 : Bf (F := Ideal) c arg3) (f4 : Bf (F := Ideal) c arg4) :
    iprop(pt (F := Ideal) c arg2 f2 ∗ (∃ f, pt (F := Ideal) c arg7 f) ∗ held (F := Ideal) c arg3 arg4 arg8 arg9 arg10 f3 f4
        ∗ (∃ f, pt (F := Ideal) c arg5 f) ∗ (∃ f, pt (F := Ideal) c arg6 f))
      ⊢ wp frame (wpE (defs₀ (F := Ideal)) 𝒱₀ (c : Thread nD τ) none) Set.univ (cc0__body (F := Ideal) i arg2 harg2 arg3 harg3 arg4 harg4 arg5 harg5 arg6 harg6 arg7 harg7 arg8 harg8 arg9 harg9 arg10 harg10)
          fun _ => iprop(pt (F := Ideal) c arg2 f2
            ∗ (∃ f7, pt (F := Ideal) c arg7 f7 ∗ ⌜arg7.view.read (Elt Ideal) f7 (ix2 (0 : Fin 1) (0 : Fin 1)) = tsc (arg2.view.read (Elt Ideal) f2 (ix2 (0 : Fin 1) (0 : Fin 1)))⌝)
            ∗ keepV c arg3 arg4 arg5 arg6 arg8 arg9 arg10 (arg2.view.read (Elt Ideal) f2 (ix2 (0 : Fin 1) (0 : Fin 1))) f3 f4 18) := by
  simp only [cc0__body_eq_skeleton]; unfold cc0__body_skel
  iintro ⟨H2, ⟨%f7, H7⟩, HH, ⟨%f5, H5⟩, ⟨%f6, H6⟩⟩
  generalize hB : k0_t1_body (F := Ideal) i arg2 harg2 arg3 harg3 arg4 harg4 arg5 harg5 arg6 harg6 arg7 harg7 arg8 harg8 arg9 harg9 arg10 harg10 = B
  sl_exec!
  subst hB
  have hidx : (Rect.unit (s := S1x1) ![0, 0] S1x1.size inb_S1x1_S1x1_0_0).toLoadRect.idx (ix2 (0 : Fin 1) (0 : Fin 1)) = ix2 (0 : Fin 1) (0 : Fin 1) := by
    funext q; fin_cases q <;> rfl
  have hv : body_val.sl.r c arg2 f2 = arg2.view.read (Elt Ideal) f2 (ix2 (0 : Fin 1) (0 : Fin 1)) := by
    unfold body_val.sl.r
    show arg2.view.read (Elt Ideal) f2 _ = _
    congr 1
    funext q; fin_cases q <;> exact Subsingleton.elim (α := Fin 1) _ _
  have hK : ∀ acc, (loopVal c i arg2 harg2 arg3 harg3 arg4 harg4 arg5 harg5 arg6 harg6 arg7 harg7 arg8 harg8 arg9 harg9 arg10 harg10 (body_val.sl.r c arg2 f2) f3 f4).inv (Scf.trips k0_t1_loop.lb k0_t1_loop.ub k0_t1_loop.st) acc
      ⊢ keepV c arg3 arg4 arg5 arg6 arg8 arg9 arg10 (body_val.sl.r c arg2 f2) f3 f4 18 := by
    intro acc
    have h18 : Scf.trips k0_t1_loop.lb k0_t1_loop.ub k0_t1_loop.st = 18 := by decide +kernel
    rw [h18]
    exact .rfl
  ihave HL : keepV c arg3 arg4 arg5 arg6 arg8 arg9 arg10 (body_val.sl.r c arg2 f2) f3 f4 0 $$ [HH H5 H6]
  · isplitl [HH]; · iexact HH
    isplitl [H5]
    · iexists f5
      isplitl [H5]; · iexact H5
      ipureintro
      exact fun ρ l h => absurd h (by omega)
    · iexists f6
      isplitl [H6]; · iexact H6
      ipureintro
      exact fun ρ l h => absurd h (by omega)
  iapply (exec_loop _ _ _ _ _ _ _ _ _ (loopVal c i arg2 harg2 arg3 harg3 arg4 harg4 arg5 harg5 arg6 harg6 arg7 harg7 arg8 harg8 arg9 harg9 arg10 harg10 (body_val.sl.r c arg2 f2) f3 f4)) $$ [HL]
  · iexact HL
  iintro %_ HK
  ihave HK' : keepV c arg3 arg4 arg5 arg6 arg8 arg9 arg10 (body_val.sl.r c arg2 f2) f3 f4 18 $$ [HK]
  · iapply (hK _); iexact HK
  sl_step
  isplitl [H2]; · iexact H2
  isplitl [H7]
  · iexists _
    isplitl [H7]; · iexact H7
    ipureintro
    rw [← hv]
    unfold body_val.sl.H7_1
    refine (View.read_writes_cons_unit_of_mem _ _ _ _ _ _ (ix2 (0 : Fin 1) (0 : Fin 1)) rfl ?_).trans ?_
    · intro q; fin_cases q <;> rfl
    · rfl
  rw [← hv]
  iexact HK'

end Cert.Proof.KernelIdeal
-- ==== Proof.Blocks.lean ====
module

public import proofs.«01_k».proof.Proof.BodyVal
public import Idealize.ShloMosaic.Lib.Pipeline.Value

/-! The fetched blocks read as parts of the two input arrays, cut at the arrays' end. -/

@[expose] public section

set_option maxRecDepth 65536
set_option maxHeartbeats 1000000

noncomputable section

namespace Cert.Proof.KernelIdeal

open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ)

/-- Grid point `t`'s two coordinates. -/
abbrev gp (t : Fin grid0.N) : Fin 2 := ⟨(grid0.coords t 0).val, (grid0.coords t 0).isLt⟩
abbrev gn (t : Fin grid0.N) : Fin 11 := ⟨(grid0.coords t 1).val, (grid0.coords t 1).isLt⟩

theorem xs1 : ∀ t : Fin grid0.N, win0_1.xsize (grid0.coords t) 0 = 1 ∧ win0_1.xsize (grid0.coords t) 1 = min 9216 (100544 - (gn t).val * 9216) ∧ win0_1.xsize (grid0.coords t) 2 = 128 := by decide +kernel
theorem xs2 : ∀ t : Fin grid0.N, win0_2.xsize (grid0.coords t) 0 = 1 ∧ win0_2.xsize (grid0.coords t) 1 = min 576 (6284 - (gn t).val * 576) ∧ win0_2.xsize (grid0.coords t) 2 = 128 := by decide +kernel
theorem xs3 : ∀ t : Fin grid0.N, win0_3.xsize (grid0.coords t) 0 = 1 ∧ win0_3.xsize (grid0.coords t) 1 = min 9216 (100544 - (gn t).val * 9216) ∧ win0_3.xsize (grid0.coords t) 2 = 128 := by decide +kernel
theorem xs4 : ∀ t : Fin grid0.N, win0_4.xsize (grid0.coords t) 0 = 1 ∧ win0_4.xsize (grid0.coords t) 1 = min 1152 (12568 - (gn t).val * 1152) ∧ win0_4.xsize (grid0.coords t) 2 = 128 := by decide +kernel
theorem ix1 : ∀ t : Fin grid0.N, win0_1.index t 0 = (gp t).val ∧ win0_1.index t 1 = (gn t).val ∧ win0_1.index t 2 = 0 := by decide +kernel
theorem ix2' : ∀ t : Fin grid0.N, win0_2.index t 0 = (gp t).val ∧ win0_2.index t 1 = (gn t).val ∧ win0_2.index t 2 = 0 := by decide +kernel
theorem ix3' : ∀ t : Fin grid0.N, win0_3.index t 0 = (gp t).val ∧ win0_3.index t 1 = (gn t).val ∧ win0_3.index t 2 = 0 := by decide +kernel
theorem ix4 : ∀ t : Fin grid0.N, win0_4.index t 0 = (gp t).val ∧ win0_4.index t 1 = (gn t).val ∧ win0_4.index t 2 = 0 := by decide +kernel

abbrev Carr : Type := Vec Ideal S2x100544x128 .i8
abbrev Sarr : Type := Vec Ideal S2x6284x128 .i8

abbrev arrC (c : Dev nD) : Carr := V (F := Ideal) m c main_v1
abbrev arrS (c : Dev nD) : Sarr := V (F := Ideal) m c main_v2

theorem fillC (c : Dev nD) (t : Fin grid0.N) (d : S1x9216x128.Idx → BitVec 8) (r : Fin 9216) (l : Fin 128) (h : (gn t).val * 9216 + r.val < 100544) :
    win0_1.fill (grid0.coords t) d (iblk (F := Ideal) m c 1 t) (ix3 (0 : Fin 1) r l) = arrC m c (ix3 (gp t) (⟨(gn t).val * 9216 + r.val, h⟩ : Fin 100544) l) := by
  obtain ⟨e0, e1, e2⟩ := xs1 t
  obtain ⟨i0, i1, i2⟩ := ix1 t
  have hm : win0_1.moved (grid0.coords t) (ix3 (0 : Fin 1) r l) = true := by
    rw [win0_1.moved_iff]
    intro a
    match a with
    | ⟨0, _⟩ => exact lt_of_lt_of_eq (show 0 < 1 by omega) e0.symm
    | ⟨1, _⟩ => exact lt_of_lt_of_eq (show r.val < min 9216 (100544 - (gn t).val * 9216) by have := r.isLt; omega) e1.symm
    | ⟨2, _⟩ => exact lt_of_lt_of_eq (show l.val < 128 from l.isLt) e2.symm
  unfold Window.fill
  rw [dif_pos hm]
  show V (F := Ideal) m c main_v1 ((win0_1.rect t).emb _) = _
  refine congrArg _ (funext fun a => Fin.ext ?_)
  rw [win0_1.rect_emb_val t]
  match a with
  | ⟨0, _⟩ => show win0_1.index t 0 * 1 + 0 = (gp t).val; rw [i0]; omega
  | ⟨1, _⟩ => show win0_1.index t 1 * 9216 + r.val = _; rw [i1]; rfl
  | ⟨2, _⟩ => show win0_1.index t 2 * 128 + l.val = l.val; rw [i2]; omega

theorem fillS (c : Dev nD) (t : Fin grid0.N) (d : S1x576x128.Idx → BitVec 8) (r : Fin 576) (l : Fin 128) (h : (gn t).val * 576 + r.val < 6284) :
    win0_2.fill (grid0.coords t) d (iblk (F := Ideal) m c 2 t) (ix3 (0 : Fin 1) r l) = arrS m c (ix3 (gp t) (⟨(gn t).val * 576 + r.val, h⟩ : Fin 6284) l) := by
  obtain ⟨e0, e1, e2⟩ := xs2 t
  obtain ⟨i0, i1, i2⟩ := ix2' t
  have hm : win0_2.moved (grid0.coords t) (ix3 (0 : Fin 1) r l) = true := by
    rw [win0_2.moved_iff]
    intro a
    match a with
    | ⟨0, _⟩ => exact lt_of_lt_of_eq (show 0 < 1 by omega) e0.symm
    | ⟨1, _⟩ => exact lt_of_lt_of_eq (show r.val < min 576 (6284 - (gn t).val * 576) by have := r.isLt; omega) e1.symm
    | ⟨2, _⟩ => exact lt_of_lt_of_eq (show l.val < 128 from l.isLt) e2.symm
  unfold Window.fill
  rw [dif_pos hm]
  show V (F := Ideal) m c main_v2 ((win0_2.rect t).emb _) = _
  refine congrArg _ (funext fun a => Fin.ext ?_)
  rw [win0_2.rect_emb_val t]
  match a with
  | ⟨0, _⟩ => show win0_2.index t 0 * 1 + 0 = (gp t).val; rw [i0]; omega
  | ⟨1, _⟩ => show win0_2.index t 1 * 576 + r.val = _; rw [i1]; rfl
  | ⟨2, _⟩ => show win0_2.index t 2 * 128 + l.val = l.val; rw [i2]; omega

/-- The block of scales at `(p, ρ, l)` of the whole arrays, and the code byte at `(p, R, l)`. -/
def blkC (C : Carr) (p : Fin 2) (ρ : Fin 12568) (l : Fin 128) (q : Fin 8) : BitVec 8 := C (ix3 p (⟨8 * ρ.val + q.val, by omega⟩ : Fin 100544) l)
def facS (S : Sarr) (p : Fin 2) (ρ : Fin 12568) (l : Fin 128) : BitVec 8 := S (ix3 p (⟨ρ.val / 2, by omega⟩ : Fin 6284) l)
def osW (C : Carr) (S : Sarr) (v0 : EReal) (p : Fin 2) (ρ : Fin 12568) (l : Fin 128) : EReal := osA (blkC C p ρ l) (facS S p ρ l) v0
def oW (C : Carr) (S : Sarr) (v0 : EReal) (p : Fin 2) (R : Fin 100544) (l : Fin 128) : BitVec 8 :=
  obyte (C (ix3 p R l)) (mA (blkC C p ⟨R.val / 8, by omega⟩ l) (facS S p ⟨R.val / 8, by omega⟩ l) v0)

section
variable (c : Dev nD) (t : Fin grid0.N) (d1 : S1x9216x128.Idx → BitVec 8) (d2 : S1x576x128.Idx → BitVec 8) (v0 : EReal)

theorem xrow_in (ρ : Fin 1152) (l : Fin 128) (h : (gn t).val * 1152 + ρ.val < 12568) :
    Xrow (win0_1.fill (grid0.coords t) d1 (iblk (F := Ideal) m c 1 t)) ρ l = blkC (arrC m c) (gp t) ⟨(gn t).val * 1152 + ρ.val, h⟩ l := by
  funext q
  refine (fillC m c t d1 _ l (by show _ * _ + (8 * ρ.val + q.val) < _; omega)).trans ?_
  unfold blkC
  congr 2
  apply Fin.ext; show _ * _ + (8 * ρ.val + q.val) = 8 * (_ * _ + ρ.val) + q.val; omega

theorem srow_in (ρ : Fin 1152) (l : Fin 128) (h : (gn t).val * 1152 + ρ.val < 12568) :
    Srow (win0_2.fill (grid0.coords t) d2 (iblk (F := Ideal) m c 2 t)) ρ l = facS (arrS m c) (gp t) ⟨(gn t).val * 1152 + ρ.val, h⟩ l := by
  refine (fillS m c t d2 _ l (by show _ * _ + (ρ.val / 2) < _; omega)).trans ?_
  unfold facS
  congr 2
  apply Fin.ext; show _ * _ + (ρ.val / 2) = (_ * _ + ρ.val) / 2; omega

theorem osB_in (ρ : Fin 1152) (l : Fin 128) (h : (gn t).val * 1152 + ρ.val < 12568) :
    osB (win0_1.fill (grid0.coords t) d1 (iblk (F := Ideal) m c 1 t)) (win0_2.fill (grid0.coords t) d2 (iblk (F := Ideal) m c 2 t)) v0 ρ l
      = osW (arrC m c) (arrS m c) v0 (gp t) ⟨(gn t).val * 1152 + ρ.val, h⟩ l := by
  unfold osB osW; rw [xrow_in m c t d1 ρ l h, srow_in m c t d2 ρ l h]

theorem oB_in (r : Fin 9216) (l : Fin 128) (h : (gn t).val * 9216 + r.val < 100544) :
    oB (win0_1.fill (grid0.coords t) d1 (iblk (F := Ideal) m c 1 t)) (win0_2.fill (grid0.coords t) d2 (iblk (F := Ideal) m c 2 t)) v0 r l
      = oW (arrC m c) (arrS m c) v0 (gp t) ⟨(gn t).val * 9216 + r.val, h⟩ l := by
  have h' : (gn t).val * 1152 + r.val / 8 < 12568 := by omega
  have e : (⟨(gn t).val * 1152 + r.val / 8, h'⟩ : Fin 12568) = ⟨((gn t).val * 9216 + r.val) / 8, by omega⟩ := Fin.ext (by show (gn t).val * 1152 + r.val / 8 = ((gn t).val * 9216 + r.val) / 8; omega)
  unfold oB oW
  rw [xrow_in m c t d1 ⟨r.val / 8, by omega⟩ l h', srow_in m c t d2 ⟨r.val / 8, by omega⟩ l h', fillC m c t d1 r l h, e]
end

end Cert.Proof.KernelIdeal
-- ==== Proof.LaunchVal.lean ====
module

public import proofs.«01_k».proof.Proof.Blocks

/-! The launch of the kernel, with the contents of the three output arrays after it. -/

@[expose] public section

set_option maxRecDepth 65536
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable [∀ e, Nonempty (Elt Ideal e)]

variable (m : (ℓ : Loc nD τ sig) → Buf (Elt Ideal) ℓ) (ρ : Dev nD → PrngReg)

/-- The largest magnitude handed to the kernel. -/
abbrev amx (c : Dev nD) : EReal := (V (F := Ideal) m c main_v0 : Vec Ideal S1x1 .f32) (ix2 (0 : Fin 1) (0 : Fin 1))

/-- The two fetched blocks, filled out past the arrays' end with zeros. -/
abbrev blk1 (c : Dev nD) (t : Fin grid0.N) : S1x9216x128.Idx → BitVec 8 := win0_1.fill (grid0.coords t) (fun _ => 0#8) (iblk (F := Ideal) m c 1 t)
abbrev blk2 (c : Dev nD) (t : Fin grid0.N) : S1x576x128.Idx → BitVec 8 := win0_2.fill (grid0.coords t) (fun _ => 0#8) (iblk (F := Ideal) m c 2 t)

/-- The blocks of codes and of scales the body leaves, from the blocks it finds. -/
abbrev outC (X : S1x9216x128.Idx → BitVec 8) (S : S1x576x128.Idx → BitVec 8) (v0 : EReal) : Vec Ideal S1x9216x128 .i8 := fun j => oB X S v0 (j 1) (j 2)
abbrev outS (X : S1x9216x128.Idx → BitVec 8) (S : S1x576x128.Idx → BitVec 8) (v0 : EReal) : Vec Ideal S1x1152x128 .fp8e4m3 := fun j => osB X S v0 (j 1) (j 2)

/-- The proof data on core `c`. -/
def datsV (_ : Fin 1) (c : Dev nD) : Dat τ (Elt Ideal) Unit ℕ (UR sig nD τ) ℕ cfg0 c where
  A w := V (F := Ideal) m c (Pipeline.arrRef spec0 w)
  after w t := match w with
    | ⟨0, _⟩ => iblk (F := Ideal) m c 0 t
    | ⟨1, _⟩ => blk1 m c t
    | ⟨2, _⟩ => blk2 m c t
    | ⟨3, _⟩ => outC (blk1 m c t) (blk2 m c t) (amx m c)
    | ⟨4, _⟩ => outS (blk1 m c t) (blk2 m c t) (amx m c)
    | ⟨5, _⟩ => fun _ => tsc (amx m c)
  Φ _ := Pipeline.ΦA spec0 c
  q _ := fullShare
  owed _ := 0

theorem beforeV_0 (c : Dev nD) (t : Fin cfg0.N) (d) : (datsV m 0 c).before 0 t d = iblk (F := Ideal) m c 0 t :=
  before0_0_of m (datsV m 0 c) rfl (fun _ => rfl) t d
theorem beforeV_1 (c : Dev nD) (t : Fin cfg0.N) (d) : (datsV m 0 c).before 1 t d = win0_1.fill (grid0.coords t) d (iblk (F := Ideal) m c 1 t) := by
  unfold Dat.before; rw [if_pos (fetch0_1 t)]; rfl
theorem beforeV_2 (c : Dev nD) (t : Fin cfg0.N) (d) : (datsV m 0 c).before 2 t d = win0_2.fill (grid0.coords t) d (iblk (F := Ideal) m c 2 t) := by
  unfold Dat.before; rw [if_pos (fetch0_2 t)]; rfl

theorem eq3 {a b : ℕ} (j : Shape.Idx (⟨3, ![1, a, b]⟩ : Shape)) : j = ix3 (0 : Fin 1) (j 1) (j 2) := by
  funext i
  match i with
  | ⟨0, _⟩ => exact Fin.ext (by have := (j 0).isLt; show (j 0).val = 0; exact Nat.lt_one_iff.mp this)
  | ⟨1, _⟩ => rfl
  | ⟨2, _⟩ => rfl

/-- The body at a grid point, from blocks `X1`, `X2` and the scalar `X0`. -/
theorem sound_val (c : Dev nD) (t : Fin cfg0.N) (X0 : S1x1.Idx → EReal) (X1 : S1x9216x128.Idx → BitVec 8) (X2 : S1x576x128.Idx → BitVec 8) :
    iprop(Pipeline.ΦA spec0 c ∗ owns (c : Thread nD τ) (st0_0 t) fullShare X0 ∗ owns (c : Thread nD τ) (st0_1 t) fullShare X1
      ∗ owns (c : Thread nD τ) (st0_2 t) fullShare X2
      ∗ (∃ d, owns (c : Thread nD τ) (st0_3 t) fullShare d) ∗ (∃ d, owns (c : Thread nD τ) (st0_4 t) fullShare d) ∗ (∃ d, owns (c : Thread nD τ) (st0_5 t) fullShare d))
    ⊢ wp frame (wpE (defs₀ (F := Ideal)) 𝒱₀ (c : Thread nD τ) none) Set.univ (bodyAt0 (F := Ideal) t) (fun _ =>
      iprop((Pipeline.ΦA spec0 c : sProp (MT nD τ sig Unit (Elt Ideal) ℕ (UR sig nD τ) ℕ)) ∗ owns (c : Thread nD τ) (st0_0 t) fullShare X0 ∗ owns (c : Thread nD τ) (st0_1 t) fullShare X1
      ∗ owns (c : Thread nD τ) (st0_2 t) fullShare X2
      ∗ owns (c : Thread nD τ) (st0_3 t) fullShare (outC X1 X2 (X0 (ix2 (0 : Fin 1) (0 : Fin 1))))
      ∗ owns (c : Thread nD τ) (st0_4 t) fullShare (outS X1 X2 (X0 (ix2 (0 : Fin 1) (0 : Fin 1))))
      ∗ owns (c : Thread nD τ) (st0_5 t) fullShare (fun _ => tsc (X0 (ix2 (0 : Fin 1) (0 : Fin 1)))))) := by
  unfold bodyAt0 owns
  rw [ΦA_eq]
  iintro ⟨⟨⟨HA, HB, HC⟩, Hg⟩, ⟨%f2, %h2, H0⟩, ⟨%f3, %h3, H1⟩, ⟨%f4, %h4, H2⟩, ⟨%d3, %g3, -, H3⟩, ⟨%d4, %g4, -, H4⟩, ⟨%d5, %g5, -, H5⟩⟩
  subst h2 h3 h4
  iapply (wp_wand _ _ _) $$ [H0 H1 H2 H3 H4 H5 HA HB HC]
  · iapply (body_val c (grid0.coords t) (st0_0 t) _ (st0_1 t) _ (st0_2 t) _ (st0_3 t) _ (st0_4 t) _ (st0_5 t) _ (Memref.whole cc0_scratch0) (Memref.isWhole_whole _) (Memref.whole cc0_scratch1) (Memref.isWhole_whole _) (Memref.whole cc0_scratch2) (Memref.isWhole_whole _) f2 f3 f4)
    isplitl [H0]; · iexact H0
    isplitl [H5]; · iexists g5; iexact H5
    isplitl [H1 H2 HA HB HC]
    · isplitl [H1]; · iexact H1
      isplitl [H2]; · iexact H2
      isplitl [HA]; · iexact HA
      isplitl [HB]; · iexact HB
      iexact HC
    isplitl [H3]; · iexists g3; iexact H3
    iexists g4; iexact H4
  iintro %_ ⟨H0, ⟨%f7, H5, %h7⟩, ⟨⟨H1, H2, HA, HB, HC⟩, ⟨%f5, H3, %h5⟩, ⟨%f6, H4, %h6⟩⟩⟩
  isplitl [HA HB HC Hg]
  · isplitl [HA HB HC]
    · isplitl [HA]; · iexact HA
      isplitl [HB]; · iexact HB
      iexact HC
    iexact Hg
  isplitl [H0]; · iexists f2; isplitr; · ipureintro; rfl
                  iexact H0
  isplitl [H1]; · iexists f3; isplitr; · ipureintro; rfl
                  iexact H1
  isplitl [H2]; · iexists f4; isplitr; · ipureintro; rfl
                  iexact H2
  isplitl [H3]
  · iexists f5; isplitr
    · ipureintro
      funext j
      refine (congrArg _ (eq3 j)).trans (h5 (j 1) (j 2) ?_)
      have := (j 1).isLt; exact this
    iexact H3
  isplitl [H4]
  · iexists f6; isplitr
    · ipureintro
      funext j
      refine (congrArg _ (eq3 j)).trans (h6 (j 1) (j 2) ?_)
      have := (j 1).isLt; exact this
    iexact H4
  iexists f7; isplitr
  · ipureintro
    funext j
    refine (congrArg _ ?_).trans h7
    funext i
    match i with
    | ⟨0, _⟩ => exact Fin.ext (Nat.lt_one_iff.mp (j 0).isLt)
    | ⟨1, _⟩ => exact Fin.ext (Nat.lt_one_iff.mp (j 1).isLt)
  iexact H5

end Cert.Proof.KernelIdeal
-- ==== Proof.RunVal.lean ====
module

public import proofs.«01_k».proof.Proof.LaunchVal
public import Idealize.ShloMosaic.Lib.StableHlo.RunRead
public import Idealize.ShloMosaic.Lib.Claim

/-! The run of the kernel: what its three results hold, element by element, from its three arguments. -/

@[expose] public section

set_option maxRecDepth 65536
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose Window)

variable [∀ e, Nonempty (Elt Ideal e)]

variable (m : (ℓ : Loc nD τ sig) → Buf (Elt Ideal) ℓ) (ρ : Dev nD → PrngReg)

theorem iblk0_at (c : Dev nD) (t : Fin cfg0.N) : (iblk (F := Ideal) m c 0 t : S1x1.Idx → EReal) (ix2 (0 : Fin 1) (0 : Fin 1)) = amx m c := by
  show V (F := Ideal) m c main_v0 ((win0_0.rect t).emb _) = _
  refine congrArg _ (funext fun a => ?_)
  match a with
  | ⟨0, _⟩ => exact Subsingleton.elim (α := Fin 1) _ _
  | ⟨1, _⟩ => exact Subsingleton.elim (α := Fin 1) _ _

theorem cut3 (c : Dev nD) (t : Fin cfg0.N) (d1 d2) (v0 : EReal) :
    win0_3.cut (grid0.coords t) (outC (win0_1.fill (grid0.coords t) d1 (iblk (F := Ideal) m c 1 t)) (win0_2.fill (grid0.coords t) d2 (iblk (F := Ideal) m c 2 t)) v0)
      = win0_3.cut (grid0.coords t) (outC (blk1 m c t) (blk2 m c t) v0) := by
  funext y
  obtain ⟨e0, e1, e2⟩ := xs3 t
  have hy : (y 1).val < min 9216 (100544 - (gn t).val * 9216) := lt_of_lt_of_eq (y 1).isLt e1
  have hl : (gn t).val * 9216 + (win0_3.xinj (grid0.coords t) y 1).val < 100544 := by show _ + (y 1).val < _; omega
  exact (oB_in m c t d1 d2 v0 (win0_3.xinj (grid0.coords t) y 1) (win0_3.xinj (grid0.coords t) y 2) hl).trans
    (oB_in m c t _ _ v0 (win0_3.xinj (grid0.coords t) y 1) (win0_3.xinj (grid0.coords t) y 2) hl).symm

theorem cut4 (c : Dev nD) (t : Fin cfg0.N) (d1 d2) (v0 : EReal) :
    win0_4.cut (grid0.coords t) (outS (win0_1.fill (grid0.coords t) d1 (iblk (F := Ideal) m c 1 t)) (win0_2.fill (grid0.coords t) d2 (iblk (F := Ideal) m c 2 t)) v0)
      = win0_4.cut (grid0.coords t) (outS (blk1 m c t) (blk2 m c t) v0) := by
  funext y
  obtain ⟨e0, e1, e2⟩ := xs4 t
  have hy : (y 1).val < min 1152 (12568 - (gn t).val * 1152) := lt_of_lt_of_eq (y 1).isLt e1
  have hl : (gn t).val * 1152 + (win0_4.xinj (grid0.coords t) y 1).val < 12568 := by show _ + (y 1).val < _; omega
  exact (osB_in m c t d1 d2 v0 (win0_4.xinj (grid0.coords t) y 1) (win0_4.xinj (grid0.coords t) y 2) hl).trans
    (osB_in m c t _ _ v0 (win0_4.xinj (grid0.coords t) y 1) (win0_4.xinj (grid0.coords t) y 2) hl).symm

theorem obligation_val (c : Dev nD) : BodyObligationLoose (datsV m 0 c) (defs₀ (F := Ideal)) 𝒱₀ () Set.univ := fun t => by
  rw [bigSep_W0, bigSep_W0, defs₀_row]
  simp only
  rw [show (datsV m 0 c).Φ t.succ = Pipeline.ΦA spec0 c from rfl, show (datsV m 0 c).Φ t.castSucc = Pipeline.ΦA spec0 c from rfl,
    show (datsV m 0 c).owesAt () t.succ = (datsV m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [beforeV_0 m c t d0, beforeV_1 m c t d1, beforeV_2 m c t d2]
  iapply (wp_wand _ _ _) $$ [HΦ H0 H1 H2 H3 H4 H5]
  · iapply (sound_val c t (iblk (F := Ideal) m c 0 t) (win0_1.fill (grid0.coords t) d1 (iblk (F := Ideal) m c 1 t)) (win0_2.fill (grid0.coords t) d2 (iblk (F := Ideal) m c 2 t)))
    isplitl [HΦ]; · iexact HΦ
    isplitl [H0]; · iexact H0
    isplitl [H1]; · iexact H1
    isplitl [H2]; · iexact H2
    isplitl [H3]; · iexists _; iexact H3
    isplitl [H4]; · iexists _; iexact H4
    iexists _; iexact H5
  iintro %_ ⟨HΦ, H0, H1, H2, H3, H4, H5⟩
  rw [iblk0_at]
  isplitl [HΦ]; · iexact HΦ
  isplitl [Ho]; · iexact Ho
  isplitl [H0]; · iexact H0
  isplitl [H1]
  · iexists d1
    change _ ⊢ owns (c : Thread nD τ) (st0_1 t) fullShare (win0_1.fill (grid0.coords t) d1 (win0_1.cut (grid0.coords t) (blk1 m c t)))
    rw [show win0_1.cut (grid0.coords t) (blk1 m c t) = _ from win0_1.cut_fill _ _ _]; try iexact H1
  isplitl [H2]
  · iexists d2
    change _ ⊢ owns (c : Thread nD τ) (st0_2 t) fullShare (win0_2.fill (grid0.coords t) d2 (win0_2.cut (grid0.coords t) (blk2 m c t)))
    rw [show win0_2.cut (grid0.coords t) (blk2 m c t) = _ from win0_2.cut_fill _ _ _]; try iexact H2
  isplitl [H3]
  · iexists (outC (win0_1.fill (grid0.coords t) d1 (iblk (F := Ideal) m c 1 t)) (win0_2.fill (grid0.coords t) d2 (iblk (F := Ideal) m c 2 t)) (amx m c))
    change _ ⊢ owns (c : Thread nD τ) (st0_3 t) fullShare (win0_3.fill (grid0.coords t) _ (win0_3.cut (grid0.coords t) (outC (blk1 m c t) (blk2 m c t) (amx m c))))
    rw [← cut3 m c t d1 d2, win0_3.fill_cut]; try iexact H3
  isplitl [H4]
  · iexists (outS (win0_1.fill (grid0.coords t) d1 (iblk (F := Ideal) m c 1 t)) (win0_2.fill (grid0.coords t) d2 (iblk (F := Ideal) m c 2 t)) (amx m c))
    change _ ⊢ owns (c : Thread nD τ) (st0_4 t) fullShare (win0_4.fill (grid0.coords t) _ (win0_4.cut (grid0.coords t) (outS (blk1 m c t) (blk2 m c t) (amx m c))))
    rw [← cut4 m c t d1 d2, win0_4.fill_cut]; try iexact H4
  iexact H5

set_option backward.isDefEq.respectTransparency.types false in
theorem run_mainV :
    θ_run defs (onTc (τ := τ) (main (F := Ideal))) (s₀ m ρ)
      (fun r => Pipeline.FramePost cfgs (datsV m) 0 (Pipeline.afterTail₀ cfgs (datsV m) 0 (V0 m) [hostOps1]) r ∧ r.2.sem = fun _ => 0) :=
  Pipeline.θ_run_frame_around (Q' := _) cfgs (datsV m) (0 : Fin 1) launch0 defs₀ 𝒱₀ m ρ main
    (hbody := fun c => obligation_val m c) (hshare := fun c => (datsV m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

/-! The three arrays after the run. -/

theorem arr3 (c : Dev nD) (i : S2x100544x128.Idx) :
    ((datsV m 0 c).arrAt 3 cfg0.N : S2x100544x128.Idx → BitVec 8) i = oW (arrC m c) (arrS m c) (amx m c) (i 0) (i 1) (i 2) := by
  refine (datsV m 0 c).arrAt_forall_of_cover 3 (fun i v => v = oW (arrC m c) (arrS m c) (amx m c) (i 0) (i 1) (i 2)) ?_ ?_ i
  · intro t hf y
    obtain ⟨e0, e1, e2⟩ := xs3 t
    obtain ⟨i0, i1, i2⟩ := ix3' t
    have hy : (y 1).val < min 9216 (100544 - (gn t).val * 9216) := lt_of_lt_of_eq (y 1).isLt e1
    have hy0 : (y 0).val < 1 := lt_of_lt_of_eq (y 0).isLt e0
    have hl : (gn t).val * 9216 + (win0_3.xinj (grid0.coords t) y 1).val < 100544 := by show _ + (y 1).val < _; omega
    refine (oB_in m c t (fun _ => 0#8) (fun _ => 0#8) (amx m c) (win0_3.xinj (grid0.coords t) y 1) (win0_3.xinj (grid0.coords t) y 2) hl).trans ?_
    have E0 : ((win0_3.rect t).emb y 0 : Nat) = (gp t).val := by rw [win0_3.rect_emb_val t, i0]; show _ * 1 + (y 0).val = _; omega
    have E1 : ((win0_3.rect t).emb y 1 : Nat) = (gn t).val * 9216 + (y 1).val := by rw [win0_3.rect_emb_val t, i1]; rfl
    have E2 : ((win0_3.rect t).emb y 2 : Nat) = (y 2).val := by rw [win0_3.rect_emb_val t, i2]; show 0 * 128 + (y 2).val = _; omega
    exact congr (congr (congrArg (oW (arrC m c) (arrS m c) (amx m c)) (Fin.ext E0.symm)) (Fin.ext E1.symm)) (Fin.ext E2.symm)
  · intro i
    have h0 : (i 0).val < 2 := (i 0).isLt
    have h1 : (i 1).val < 100544 := (i 1).isLt
    have h2 : (i 2).val < 128 := (i 2).isLt
    have key : ∀ p < 2, ∀ n < 11, ∃ t : Fin grid0.N, (gp t).val = p ∧ (gn t).val = n := by decide +kernel
    obtain ⟨t, hp, hn⟩ := key (i 0).val h0 ((i 1).val / 9216) (by omega)
    refine ⟨t, flush0_3 t, ?_⟩
    obtain ⟨e0, e1, e2⟩ := xs3 t
    obtain ⟨i0, i1, i2⟩ := ix3' t
    have z : (i 1).val - (gn t).val * 9216 < min 9216 (100544 - (gn t).val * 9216) := by rw [hn]; omega
    refine Finset.mem_map.mpr ⟨fun a => match a with
      | ⟨0, _⟩ => ⟨0, lt_of_lt_of_eq (show 0 < 1 by omega) e0.symm⟩
      | ⟨1, _⟩ => ⟨(i 1).val - (gn t).val * 9216, lt_of_lt_of_eq z e1.symm⟩
      | ⟨2, _⟩ => ⟨(i 2).val, lt_of_lt_of_eq h2 e2.symm⟩, Finset.mem_univ _, funext fun a => Fin.ext ?_⟩
    refine (win0_3.rect_emb_val t _ a).trans ?_
    match a with
    | ⟨0, _⟩ => show win0_3.index t 0 * 1 + 0 = (i 0).val; rw [i0, hp]; omega
    | ⟨1, _⟩ => show win0_3.index t 1 * 9216 + ((i 1).val - (gn t).val * 9216) = (i 1).val; rw [i1, hn]; omega
    | ⟨2, _⟩ => show win0_3.index t 2 * 128 + (i 2).val = (i 2).val; rw [i2]; omega

theorem arr4 (c : Dev nD) (i : S2x12568x128.Idx) :
    ((datsV m 0 c).arrAt 4 cfg0.N : S2x12568x128.Idx → EReal) i = osW (arrC m c) (arrS m c) (amx m c) (i 0) (i 1) (i 2) := by
  refine (datsV m 0 c).arrAt_forall_of_cover 4 (fun i v => v = osW (arrC m c) (arrS m c) (amx m c) (i 0) (i 1) (i 2)) ?_ ?_ i
  · intro t hf y
    obtain ⟨e0, e1, e2⟩ := xs4 t
    obtain ⟨i0, i1, i2⟩ := ix4 t
    have hy : (y 1).val < min 1152 (12568 - (gn t).val * 1152) := lt_of_lt_of_eq (y 1).isLt e1
    have hy0 : (y 0).val < 1 := lt_of_lt_of_eq (y 0).isLt e0
    have hl : (gn t).val * 1152 + (win0_4.xinj (grid0.coords t) y 1).val < 12568 := by show _ + (y 1).val < _; omega
    refine (osB_in m c t (fun _ => 0#8) (fun _ => 0#8) (amx m c) (win0_4.xinj (grid0.coords t) y 1) (win0_4.xinj (grid0.coords t) y 2) hl).trans ?_
    have E0 : ((win0_4.rect t).emb y 0 : Nat) = (gp t).val := by rw [win0_4.rect_emb_val t, i0]; show _ * 1 + (y 0).val = _; omega
    have E1 : ((win0_4.rect t).emb y 1 : Nat) = (gn t).val * 1152 + (y 1).val := by rw [win0_4.rect_emb_val t, i1]; rfl
    have E2 : ((win0_4.rect t).emb y 2 : Nat) = (y 2).val := by rw [win0_4.rect_emb_val t, i2]; show 0 * 128 + (y 2).val = _; omega
    exact congr (congr (congrArg (osW (arrC m c) (arrS m c) (amx m c)) (Fin.ext E0.symm)) (Fin.ext E1.symm)) (Fin.ext E2.symm)
  · intro i
    have h0 : (i 0).val < 2 := (i 0).isLt
    have h1 : (i 1).val < 12568 := (i 1).isLt
    have h2 : (i 2).val < 128 := (i 2).isLt
    have key : ∀ p < 2, ∀ n < 11, ∃ t : Fin grid0.N, (gp t).val = p ∧ (gn t).val = n := by decide +kernel
    obtain ⟨t, hp, hn⟩ := key (i 0).val h0 ((i 1).val / 1152) (by omega)
    refine ⟨t, flush0_4 t, ?_⟩
    obtain ⟨e0, e1, e2⟩ := xs4 t
    obtain ⟨i0, i1, i2⟩ := ix4 t
    have z : (i 1).val - (gn t).val * 1152 < min 1152 (12568 - (gn t).val * 1152) := by rw [hn]; omega
    refine Finset.mem_map.mpr ⟨fun a => match a with
      | ⟨0, _⟩ => ⟨0, lt_of_lt_of_eq (show 0 < 1 by omega) e0.symm⟩
      | ⟨1, _⟩ => ⟨(i 1).val - (gn t).val * 1152, lt_of_lt_of_eq z e1.symm⟩
      | ⟨2, _⟩ => ⟨(i 2).val, lt_of_lt_of_eq h2 e2.symm⟩, Finset.mem_univ _, funext fun a => Fin.ext ?_⟩
    refine (win0_4.rect_emb_val t _ a).trans ?_
    match a with
    | ⟨0, _⟩ => show win0_4.index t 0 * 1 + 0 = (i 0).val; rw [i0, hp]; omega
    | ⟨1, _⟩ => show win0_4.index t 1 * 1152 + ((i 1).val - (gn t).val * 1152) = (i 1).val; rw [i1, hn]; omega
    | ⟨2, _⟩ => show win0_4.index t 2 * 128 + (i 2).val = (i 2).val; rw [i2]; omega

theorem arr5 (c : Dev nD) (i : S1x1.Idx) : ((datsV m 0 c).arrAt 5 cfg0.N : S1x1.Idx → EReal) i = tsc (amx m c) := by
  refine (datsV m 0 c).arrAt_forall_of_cover 5 (fun i v => v = tsc (amx m c)) ?_ ?_ i
  · intro t hf y; rfl
  · intro i
    refine ⟨⟨21, by decide⟩, (flush0_5 _).mpr rfl, ?_⟩
    refine Finset.mem_map.mpr ⟨fun a => match a with
      | ⟨0, _⟩ => ⟨0, Nat.zero_lt_one⟩
      | ⟨1, _⟩ => ⟨0, Nat.zero_lt_one⟩, Finset.mem_univ _, funext fun a => ?_⟩
    match a with
    | ⟨0, _⟩ => exact Subsingleton.elim (α := Fin 1) _ _
    | ⟨1, _⟩ => exact Subsingleton.elim (α := Fin 1) _ _

/-- The code bytes and the factor bytes with their two last axes exchanged. -/
abbrev TC (A : S2x128x100544.Idx → BitVec 8) : Carr := fun j => A (ix3 (j 0) (j 2) (j 1))
abbrev TS (A : S2x128x6284.Idx → BitVec 8) : Sarr := fun j => A (ix3 (j 0) (j 2) (j 1))
abbrev nil0 : S_.Idx := fun a => a.elim0

/-- The three arguments. -/
abbrev A0 (c : Dev nD) : S2x128x100544.Idx → BitVec 8 := m ((c : Thread nD τ).loc main_arg0)
abbrev A1 (c : Dev nD) : S2x128x6284.Idx → BitVec 8 := m ((c : Thread nD τ).loc main_arg1)
abbrev A2 (c : Dev nD) : S_.Idx → EReal := m ((c : Thread nD τ).loc main_arg2)

/-- The arguments as the region finds them. -/
theorem arrC_eq (c : Dev nD) : arrC m c = TC (A0 m c) := by
  have : (V (F := Ideal) m c main_v1 : S2x100544x128.Idx → BitVec 8) = transpose S2x100544x128 [0, 2, 1] (m ((c : Thread nD τ).loc main_arg0)) transposes_S2x128x100544_S2x100544x128_0_2_1 := by
    unfold V V0 hostOps0
    after_reads_simp
  funext j
  exact (congrFun this j).trans (transpose_apply _ _ _ _ _ fun b => match b with | ⟨0, _⟩ => rfl | ⟨1, _⟩ => rfl | ⟨2, _⟩ => rfl)
theorem arrS_eq (c : Dev nD) : arrS m c = TS (A1 m c) := by
  have : (V (F := Ideal) m c main_v2 : S2x6284x128.Idx → BitVec 8) = transpose S2x6284x128 [0, 2, 1] (m ((c : Thread nD τ).loc main_arg1)) transposes_S2x128x6284_S2x6284x128_0_2_1 := by
    unfold V V0 hostOps0
    after_reads_simp
  funext j
  exact (congrFun this j).trans (transpose_apply _ _ _ _ _ fun b => match b with | ⟨0, _⟩ => rfl | ⟨1, _⟩ => rfl | ⟨2, _⟩ => rfl)
theorem amx_eq (c : Dev nD) : amx m c = A2 m c nil0 := by
  have : (V (F := Ideal) m c main_v0 : S1x1.Idx → EReal) = shapeCast S1x1 (A2 m c) shapeCasts_S_S1x1 := by
    unfold V V0 hostOps0
    after_reads_simp
    rfl
  refine (congrFun this _).trans ?_
  unfold shapeCast
  exact congrArg (A2 m c) (funext fun a => Fin.elim0 a)

/-- The three results. -/
abbrev resC (c : Dev nD) : S2x128x100544.Idx → BitVec 8 := fun i => oW (TC (A0 m c)) (TS (A1 m c)) (A2 m c nil0) (i 0) (i 2) (i 1)
abbrev resS (c : Dev nD) : S2x128x12568.Idx → EReal := fun i => osW (TC (A0 m c)) (TS (A1 m c)) (A2 m c nil0) (i 0) (i 2) (i 1)
abbrev resT (c : Dev nD) : S_.Idx → EReal := fun _ => tsc (A2 m c nil0)

theorem arr_inj : Function.Injective (Pipeline.arrRef spec0) := by decide

theorem tail4 (c : Dev nD) : (Pipeline.afterTail₀ cfgs (datsV m) 0 (V0 m) [hostOps1] c main_v4 : S2x128x100544.Idx → BitVec 8) = resC m c := by
  have : (Pipeline.afterTail₀ cfgs (datsV m) 0 (V0 m) [hostOps1] c main_v4 : S2x128x100544.Idx → BitVec 8)
      = transpose S2x128x100544 [0, 2, 1] ((datsV m 0 c).arrAt 3 cfg0.N : S2x100544x128.Idx → BitVec 8) transposes_S2x100544x128_S2x128x100544_0_2_1 := by
    unfold Pipeline.afterTail₀ hostOps1
    simp only [List.flatten_cons, List.flatten_nil, List.append_nil]
    after_reads_simp
    exact congrArg (fun x => transpose S2x128x100544 [0, 2, 1] x transposes_S2x100544x128_S2x128x100544_0_2_1) (Pipeline.withArrays_arr spec0 arr_inj c (V0 m c) _ 3)
  funext i
  refine (congrFun this i).trans ((transpose_apply _ _ _ _ (ix3 (i 0) (i 2) (i 1)) fun b => match b with | ⟨0, _⟩ => rfl | ⟨1, _⟩ => rfl | ⟨2, _⟩ => rfl).trans ?_)
  refine (arr3 m c _).trans ?_
  rw [arrC_eq, arrS_eq, amx_eq]; rfl
theorem tail5 (c : Dev nD) : (Pipeline.afterTail₀ cfgs (datsV m) 0 (V0 m) [hostOps1] c main_v5 : S2x128x12568.Idx → EReal) = resS m c := by
  have : (Pipeline.afterTail₀ cfgs (datsV m) 0 (V0 m) [hostOps1] c main_v5 : S2x128x12568.Idx → EReal)
      = transpose S2x128x12568 [0, 2, 1] ((datsV m 0 c).arrAt 4 cfg0.N : S2x12568x128.Idx → EReal) transposes_S2x12568x128_S2x128x12568_0_2_1 := by
    unfold Pipeline.afterTail₀ hostOps1
    simp only [List.flatten_cons, List.flatten_nil, List.append_nil]
    after_reads_simp
    exact congrArg (fun x => transpose S2x128x12568 [0, 2, 1] x transposes_S2x12568x128_S2x128x12568_0_2_1) (Pipeline.withArrays_arr spec0 arr_inj c (V0 m c) _ 4)
  funext i
  refine (congrFun this i).trans ((transpose_apply _ _ _ _ (ix3 (i 0) (i 2) (i 1)) fun b => match b with | ⟨0, _⟩ => rfl | ⟨1, _⟩ => rfl | ⟨2, _⟩ => rfl).trans ?_)
  refine (arr4 m c _).trans ?_
  rw [arrC_eq, arrS_eq, amx_eq]; rfl
theorem tail6 (c : Dev nD) : (Pipeline.afterTail₀ cfgs (datsV m) 0 (V0 m) [hostOps1] c main_v6 : S_.Idx → EReal) = resT m c := by
  have : (Pipeline.afterTail₀ cfgs (datsV m) 0 (V0 m) [hostOps1] c main_v6 : S_.Idx → EReal)
      = shapeCast S_ ((datsV m 0 c).arrAt 5 cfg0.N : S1x1.Idx → EReal) shapeCasts_S1x1_S_ := by
    unfold Pipeline.afterTail₀ hostOps1
    simp only [List.flatten_cons, List.flatten_nil, List.append_nil]
    after_reads_simp
    exact congrArg (fun x => shapeCast S_ x shapeCasts_S1x1_S_) (Pipeline.withArrays_arr spec0 arr_inj c (V0 m c) _ 5)
  funext i
  refine (congrFun this i).trans ?_
  exact (arr5 m c _).trans (by rw [amx_eq])

/-- The run: every result named, the arguments unchanged. -/
theorem run_val : θ_run defs (onTc (τ := τ) (main (F := Ideal))) ⟨m, fun _ => 0, ρ⟩ (fun r => ∀ c : Dev nD,
      r.2.mem ((c.tc : Thread nD τ).loc main_v4) = resC m c
      ∧ r.2.mem ((c.tc : Thread nD τ).loc main_v5) = resS m c
      ∧ r.2.mem ((c.tc : Thread nD τ).loc main_v6) = resT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1 c).2 main_v4 (Pipeline.mem_restRefs_of main_v4 (by decide) (by decide))).trans (tail4 m c),
     ((h.1 c).2 main_v5 (Pipeline.mem_restRefs_of main_v5 (by decide) (by decide))).trans (tail5 m c),
     ((h.1 c).2 main_v6 (Pipeline.mem_restRefs_of main_v6 (by decide) (by decide))).trans (tail6 m c),
     ((h.1 c).2 main_arg0 (Pipeline.mem_restRefs_of main_arg0 (by decide) (by decide))).trans (W_main_arg0 m (datsV m) c),
     ((h.1 c).2 main_arg1 (Pipeline.mem_restRefs_of main_arg1 (by decide) (by decide))).trans (W_main_arg1 m (datsV m) c),
     ((h.1 c).2 main_arg2 (Pipeline.mem_restRefs_of main_arg2 (by decide) (by decide))).trans (W_main_arg2 m (datsV m) c)⟩) (run_mainV m ρ)

end Cert.Proof.KernelIdeal
-- ==== Proof.RefHost.lean ====
module

public import proofs.«01_k».proof.Proof.Gen.ReferenceIdeal.Value
public import Idealize.ShloMosaic.Lib.StableHlo.RunRead
public import Idealize.ShloMosaic.Lib.Claim
public import Idealize.ShloMosaic.Lib.Pointwise
public import Idealize.ShloMosaic.Lib.IdealHost

/-! The reference's host lines: the decoded values, the block maxima and the tensor scale, element by element. -/

@[expose] public section

set_option maxRecDepth 65536
set_option maxHeartbeats 4000000

noncomputable section

namespace Cert.Proof.ReferenceIdeal

open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg)

abbrev bI (k : BitVec 32) : IVec S2x128x100544 32 := broadcastInDim S2x128x100544 ![] bcast_S_S2x128x100544 (constantI S_ 32 k)
abbrev bF (k : BitVec 32) : FVec Ideal S2x128x100544 .f32 := broadcastInDim S2x128x100544 ![] bcast_S_S2x128x100544 (constant S_ .f32 k)

/-- The magnitude and the value of each of the codes `c`. -/
def magH (c : IVec S2x128x100544 32) : FVec Ideal S2x128x100544 .f32 :=
  select (cmpi .eq (andi (Host.shrsi c (bI 1#32)) (bI 3#32)) (bI 0#32))
    (mulf (bF 0x3F000000#32) (sitofp .f32 (andi c (bI 1#32))))
    (mulf (addf (bF 0x3F800000#32) (mulf (bF 0x3F000000#32) (sitofp .f32 (andi c (bI 1#32)))))
      (Host.powf (bF 0x40000000#32) (sitofp .f32 (subi (andi (Host.shrsi c (bI 1#32)) (bI 3#32)) (bI 1#32)))))
def decH (c : IVec S2x128x100544 32) : FVec Ideal S2x128x100544 .f32 :=
  select (cmpi .ne (andi c (bI 8#32)) (bI 0#32)) (Host.negf (magH c)) (magH c)
abbrev loH (A : S2x128x100544.Idx → BitVec 8) : IVec S2x128x100544 32 := andi (extui 32 A natLt_8_32) (bI 15#32)
abbrev hiH (A : S2x128x100544.Idx → BitVec 8) : IVec S2x128x100544 32 := Host.shrsi (extui 32 A natLt_8_32) (bI 4#32)
/-- The blocks' factors. -/
def facH (A : S2x128x6284.Idx → BitVec 8) : FVec Ideal S2x128x6284 .f32 :=
  Host.powf (broadcastInDim S2x128x6284 ![] bcast_S_S2x128x6284 (constant S_ .f32 0x40000000#32))
    (sitofp .f32 (subi (extui 32 A natLt_8_32) (broadcastInDim S2x128x6284 ![] bcast_S_S2x128x6284 (constantI S_ 32 127#32))))
/-- The values in pairs, as the array of bytes is. -/
def pairH (A : S2x128x100544.Idx → BitVec 8) : FVec Ideal S2x128x100544x2 .f32 :=
  concatenate S2x128x100544x2 3
    [⟨S2x128x100544x1, broadcastInDim S2x128x100544x1 ![0, 1, 2] bcast_S2x128x100544_S2x128x100544x1_0_1_2 (decH (loH A))⟩,
     ⟨S2x128x100544x1, broadcastInDim S2x128x100544x1 ![0, 1, 2] bcast_S2x128x100544_S2x128x100544x1_0_1_2 (decH (hiH A))⟩]
    concatenates_S2x128x100544x1_S2x128x100544x1_S2x128x100544x2_d3
/-- The decoded values in blocks of sixteen. -/
def vbH (A : S2x128x100544.Idx → BitVec 8) (B : S2x128x6284.Idx → BitVec 8) : FVec Ideal S2x128x12568x16 .f32 :=
  shapeCast S2x128x12568x16 (shapeCast S2x128x201088
    (mulf (shapeCast S2x128x6284x32 (pairH A) shapeCasts_S2x128x100544x2_S2x128x6284x32)
      (broadcastInDim S2x128x6284x32 ![0, 1, 2, 3] bcast_S2x128x6284x1_S2x128x6284x32_0_1_2_3
        (broadcastInDim S2x128x6284x1 ![0, 1, 2] bcast_S2x128x6284_S2x128x6284x1_0_1_2 (facH B))))
    shapeCasts_S2x128x6284x32_S2x128x201088) shapeCasts_S2x128x201088_S2x128x12568x16
def tsH (a : S_.Idx → EReal) : FVec Ideal S_ .f32 := Host.divf (φ := .f32) a (constant S_ .f32 0x45280000#32)
/-- The greatest magnitude of each block. -/
def bmH (v : FVec Ideal S2x128x12568x16 .f32) : FVec Ideal S2x128x12568 .f32 :=
  Host.reduce FloatOps.maximumf (Host.absf v) (constant S_ .f32 0xFF800000#32) reducesTo_S2x128x12568x16_S2x128x12568_d3 h_S_
def bsH (v : FVec Ideal S2x128x12568x16 .f32) (ts : FVec Ideal S_ .f32) : FVec Ideal S2x128x12568 .f32 :=
  Host.divf (bmH v) (broadcastInDim S2x128x12568 ![] bcast_S_S2x128x12568 (mulf ts (constant S_ .f32 0x40C00000#32)))

abbrev A0 (c : Dev nD) : S2x128x100544.Idx → BitVec 8 := m ((c : Thread nD τ).loc main_arg0)
abbrev A1 (c : Dev nD) : S2x128x6284.Idx → BitVec 8 := m ((c : Thread nD τ).loc main_arg1)
abbrev A2 (c : Dev nD) : S_.Idx → EReal := m ((c : Thread nD τ).loc main_arg2)

theorem v75 (c : Dev nD) : (V (F := Ideal) m c main_v75 : S_.Idx → EReal) = tsH (A2 m c) := by
  unfold V hostOps0 hostOps0_1 hostOps0_2 hostOps0_3 hostOps0_4 hostOps0_5 hostOps0_6 hostOps0_7 hostOps0_8
  simp only [List.flatten_cons, List.flatten_nil, List.append_nil, List.cons_append, List.nil_append]
  after_reads_simp
  rfl
theorem v76 (c : Dev nD) : (V (F := Ideal) m c main_v76 : S2x128x12568x16.Idx → EReal) = vbH (A0 m c) (A1 m c) := by
  unfold V hostOps0 hostOps0_1 hostOps0_2 hostOps0_3 hostOps0_4 hostOps0_5 hostOps0_6 hostOps0_7 hostOps0_8
  simp only [List.flatten_cons, List.flatten_nil, List.append_nil, List.cons_append, List.nil_append]
  after_reads_simp
  unfold vbH pairH facH decH magH
  rfl
theorem v81 (c : Dev nD) : (V (F := Ideal) m c main_v81 : S2x128x12568.Idx → EReal) = bsH (vbH (A0 m c) (A1 m c)) (tsH (A2 m c)) := by
  unfold V hostOps0 hostOps0_1 hostOps0_2 hostOps0_3 hostOps0_4 hostOps0_5 hostOps0_6 hostOps0_7 hostOps0_8
  simp only [List.flatten_cons, List.flatten_nil, List.append_nil, List.cons_append, List.nil_append]
  after_reads_simp
  unfold bsH bmH vbH pairH facH decH magH
  rfl
theorem v82 (c : Dev nD) : (V (F := Ideal) m c main_v82 : S1x1.Idx → EReal) = shapeCast S1x1 (tsH (A2 m c)) shapeCasts_S_S1x1 := by
  unfold V hostOps0 hostOps0_1 hostOps0_2 hostOps0_3 hostOps0_4 hostOps0_5 hostOps0_6 hostOps0_7 hostOps0_8
  simp only [List.flatten_cons, List.flatten_nil, List.append_nil, List.cons_append, List.nil_append]
  after_reads_simp
  rfl

end Cert.Proof.ReferenceIdeal
-- ==== Proof.Casts.lean ====
module

public import proofs.«01_k».proof.Proof.RefHost
public import proofs.«01_k».proof.Proof.Scalar

/-! Reshapes read at an index, and one code's value in the reference's words. -/

@[expose] public section

set_option maxRecDepth 65536
set_option maxHeartbeats 4000000

noncomputable section

namespace Cert.Proof.ReferenceIdeal

open Cert.ReferenceIdeal Cert.ReferenceIdeal.Gen
open Idealize.ShloMosaic Idealize.ShloMosaic.TcCoe Idealize.SL.Sem

section
variable {α : Type} {A B C D E C' D' : ℕ}

theorem cast43 (hE : C * D = E) (x : (⟨4, ![A, B, C, D]⟩ : Shape).Idx → α) (h : (⟨4, ![A, B, C, D]⟩ : Shape).ShapeCasts ⟨3, ![A, B, E]⟩)
    (a : Fin A) (b : Fin B) (e : Fin E) (c : Fin C) (d : Fin D) (he : c.val * D + d.val = e.val) :
    shapeCast ⟨3, ![A, B, E]⟩ x h (ix3 a b e) = x (ix4 a b c d) := by
  refine shapeCast_apply _ _ _ _ ?_
  rw [Shape.rowMajor_val_three, Shape.rowMajor_val_four]
  show ((a.val * B + b.val) * C + c.val) * D + d.val = (a.val * B + b.val) * E + e.val
  subst hE; rw [← he]; ring
theorem cast34 (hE : C * D = E) (x : (⟨3, ![A, B, E]⟩ : Shape).Idx → α) (h : (⟨3, ![A, B, E]⟩ : Shape).ShapeCasts ⟨4, ![A, B, C, D]⟩)
    (a : Fin A) (b : Fin B) (e : Fin E) (c : Fin C) (d : Fin D) (he : c.val * D + d.val = e.val) :
    shapeCast ⟨4, ![A, B, C, D]⟩ x h (ix4 a b c d) = x (ix3 a b e) := by
  refine shapeCast_apply _ _ _ _ ?_
  rw [Shape.rowMajor_val_three, Shape.rowMajor_val_four]
  show (a.val * B + b.val) * E + e.val = ((a.val * B + b.val) * C + c.val) * D + d.val
  subst hE; rw [← he]; ring
theorem cast44 (hE : C * D = C' * D') (x : (⟨4, ![A, B, C, D]⟩ : Shape).Idx → α) (h : (⟨4, ![A, B, C, D]⟩ : Shape).ShapeCasts ⟨4, ![A, B, C', D']⟩)
    (a : Fin A) (b : Fin B) (c : Fin C) (d : Fin D) (c' : Fin C') (d' : Fin D') (he : c.val * D + d.val = c'.val * D' + d'.val) :
    shapeCast ⟨4, ![A, B, C', D']⟩ x h (ix4 a b c' d') = x (ix4 a b c d) := by
  refine shapeCast_apply _ _ _ _ ?_
  rw [Shape.rowMajor_val_four, Shape.rowMajor_val_four]
  show ((a.val * B + b.val) * C + c.val) * D + d.val = ((a.val * B + b.val) * C' + c'.val) * D' + d'.val
  calc _ = (a.val * B + b.val) * (C * D) + (c.val * D + d.val) := by ring
    _ = (a.val * B + b.val) * (C' * D') + (c'.val * D' + d'.val) := by rw [hE, he]
    _ = _ := by ring
end

/-- One code's magnitude, in the reference's words. -/
def magS (n : BitVec 32) : EReal :=
  Scalar.select (IntOp.cmpi .eq (IntOp.andi (IntOp.shrsi .host n 1#32) 3#32) 0#32)
    (Ideal.ofBits .f32 0x3F000000#32 * (((IntOp.andi n 1#32).toInt : ℝ) : EReal))
    ((Ideal.ofBits .f32 0x3F800000#32 + Ideal.ofBits .f32 0x3F000000#32 * (((IntOp.andi n 1#32).toInt : ℝ) : EReal)) *
      Ideal.pow (Ideal.ofBits .f32 0x40000000#32) (((IntOp.subi (IntOp.andi (IntOp.shrsi .host n 1#32) 3#32) 1#32).toInt : ℝ) : EReal))
def decS (n : BitVec 32) : EReal :=
  Scalar.select (IntOp.cmpi .ne (IntOp.andi n 8#32) 0#32) (- magS n) (magS n)

theorem pow_int (z : ℤ) : Ideal.pow ((2 : ℝ) : EReal) ((z : ℝ) : EReal) = (((2 : ℝ) ^ z : ℝ) : EReal) := by
  rw [Ideal.pow_coe_coe]; exact congrArg _ (Real.rpow_intCast 2 z)

theorem magS_eq (n : BitVec 32) (a : ℕ) (z : ℤ) (b : Bool) (r : ℝ) (hg : IntOp.cmpi .eq (IntOp.andi (IntOp.shrsi .host n 1#32) 3#32) 0#32 = BitVec.ofBool b)
    (ha : (IntOp.andi n 1#32).toInt = (a : ℤ)) (hz : (IntOp.subi (IntOp.andi (IntOp.shrsi .host n 1#32) 3#32) 1#32).toInt = z)
    (hr : r = if b then 1/2 * (a : ℝ) else (1 + 1/2 * (a : ℝ)) * (2 : ℝ) ^ z) : magS n = ((r : ℝ) : EReal) := by
  unfold magS
  rw [hg, ha, hz, b_half, b_one, b_two, pow_int, ← EReal.coe_mul, ← EReal.coe_add, ← EReal.coe_mul, hr]
  cases b <;> simp [Scalar.select, -EReal.coe_mul, -EReal.coe_add]

theorem mag0 : magS 0#32 = ((0 : ℝ) : EReal) := magS_eq _ 0 (-1) true _ (by decide) (by decide) (by decide) (by norm_num)
theorem mag1 : magS 1#32 = ((1/2 : ℝ) : EReal) := magS_eq _ 1 (-1) true _ (by decide) (by decide) (by decide) (by norm_num)
theorem mag2 : magS 2#32 = ((1 : ℝ) : EReal) := magS_eq _ 0 0 false _ (by decide) (by decide) (by decide) (by norm_num)
theorem mag3 : magS 3#32 = ((3/2 : ℝ) : EReal) := magS_eq _ 1 0 false _ (by decide) (by decide) (by decide) (by norm_num)
theorem mag4 : magS 4#32 = ((2 : ℝ) : EReal) := magS_eq _ 0 1 false _ (by decide) (by decide) (by decide) (by norm_num)
theorem mag5 : magS 5#32 = ((3 : ℝ) : EReal) := magS_eq _ 1 1 false _ (by decide) (by decide) (by decide) (by norm_num)
theorem mag6 : magS 6#32 = ((4 : ℝ) : EReal) := magS_eq _ 0 2 false _ (by decide) (by decide) (by decide) (by norm_num)
theorem mag7 : magS 7#32 = ((6 : ℝ) : EReal) := magS_eq _ 1 2 false _ (by decide) (by decide) (by decide) (by norm_num)
theorem mag8 : magS 8#32 = ((0 : ℝ) : EReal) := magS_eq _ 0 (-1) true _ (by decide) (by decide) (by decide) (by norm_num)
theorem mag9 : magS 9#32 = ((1/2 : ℝ) : EReal) := magS_eq _ 1 (-1) true _ (by decide) (by decide) (by decide) (by norm_num)
theorem mag10 : magS 10#32 = ((1 : ℝ) : EReal) := magS_eq _ 0 0 false _ (by decide) (by decide) (by decide) (by norm_num)
theorem mag11 : magS 11#32 = ((3/2 : ℝ) : EReal) := magS_eq _ 1 0 false _ (by decide) (by decide) (by decide) (by norm_num)
theorem mag12 : magS 12#32 = ((2 : ℝ) : EReal) := magS_eq _ 0 1 false _ (by decide) (by decide) (by decide) (by norm_num)
theorem mag13 : magS 13#32 = ((3 : ℝ) : EReal) := magS_eq _ 1 1 false _ (by decide) (by decide) (by decide) (by norm_num)
theorem mag14 : magS 14#32 = ((4 : ℝ) : EReal) := magS_eq _ 0 2 false _ (by decide) (by decide) (by decide) (by norm_num)
theorem mag15 : magS 15#32 = ((6 : ℝ) : EReal) := magS_eq _ 1 2 false _ (by decide) (by decide) (by decide) (by norm_num)

theorem dec_pos (n : BitVec 32) (r : ℝ) (hn : IntOp.cmpi .ne (IntOp.andi n 8#32) 0#32 = 0#1) (h : magS n = ((r : ℝ) : EReal)) : decS n = ((r : ℝ) : EReal) := by
  unfold decS; rw [hn, h]; rfl
theorem dec_neg (n : BitVec 32) (r : ℝ) (hn : IntOp.cmpi .ne (IntOp.andi n 8#32) 0#32 = 1#1) (h : magS n = ((r : ℝ) : EReal)) : decS n = ((-r : ℝ) : EReal) := by
  unfold decS; rw [hn, h]; rfl

theorem decS_eq (k : ℕ) (h : k < 16) : decS (BitVec.ofNat 32 k) = ((if 8 ≤ k then - tab (k - 8) else tab k : ℝ) : EReal) := by
  interval_cases k
  · exact dec_pos _ _ (by decide) mag0
  · exact dec_pos _ _ (by decide) mag1
  · exact dec_pos _ _ (by decide) mag2
  · exact dec_pos _ _ (by decide) mag3
  · exact dec_pos _ _ (by decide) mag4
  · exact dec_pos _ _ (by decide) mag5
  · exact dec_pos _ _ (by decide) mag6
  · exact dec_pos _ _ (by decide) mag7
  · exact dec_neg _ _ (by decide) mag8
  · exact dec_neg _ _ (by decide) mag9
  · exact dec_neg _ _ (by decide) mag10
  · exact dec_neg _ _ (by decide) mag11
  · exact dec_neg _ _ (by decide) mag12
  · exact dec_neg _ _ (by decide) mag13
  · exact dec_neg _ _ (by decide) mag14
  · exact dec_neg _ _ (by decide) mag15

def nib4 (x : BitVec 8) (p : Fin 2) : ℕ := if p = 0 then (x &&& 15#8).toNat else (x >>> 4).toNat
/-- The value of one half of a byte. -/
def sv (x : BitVec 8) (p : Fin 2) : ℝ := if 8 ≤ nib4 x p then - mg x p else mg x p
theorem nib4_lt (x : BitVec 8) (p : Fin 2) : nib4 x p < 16 := by revert x p; decide +kernel
theorem nib4_mod (x : BitVec 8) (p : Fin 2) : (if 8 ≤ nib4 x p then nib4 x p - 8 else nib4 x p) = nibN x p := by revert x p; decide +kernel
theorem lo_nib : ∀ x : BitVec 8, IntOp.andi (x.zeroExtend 32) 15#32 = BitVec.ofNat 32 (nib4 x 0) := by decide +kernel
theorem hi_nib : ∀ x : BitVec 8, IntOp.shrsi .host (x.zeroExtend 32) 4#32 = BitVec.ofNat 32 (nib4 x 1) := by decide +kernel
theorem decS_nib (x : BitVec 8) (p : Fin 2) : decS (BitVec.ofNat 32 (nib4 x p)) = ((sv x p : ℝ) : EReal) := by
  rw [decS_eq _ (nib4_lt x p)]
  unfold sv mg
  rw [← nib4_mod]
  by_cases h : 8 ≤ nib4 x p
  · simp only [h, if_true]
  · simp only [h, if_false]
theorem sv_abs (x : BitVec 8) (p : Fin 2) : |sv x p| = mg x p := by
  unfold sv
  split
  · rw [abs_neg, abs_of_nonneg (mg_nonneg x p)]
  · rw [abs_of_nonneg (mg_nonneg x p)]

end Cert.Proof.ReferenceIdeal
-- ==== Proof.RefPt.lean ====
module

public import proofs.«01_k».proof.Proof.Casts

/-! The reference's decoded values and block maxima, as numbers. -/

@[expose] public section

set_option maxRecDepth 65536
set_option maxHeartbeats 1000000

noncomputable section

namespace Cert.Proof.ReferenceIdeal

open Cert.ReferenceIdeal Cert.ReferenceIdeal.Gen
open Idealize.ShloMosaic Idealize.ShloMosaic.TcCoe Idealize.SL.Sem

theorem bI_at (k : BitVec 32) (i : S2x128x100544.Idx) : bI k i = k := ValueIdx.broadcastInDim_scalar_apply _ _ _
theorem bF_at (k : BitVec 32) (i : S2x128x100544.Idx) : bF k i = Ideal.ofBits .f32 k := ValueIdx.broadcastInDim_scalar_apply _ _ _

theorem magH_at (x : IVec S2x128x100544 32) (i : S2x128x100544.Idx) : magH x i = magS (x i) := by
  have h : magH x i = Scalar.select (IntOp.cmpi .eq (IntOp.andi (IntOp.shrsi .host (x i) (bI 1#32 i)) (bI 3#32 i)) (bI 0#32 i))
    ((bF 0x3F000000#32 i : EReal) * (((IntOp.andi (x i) (bI 1#32 i)).toInt : ℝ) : EReal))
    (((bF 0x3F800000#32 i : EReal) + (bF 0x3F000000#32 i : EReal) * (((IntOp.andi (x i) (bI 1#32 i)).toInt : ℝ) : EReal)) *
      Ideal.pow (bF 0x40000000#32 i) (((IntOp.subi (IntOp.andi (IntOp.shrsi .host (x i) (bI 1#32 i)) (bI 3#32 i)) (bI 1#32 i)).toInt : ℝ) : EReal)) := rfl
  rw [h]
  simp only [bI_at, bF_at]
  rfl
theorem decH_at (x : IVec S2x128x100544 32) (i : S2x128x100544.Idx) : decH x i = decS (x i) := by
  have h : decH x i = Scalar.select (IntOp.cmpi .ne (IntOp.andi (x i) (bI 8#32 i)) (bI 0#32 i)) (-(magH x i : EReal)) (magH x i) := rfl
  rw [h, bI_at, bI_at, magH_at]
  rfl
theorem lo_at (A : S2x128x100544.Idx → BitVec 8) (i : S2x128x100544.Idx) : loH A i = BitVec.ofNat 32 (nib4 (A i) 0) := by
  rw [← lo_nib]
  have h : loH A i = IntOp.andi ((A i).zeroExtend 32) (bI 15#32 i) := rfl
  rw [h, bI_at]
theorem hi_at (A : S2x128x100544.Idx → BitVec 8) (i : S2x128x100544.Idx) : hiH A i = BitVec.ofNat 32 (nib4 (A i) 1) := by
  rw [← hi_nib]
  have h : hiH A i = IntOp.shrsi .host ((A i).zeroExtend 32) (bI 4#32 i) := rfl
  rw [h, bI_at]

theorem pairH_at (A : S2x128x100544.Idx → BitVec 8) (a : Fin 2) (b : Fin 128) (c : Fin 100544) (p : Fin 2) :
    pairH A (ix4 a b c p) = ((sv (A (ix3 a b c)) p : ℝ) : EReal) := by
  unfold pairH
  by_cases hp : p = 0
  · subst hp
    refine (concatenate_pair_apply_left (t := S2x128x100544x2) (s₁ := S2x128x100544x1) (s₂ := S2x128x100544x1) 3 _ _ _ _ rfl (ix4 a b c (0 : Fin 1)) (fun e => match e with | ⟨0, _⟩ => rfl | ⟨1, _⟩ => rfl | ⟨2, _⟩ => rfl | ⟨3, _⟩ => rfl)).trans ?_
    refine (broadcastInDim_apply _ _ _ _ (ix3 a b c) (fun e => match e with | ⟨0, _⟩ => rfl | ⟨1, _⟩ => rfl | ⟨2, _⟩ => rfl)).trans ?_
    rw [decH_at, lo_at, decS_nib]
  · have hp : p = 1 := by omega
    subst hp
    refine (concatenate_pair_apply_right (t := S2x128x100544x2) (s₁ := S2x128x100544x1) (s₂ := S2x128x100544x1) 3 _ _ _ _ rfl rfl (ix4 a b c (0 : Fin 1)) (fun e => match e with | ⟨0, _⟩ => fun _ => rfl | ⟨1, _⟩ => fun _ => rfl | ⟨2, _⟩ => fun _ => rfl | ⟨3, _⟩ => fun h => absurd rfl h) rfl).trans ?_
    refine (broadcastInDim_apply _ _ _ _ (ix3 a b c) (fun e => match e with | ⟨0, _⟩ => rfl | ⟨1, _⟩ => rfl | ⟨2, _⟩ => rfl)).trans ?_
    rw [decH_at, hi_at, decS_nib]

theorem facH_at (B : S2x128x6284.Idx → BitVec 8) (i : S2x128x6284.Idx) :
    facH B i = (((2 : ℝ) ^ (((B i).toNat : ℤ) - 127) : ℝ) : EReal) := by
  have h : facH B i = Ideal.pow (broadcastInDim S2x128x6284 ![] bcast_S_S2x128x6284 (constant (F := Ideal) S_ .f32 0x40000000#32) i)
    (((IntOp.subi ((B i).zeroExtend 32) (broadcastInDim S2x128x6284 ![] bcast_S_S2x128x6284 (constantI S_ 32 127#32) i)).toInt : ℝ) : EReal) := rfl
  have h1 : broadcastInDim S2x128x6284 ![] bcast_S_S2x128x6284 (constantI S_ 32 127#32) i = 127#32 := ValueIdx.broadcastInDim_scalar_apply _ _ _
  have h2 : broadcastInDim S2x128x6284 ![] bcast_S_S2x128x6284 (constant (F := Ideal) S_ .f32 0x40000000#32) i = Ideal.ofBits .f32 0x40000000#32 := ValueIdx.broadcastInDim_scalar_apply _ _ _
  rw [h, h1, h2]
  exact pow_eq _

theorem ixk_lt (q : Fin 8) (p : Fin 2) : 2 * q.val + p.val < 16 := by omega
def ixk (q : Fin 8) (p : Fin 2) : Fin 16 := ⟨2 * q.val + p.val, ixk_lt q p⟩
theorem ixk_ex (k : Fin 16) : ∃ q p, k = ixk q p := ⟨⟨k.val / 2, by omega⟩, ⟨k.val % 2, by omega⟩, Fin.ext (show k.val = 2 * (k.val / 2) + k.val % 2 by omega)⟩
theorem lt_v (c : Fin 12568) (q : Fin 8) (p : Fin 2) : 16 * c.val + (2 * q.val + p.val) < 201088 := by omega
theorem lt_h (c : Fin 12568) : c.val / 2 < 6284 := by omega
theorem lt_r (c : Fin 12568) (q : Fin 8) (p : Fin 2) : 16 * (c.val % 2) + (2 * q.val + p.val) < 32 := by omega
theorem lt_b (c : Fin 12568) (q : Fin 8) : 8 * c.val + q.val < 100544 := by omega
def iv (c : Fin 12568) (q : Fin 8) (p : Fin 2) : Fin 201088 := ⟨_, lt_v c q p⟩
def ih (c : Fin 12568) : Fin 6284 := ⟨_, lt_h c⟩
def ir (c : Fin 12568) (q : Fin 8) (p : Fin 2) : Fin 32 := ⟨_, lt_r c q p⟩
def ib (c : Fin 12568) (q : Fin 8) : Fin 100544 := ⟨_, lt_b c q⟩
theorem ixk_v (q : Fin 8) (p : Fin 2) : (ixk q p).val = 2 * q.val + p.val := rfl
theorem iv_v (c : Fin 12568) (q : Fin 8) (p : Fin 2) : (iv c q p).val = 16 * c.val + (2 * q.val + p.val) := rfl
theorem ih_v (c : Fin 12568) : (ih c).val = c.val / 2 := rfl
theorem ir_v (c : Fin 12568) (q : Fin 8) (p : Fin 2) : (ir c q p).val = 16 * (c.val % 2) + (2 * q.val + p.val) := rfl
theorem ib_v (c : Fin 12568) (q : Fin 8) : (ib c q).val = 8 * c.val + q.val := rfl
theorem e1 (c : Fin 12568) (q : Fin 8) (p : Fin 2) : c.val * 16 + (ixk q p).val = (iv c q p).val := by rw [ixk_v, iv_v]; omega
theorem e2 (c : Fin 12568) (q : Fin 8) (p : Fin 2) : (ih c).val * 32 + (ir c q p).val = (iv c q p).val := by rw [ih_v, ir_v, iv_v]; omega
theorem e3 (c : Fin 12568) (q : Fin 8) (p : Fin 2) : (ib c q).val * 2 + p.val = (ih c).val * 32 + (ir c q p).val := by rw [ih_v, ir_v, ib_v]; omega

theorem L1 (X : S2x128x6284x32.Idx → EReal) (a : Fin 2) (b : Fin 128) (c : Fin 12568) (q : Fin 8) (p : Fin 2) :
    shapeCast S2x128x12568x16 (shapeCast S2x128x201088 X shapeCasts_S2x128x6284x32_S2x128x201088) shapeCasts_S2x128x201088_S2x128x12568x16
      (ix4 a b c (ixk q p)) = X (ix4 a b (ih c) (ir c q p)) :=
  (cast34 (C := 12568) (D := 16) (E := 201088) (by norm_num) _ _ a b (iv c q p) c (ixk q p) (e1 c q p)).trans
    (cast43 (C := 6284) (D := 32) (E := 201088) (by norm_num) _ _ a b (iv c q p) (ih c) (ir c q p) (e2 c q p))
theorem L2 (X : S2x128x100544x2.Idx → EReal) (a : Fin 2) (b : Fin 128) (c : Fin 12568) (q : Fin 8) (p : Fin 2) :
    shapeCast S2x128x6284x32 X shapeCasts_S2x128x100544x2_S2x128x6284x32 (ix4 a b (ih c) (ir c q p)) = X (ix4 a b (ib c q) p) :=
  cast44 (C := 100544) (D := 2) (C' := 6284) (D' := 32) (by norm_num) _ _ a b (ib c q) p (ih c) (ir c q p) (e3 c q p)
theorem L3 (X : S2x128x6284.Idx → EReal) (a : Fin 2) (b : Fin 128) (c : Fin 6284) (r : Fin 32) :
    broadcastInDim S2x128x6284x32 ![0, 1, 2, 3] bcast_S2x128x6284x1_S2x128x6284x32_0_1_2_3
        (broadcastInDim S2x128x6284x1 ![0, 1, 2] bcast_S2x128x6284_S2x128x6284x1_0_1_2 X) (ix4 a b c r) = X (ix3 a b c) :=
  (broadcastInDim_apply _ _ _ _ (ix4 a b c (0 : Fin 1)) (fun e => match e with | ⟨0, _⟩ => rfl | ⟨1, _⟩ => rfl | ⟨2, _⟩ => rfl | ⟨3, _⟩ => rfl)).trans
    (broadcastInDim_apply _ _ _ _ (ix3 a b c) (fun e => match e with | ⟨0, _⟩ => rfl | ⟨1, _⟩ => rfl | ⟨2, _⟩ => rfl))
theorem mulf_at' {s : Shape} (x y : FVec Ideal s .f32) (i : s.Idx) : mulf x y i = (x i * y i : EReal) := rfl
theorem vbH_at (A : S2x128x100544.Idx → BitVec 8) (B : S2x128x6284.Idx → BitVec 8) (a : Fin 2) (b : Fin 128) (c : Fin 12568) (q : Fin 8) (p : Fin 2) :
    vbH A B (ix4 a b c (ixk q p)) = ((sv (A (ix3 a b (ib c q))) p * (2 : ℝ) ^ (((B (ix3 a b (ih c))).toNat : ℤ) - 127) : ℝ) : EReal) := by
  unfold vbH
  rw [L1, mulf_at', L2, L3, pairH_at, facH_at, ← EReal.coe_mul]

instance : Std.Commutative (FloatOps.maximumf (F := Ideal) (φ := .f32)) := ⟨fun a b => max_comm (a : EReal) b⟩
instance : Std.Associative (FloatOps.maximumf (F := Ideal) (φ := .f32)) := ⟨fun a b c => max_assoc (a : EReal) b c⟩

theorem bmH_fold (v : FVec Ideal S2x128x12568x16 .f32) (a : Fin 2) (b : Fin 128) (c : Fin 12568) :
    (bmH v (ix3 a b c) : EReal) = (Finset.univ : Finset (Fin 16)).fold max (⊥ : EReal) (fun k => FloatOps.absf (F := Ideal) (φ := .f32) (v (ix4 a b c k))) := by
  unfold bmH
  have hR : S2x128x12568x16.Reduces [3] S2x128x12568 := by decide
  rw [Host.reduce_eq_fold_single _ _ _ _ hR]
  have hl : ∀ k : Fin 16, hR.lift (ix3 a b c) k = ix4 a b c k := fun k => funext fun e => match e with | ⟨0, _⟩ => rfl | ⟨1, _⟩ => rfl | ⟨2, _⟩ => rfl | ⟨3, _⟩ => rfl
  have hf : (Host.absf v ∘ hR.lift (ix3 a b c)) = (fun k : Fin 16 => FloatOps.absf (F := Ideal) (φ := .f32) (v (ix4 a b c k))) :=
    funext fun k => congrArg (Host.absf v) (hl k)
  rw [hf]
  exact congrArg (fun z : EReal => (Finset.univ : Finset (Fin 16)).fold max z (fun k => FloatOps.absf (F := Ideal) (φ := .f32) (v (ix4 a b c k)))) b_ninf

end Cert.Proof.ReferenceIdeal
-- ==== Proof.RefBlk.lean ====
module

public import proofs.«01_k».proof.Proof.RefPt
public import Idealize.ShloMosaic.Lib.Pipeline.Value

/-! The reference's run: its three results, named from the arguments. -/

@[expose] public section

set_option maxRecDepth 65536
set_option maxHeartbeats 1000000

noncomputable section

namespace Cert.Proof.ReferenceIdeal

open Cert.ReferenceIdeal Cert.ReferenceIdeal.Gen
open Idealize.ShloMosaic Idealize.ShloMosaic.TcCoe Idealize.SL.Sem
open Idealize.ShloMosaic.Pipeline (Dat)

variable [∀ e, Nonempty (Elt Ideal e)]
variable (m : (ℓ : Loc nD τ sig) → Buf (Elt Ideal) ℓ) (ρ : Dev nD → PrngReg)

theorem rd0 (X : S2x128x12568x16.Idx → EReal) (t : Fin cfg0.N) : (win0_0.blk t).view.read (Elt Ideal) X = X := by
  funext y
  refine congrArg X (funext fun a => Fin.ext ?_)
  exact win0_0.rect_emb_val_of_index_zero t a rfl y
theorem rd1 (X : S2x128x12568.Idx → EReal) (t : Fin cfg0.N) : (win0_1.blk t).view.read (Elt Ideal) X = X := by
  funext y
  refine congrArg X (funext fun a => Fin.ext ?_)
  exact win0_1.rect_emb_val_of_index_zero t a rfl y
theorem rd2 (X : S1x1.Idx → EReal) (t : Fin cfg0.N) : (win0_2.blk t).view.read (Elt Ideal) X = X := by
  funext y
  refine congrArg X (funext fun a => Fin.ext ?_)
  exact win0_2.rect_emb_val_of_index_zero t a rfl y
theorem iblk0 (c : Dev nD) (t : Fin cfg0.N) : (iblk (F := Ideal) m c 0 t : S2x128x12568x16.Idx → EReal) = vbH (A0 m c) (A1 m c) :=
  (rd0 (V (F := Ideal) m c main_v76) t).trans (v76 m c)
theorem iblk1 (c : Dev nD) (t : Fin cfg0.N) : (iblk (F := Ideal) m c 1 t : S2x128x12568.Idx → EReal) = bsH (vbH (A0 m c) (A1 m c)) (tsH (A2 m c)) :=
  (rd1 (V (F := Ideal) m c main_v81) t).trans (v81 m c)
theorem iblk2 (c : Dev nD) (t : Fin cfg0.N) : (iblk (F := Ideal) m c 2 t : S1x1.Idx → EReal) = shapeCast S1x1 (tsH (A2 m c)) shapeCasts_S_S1x1 :=
  (rd2 (V (F := Ideal) m c main_v82) t).trans (v82 m c)

end Cert.Proof.ReferenceIdeal
-- ==== Proof.RefRun.lean ====
module

public import proofs.«01_k».proof.Proof.RefBlk
public import Idealize.ShloMosaic.Lib.Pipeline.Value
public import Idealize.ShloMosaic.Lib.Pipeline.ValueKit.Geometry

/-! The reference's run: its three results, named from the arguments. -/

@[expose] public section

set_option maxRecDepth 65536
set_option maxHeartbeats 1000000

noncomputable section

namespace Cert.Proof.ReferenceIdeal

open Cert.ReferenceIdeal Cert.ReferenceIdeal.Gen
open Idealize.ShloMosaic Idealize.ShloMosaic.TcCoe Idealize.SL.Sem
open Idealize.ShloMosaic.Pipeline (Dat)

variable [∀ e, Nonempty (Elt Ideal e)]
variable (m : (ℓ : Loc nD τ sig) → Buf (Elt Ideal) ℓ) (ρ : Dev nD → PrngReg)

/-- The tensor scale as the region reads it. -/
abbrev tsB (a : S_.Idx → EReal) : S1x1.Idx → EReal := shapeCast S1x1 (tsH a) shapeCasts_S_S1x1
/-- The codes, from the decoded blocks, the raw block scales and the tensor scale. -/
def codes (v : Vec Ideal S2x128x12568x16 .f32) (b : Vec Ideal S2x128x12568 .f32) (t : Vec Ideal S1x1 .f32) : IVec S2x128x100544 8 :=
  k0_pay1 (F := Ideal) (k0_pay3 b t v) (k0_pay4 b t v) (k0_pay5 b t v) (Scalar.ofBits .f32 0x3FE00000#32)

theorem z3 : (![0, 0, 0] : Fin 3 → ℕ) = fun _ => 0 := by funext a; fin_cases a <;> rfl
theorem z4 : (![0, 0, 0, 0] : Fin 4 → ℕ) = fun _ => 0 := by funext a; fin_cases a <;> rfl
theorem z2 : (![0, 0] : Fin 2 → ℕ) = fun _ => 0 := by funext a; fin_cases a <;> rfl

theorem out3 (x0 : Vec Ideal S2x128x12568x16 .f32) (x1 : Vec Ideal S2x128x12568 .f32) (x2 : Vec Ideal S1x1 .f32) : out0_3 x0 x1 x2 = codes x0 x1 x2 := by
  unfold out0_3
  rw [View.canon_unit_zero z3, View.ld_unit_zero z3, View.ld_unit_zero z2, View.ld_unit_zero z4]
  rfl
theorem out4 (x0 : Vec Ideal S2x128x12568x16 .f32) (x1 : Vec Ideal S2x128x12568 .f32) (x2 : Vec Ideal S1x1 .f32) : out0_4 x0 x1 x2 = k0_pay2 x1 := by
  unfold out0_4
  rw [View.canon_unit_zero z3, View.ld_unit_zero z3]

theorem pay2_at (b : Vec Ideal S2x128x12568 .f32) (i : S2x128x12568.Idx) : (k0_pay2 b i : EReal) = min (Ideal.ofBits .f32 0x43E00000#32) (max 0 (b i)) := by
  have h : (k0_pay2 b i : EReal) = min (Ideal.ofBits .f32 0x43E00000#32) (max (Ideal.ofBits .f32 0x00000000#32) (shapeCast S2x128x12568 b shapeCasts_S2x128x12568_S2x128x12568 i)) := rfl
  rw [h, Ideal.ofBits_zero_f32, shapeCast_apply _ _ i i rfl]

def t0 : Fin cfg0.N := ⟨0, by decide⟩
theorem arr3 (c : Dev nD) : ((dats (F := Ideal) m 0 c).arrAt 3 cfg0.N : S2x128x100544.Idx → BitVec 8)
      = codes (vbH (A0 m c) (A1 m c)) (bsH (vbH (A0 m c) (A1 m c)) (tsH (A2 m c))) (tsB (A2 m c)) := by
  refine (dats (F := Ideal) m 0 c).arrAt_eq_of_after_last 3 t0 (by decide +kernel) _ (fun j => ?_)
  rw [after0_3, out3, iblk0, iblk1, iblk2]
  rfl
theorem arr4 (c : Dev nD) : ((dats (F := Ideal) m 0 c).arrAt 4 cfg0.N : S2x128x12568.Idx → EReal)
      = k0_pay2 (F := Ideal) (bsH (vbH (A0 m c) (A1 m c)) (tsH (A2 m c))) := by
  refine (dats (F := Ideal) m 0 c).arrAt_eq_of_after_last 4 t0 (by decide +kernel) _ (fun j => ?_)
  rw [after0_4, out4, iblk1]
  rfl

/-- The run: every result named, the arguments unchanged. -/
theorem run_val : θ_run defs (onTc (τ := τ) (main (F := Ideal))) ⟨m, fun _ => 0, ρ⟩ (fun r => ∀ c : Dev nD,
      r.2.mem ((c.tc : Thread nD τ).loc main_v83_0) = codes (vbH (A0 m c) (A1 m c)) (bsH (vbH (A0 m c) (A1 m c)) (tsH (A2 m c))) (tsB (A2 m c))
      ∧ r.2.mem ((c.tc : Thread nD τ).loc main_v83_1) = k0_pay2 (F := Ideal) (bsH (vbH (A0 m c) (A1 m c)) (tsH (A2 m c)))
      ∧ r.2.mem ((c.tc : Thread nD τ).loc main_v75) = tsH (A2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(Value.post3 m r h c).trans (arr3 m c), (Value.post4 m r h c).trans (arr4 m c),
     ((h c).2 main_v75 (Pipeline.mem_restRefs_of main_v75 (by decide) (by decide))).trans (v75 m c),
     Value.kept_main_arg0 m r h c, Value.kept_main_arg1 m r h c, Value.kept_main_arg2 m r h c⟩) (run_main (F := Ideal) m ρ)

end Cert.Proof.ReferenceIdeal
-- ==== Proof.EqScale.lean ====
module

public import proofs.«01_k».proof.Proof.RunVal
public import proofs.«01_k».proof.Proof.RefRun

/-! The block scales and the tensor scale: the kernel's and the reference's are equal. -/

@[expose] public section

set_option maxRecDepth 65536
set_option maxHeartbeats 1000000

noncomputable section

namespace Cert.Proof

open Idealize.ShloMosaic Idealize.ShloMosaic.TcCoe Idealize.SL.Sem

/-- The kernel's bytes of one block, and its factor byte. -/
abbrev xB (A : Cert.KernelIdeal.S2x128x100544.Idx → BitVec 8) (a : Fin 2) (b : Fin 128) (c : Fin 12568) : Fin 8 → BitVec 8 :=
  fun q => A (ix3 a b (ReferenceIdeal.ib c q))

theorem tsc_eq (v0 : EReal) : KernelIdeal.tsc v0 = Ideal.div v0 (Ideal.ofBits .f32 0x45280000#32) := by
  unfold KernelIdeal.tsc Cert.KernelIdeal.Gen.k0_pay1
  pointwise []
theorem tsc6_eq (v0 : EReal) : KernelIdeal.tsc6 v0 = KernelIdeal.tsc v0 * Ideal.ofBits .f32 0x40C00000#32 := by
  unfold KernelIdeal.tsc KernelIdeal.tsc6 Cert.KernelIdeal.Gen.k0_pay3
  pointwise []

theorem tsH_at (a : Cert.ReferenceIdeal.S_.Idx → EReal) (i : Cert.ReferenceIdeal.S_.Idx) : (ReferenceIdeal.tsH a i : EReal) = KernelIdeal.tsc (a i) := by
  rw [tsc_eq]; rfl

end Cert.Proof
namespace Cert.Proof.ReferenceIdeal
open Cert.ReferenceIdeal Cert.ReferenceIdeal.Gen
open Idealize.ShloMosaic Idealize.ShloMosaic.TcCoe Idealize.SL.Sem
theorem bsH_at (x : FVec Ideal S2x128x12568x16 .f32) (v : S_.Idx → EReal) (i : S2x128x12568.Idx) :
    (bsH x (tsH v) i : EReal) = Ideal.div (bmH x i) (Cert.Proof.KernelIdeal.tsc6 (v Cert.Proof.KernelIdeal.nil0)) := by
  have h : (bsH x (tsH v) i : EReal) = Ideal.div (bmH x i)
        (broadcastInDim S2x128x12568 ![] bcast_S_S2x128x12568 (mulf (tsH v) (constant (F := Ideal) S_ .f32 0x40C00000#32)) i) := rfl
  have h6 : (broadcastInDim S2x128x12568 ![] bcast_S_S2x128x12568 (mulf (tsH v) (constant (F := Ideal) S_ .f32 0x40C00000#32)) i : EReal)
      = Cert.Proof.KernelIdeal.tsc6 (v Cert.Proof.KernelIdeal.nil0) := by
    refine (ValueIdx.broadcastInDim_scalar_apply _ _ _).trans ?_
    have e : ∀ i : S_.Idx, i = Cert.Proof.KernelIdeal.nil0 := fun i => funext fun a => a.elim0
    rw [tsc6_eq, e ValueIdx.ix0, ← tsH_at]
    rfl
  rw [h, h6]
end Cert.Proof.ReferenceIdeal
namespace Cert.Proof
open Idealize.ShloMosaic Idealize.ShloMosaic.TcCoe Idealize.SL.Sem

/-- The greatest magnitude of a block, times the block's factor, is the greatest magnitude of the scaled values. -/
theorem bm_eq (A : Cert.ReferenceIdeal.S2x128x100544.Idx → BitVec 8) (B : Cert.ReferenceIdeal.S2x128x6284.Idx → BitVec 8) (a : Fin 2) (b : Fin 128) (c : Fin 12568)
    (h1 : 1#8 ≤ B (ix3 a b (ReferenceIdeal.ih c))) (h2 : B (ix3 a b (ReferenceIdeal.ih c)) ≤ 254#8) :
    (ReferenceIdeal.bmH (ReferenceIdeal.vbH A B) (ix3 a b c) : EReal) = KernelIdeal.bmax (xB A a b c) * (KernelIdeal.fac (F := Ideal) (B (ix3 a b (ReferenceIdeal.ih c))) : EReal) := by
  rw [fac_eq _ h1 h2, ReferenceIdeal.bmH_fold]
  generalize hF : ((2 : ℝ) ^ (((B (ix3 a b (ReferenceIdeal.ih c))).toNat : ℤ) - 127)) = F
  have hp : 0 < F := by rw [← hF]; positivity
  have hv : ∀ q p, (FloatOps.absf (F := Ideal) (φ := .f32) (ReferenceIdeal.vbH A B (ix4 a b c (ReferenceIdeal.ixk q p))) : EReal)
      = KernelIdeal.val (xB A a b c q) p * (F : EReal) := by
    intro q p
    rw [ReferenceIdeal.vbH_at, hF, val_eq, ← EReal.coe_mul, ← ReferenceIdeal.sv_abs]
    show max (((_ : ℝ) : EReal)) (-((_ : ℝ) : EReal)) = _
    rw [← EReal.coe_neg, ← EReal.coe_strictMono.monotone.map_max, ← abs_of_pos hp, ← abs_mul, abs_of_pos hp]
    rfl
  apply le_antisymm
  · rw [Finset.fold_max_le]
    refine ⟨bot_le, fun k _ => ?_⟩
    obtain ⟨q, p, rfl⟩ := ReferenceIdeal.ixk_ex k
    rw [hv]
    exact mul_le_mul_of_nonneg_right (le_bmax _ q p) (EReal.coe_nonneg.mpr hp.le)
  · obtain ⟨q, p, h⟩ := bmax_ex (xB A a b c)
    rw [h, ← hv]
    rw [Finset.le_fold_max]
    exact Or.inr ⟨_, Finset.mem_univ _, le_rfl⟩

theorem bs_eq (A : Cert.ReferenceIdeal.S2x128x100544.Idx → BitVec 8) (B : Cert.ReferenceIdeal.S2x128x6284.Idx → BitVec 8) (v : Cert.ReferenceIdeal.S_.Idx → EReal)
    (a : Fin 2) (b : Fin 128) (c : Fin 12568)
    (h1 : 1#8 ≤ B (ix3 a b (ReferenceIdeal.ih c))) (h2 : B (ix3 a b (ReferenceIdeal.ih c)) ≤ 254#8) :
    (Cert.ReferenceIdeal.Gen.k0_pay2 (F := Ideal) (ReferenceIdeal.bsH (ReferenceIdeal.vbH A B) (ReferenceIdeal.tsH v)) (ix3 a b c) : EReal)
      = KernelIdeal.osA (xB A a b c) (B (ix3 a b (ReferenceIdeal.ih c))) (v KernelIdeal.nil0) := by
  rw [ReferenceIdeal.pay2_at]
  rw [ReferenceIdeal.bsH_at, bm_eq A B a b c h1 h2]
  rfl

end Cert.Proof
-- ==== Proof.Ratio.lean ====
module

public import proofs.«01_k».proof.Proof.EqScale

/-! The ratio of a block's factor to its effective scale: a number of at least three wherever the scale is
positive, at which no scaled magnitude meets a strict threshold. -/

@[expose] public section

set_option maxRecDepth 65536
set_option maxHeartbeats 1000000

noncomputable section

namespace Cert.Proof

open Idealize.ShloMosaic
open Cert.Proof.KernelIdeal

/-- Twice a magnitude, as a whole number. -/
def tabN (k : ℕ) : ℕ := match k with | 0 => 0 | 1 => 1 | 2 => 2 | 3 => 3 | 4 => 4 | 5 => 6 | 6 => 8 | _ => 12
def ng (x : BitVec 8) (p : Fin 2) : ℕ := tabN (nibN x p)
theorem tab_tabN (k : ℕ) (h : k < 8) : tab k = (tabN k : ℝ) / 2 := by
  interval_cases k <;> norm_num [tab, tabN]
theorem mg_ng (x : BitVec 8) (p : Fin 2) : mg x p = (ng x p : ℝ) / 2 := tab_tabN _ (nibN_lt x p)
theorem ng_mem (x : BitVec 8) (p : Fin 2) : ng x p ∈ ([0, 1, 2, 3, 4, 6, 8, 12] : List ℕ) := by
  have h : ∀ k < 8, tabN k ∈ ([0, 1, 2, 3, 4, 6, 8, 12] : List ℕ) := by decide
  exact h _ (nibN_lt x p)

theorem no5 (n : ℕ) (hn : n ∈ ([1, 2, 3, 4, 6, 8, 12] : List ℕ)) (t : ℕ) (ht : t ∈ ([5, 10, 20] : List ℕ)) (j : ℕ) (N : ℤ) : (12 * n * 2 ^ j : ℕ) ≠ t * N := by
  intro h
  have h5 : (5 : ℤ) ∣ ((12 * n * 2 ^ j : ℕ) : ℤ) := by
    rw [h]
    refine Dvd.dvd.mul_right ?_ _
    have : ∀ t ∈ ([5, 10, 20] : List ℕ), 5 ∣ t := by decide
    exact_mod_cast this t ht
  have h5' : 5 ∣ 12 * n * 2 ^ j := by exact_mod_cast h5
  have hp : Nat.Prime 5 := Nat.prime_five
  rcases hp.dvd_mul.mp h5' with h | h
  · have : ∀ n ∈ ([1, 2, 3, 4, 6, 8, 12] : List ℕ), ¬ 5 ∣ 12 * n := by decide
    exact this n hn h
  · have := hp.dvd_of_dvd_pow h
    omega

theorem no5' : ∀ n ∈ ([0, 1, 2, 3, 4, 6, 8, 12] : List ℕ), ∀ n' ∈ ([0, 1, 2, 3, 4, 6, 8, 12] : List ℕ), 0 < n' → ∀ t ∈ ([5, 10, 20] : List ℕ), 24 * n ≠ t * n' := by decide

/-- The real part of the argument, for a finite positive scale. -/
theorem ratio_real (a f s m : ℝ) (e : BitVec 8) (hf : f = (2 : ℝ) ^ ((e.toNat : ℤ) - 127)) (ha : 0 < a) (hs : s = min 448 (max 0 (m * f / (a / 2688 * 6)))) (h0 : 0 < s)
    (h1 : 1 ≤ e.toNat) (n' : ℕ) (hn' : n' ∈ ([0, 1, 2, 3, 4, 6, 8, 12] : List ℕ)) (hm : m = (n' : ℝ) / 2) (N : ℤ) (hN : a * 2 ^ 149 = N) :
    3 ≤ 3 * f / (s * (a / 2688)) ∧
    ∀ n ∈ ([0, 1, 2, 3, 4, 6, 8, 12] : List ℕ), ∀ t ∈ ([5, 10, 20] : List ℕ), (n : ℝ) / 2 * (3 * f / (s * (a / 2688))) / 3 ≠ (t : ℝ) / 4 := by
  have fp : 0 < f := by rw [hf]; positivity
  have n12 : (n' : ℝ) ≤ 12 := by
    have : ∀ n ∈ ([0, 1, 2, 3, 4, 6, 8, 12] : List ℕ), n ≤ 12 := by decide
    exact_mod_cast this n' hn'
  have nn : (0 : ℝ) ≤ n' := Nat.cast_nonneg _
  have m0 : 0 ≤ m := by rw [hm]; positivity
  have hq : 0 ≤ m * f / (a / 2688 * 6) := by positivity
  rw [max_eq_right hq] at hs
  have hle : s ≤ m * f / (a / 2688 * 6) := hs ▸ min_le_right _ _
  have hE : 0 < s * (a / 2688) := by positivity
  have hE6 : s * (a / 2688) ≤ m * f / 6 := by
    rw [le_div_iff₀ (by positivity)] at hle
    linarith
  have np : 0 < n' := by
    rcases Nat.eq_zero_or_pos n' with h | h
    · exfalso; rw [hm, h] at hE6; norm_num at hE6; linarith
    · exact h
  constructor
  · rw [le_div_iff₀ hE]
    have : m * f ≤ 6 * f := mul_le_mul_of_nonneg_right (by rw [hm]; linarith) fp.le
    linarith
  · intro n hn t ht hc
    have hc' : 12 * (n : ℝ) * f = 6 * (t * (s * (a / 2688))) := by
      have : (n : ℝ) / 2 * (3 * f / (s * (a / 2688))) / 3 = n * f / (2 * (s * (a / 2688))) := by field_simp
      rw [this, div_eq_div_iff (by positivity) (by norm_num)] at hc
      linarith
    rcases min_choice 448 (m * f / (a / 2688 * 6)) with h | h
    · rw [h] at hs
      have e1 : 12 * (n : ℝ) * f = t * a := by rw [hs] at hc'; linarith
      have e2 : f * 2 ^ 149 = 2 ^ (e.toNat + 22) := by
        rw [hf, ← zpow_natCast (2 : ℝ) 149, ← zpow_natCast (2 : ℝ) (e.toNat + 22), ← zpow_add₀ (by norm_num)]
        congr 1; push_cast; ring
      have e3 : 12 * (n : ℝ) * 2 ^ (e.toNat + 22) = t * N := by rw [← e2, ← hN]; linear_combination (2 : ℝ) ^ 149 * e1
      rcases Nat.eq_zero_or_pos n with hz | hz
      · rw [hz] at e1
        have tp : (0 : ℝ) < t := by
          have : ∀ t ∈ ([5, 10, 20] : List ℕ), 0 < t := by decide
          exact_mod_cast this t ht
        have : 0 < (t : ℝ) * a := by positivity
        rw [← e1] at this
        norm_num at this
      · have hn2 : n ∈ ([1, 2, 3, 4, 6, 8, 12] : List ℕ) := by
          rcases List.mem_cons.mp hn with h | h
          · omega
          · exact h
        refine no5 n hn2 t ht (e.toNat + 22) N ?_
        push_cast
        exact_mod_cast e3
    · rw [h] at hs
      have e0 : s * (a / 2688) = m * f / 6 := by rw [hs]; field_simp
      rw [e0, hm] at hc'
      have e1 : (24 * n : ℝ) = t * n' := by
        have : (24 * (n : ℝ) - t * n') * f = 0 := by linear_combination 2 * hc'
        rcases mul_eq_zero.mp this with h | h
        · linarith
        · linarith
      exact no5' n hn n' hn' np t ht (by exact_mod_cast e1)

theorem div_coe (a b : ℝ) (h : b ≠ 0) : Ideal.div (a : EReal) (b : EReal) = ((a / b : ℝ) : EReal) := by
  unfold Ideal.div
  rw [if_neg (by exact_mod_cast h), ← EReal.coe_inv, ← EReal.coe_mul]
  rfl

theorem b_three : (Ideal.ofBits .f32 0x40400000#32 : EReal) = ((3 : ℝ) : EReal) := by
  simp [Ideal.ofBits, Ideal.ieee, -EReal.coe_mul]; norm_num [-EReal.coe_mul]

/-- What the ratio is, and that it meets no strict threshold. -/
theorem ratio (x : Fin 8 → BitVec 8) (e : BitVec 8) (v0 : EReal) (h1 : 1#8 ≤ e) (h2 : e ≤ 254#8)
    (hd : ∀ a : ℝ, v0 = (a : EReal) → ∃ N : ℤ, a * 2 ^ 149 = N) (h0 : 0 < osA x e v0 * tsc v0) :
    ∃ R : ℝ, 3 ≤ R ∧ Ideal.div (Ideal.ofBits .f32 0x40400000#32 * fac (F := Ideal) e) (osA x e v0 * tsc v0) = ((R : ℝ) : EReal) ∧
      (∀ z : ℝ, Ideal.div ((z * (2 : ℝ) ^ ((e.toNat : ℤ) - 127) : ℝ) : EReal) (osA x e v0 * tsc v0) = ((z * R / 3 : ℝ) : EReal)) ∧
      ∀ n ∈ ([0, 1, 2, 3, 4, 6, 8, 12] : List ℕ), ∀ t ∈ ([5, 10, 20] : List ℕ), (n : ℝ) / 2 * R / 3 ≠ (t : ℝ) / 4 := by
  obtain ⟨q, p, hb⟩ := bmax_ex x
  have hos : osA x e v0 = min ((448 : ℝ) : EReal) (max 0 (Ideal.div ((mg (x q) p * (2 : ℝ) ^ ((e.toNat : ℤ) - 127) : ℝ) : EReal) (tsc6 v0))) := by
    unfold osA scl
    rw [b_448, hb, val_eq, fac_eq e h1 h2, EReal.coe_mul]
  have h6 : tsc6 v0 = tsc v0 * ((6 : ℝ) : EReal) := by rw [tsc6_eq, b_six]
  have hts : tsc v0 = v0 * (((2688 : ℝ)⁻¹ : ℝ) : EReal) := by
    rw [tsc_eq, b_2688]
    unfold Ideal.div
    rw [if_neg (by norm_num), EReal.coe_inv]
  rw [fac_eq e h1 h2, b_three, ← EReal.coe_mul]
  generalize hf : (2 : ℝ) ^ ((e.toNat : ℤ) - 127) = f at *
  have zero : Ideal.div ((mg (x q) p * f : ℝ) : EReal) (tsc6 v0) = 0 → False := by
    intro hz
    rw [hos, hz] at h0
    simp at h0
  induction v0 using EReal.rec with
  | bot =>
    exfalso; apply zero
    rw [h6, hts, EReal.bot_mul_coe_of_pos (by norm_num), EReal.bot_mul_coe_of_pos (by norm_num)]
    unfold Ideal.div
    rw [if_neg (by simp)]; simp
  | top =>
    exfalso; apply zero
    rw [h6, hts, EReal.top_mul_coe_of_pos (by norm_num), EReal.top_mul_coe_of_pos (by norm_num)]
    unfold Ideal.div
    rw [if_neg (by simp)]; simp
  | coe a =>
    have hts' : tsc (a : EReal) = ((a / 2688 : ℝ) : EReal) := by rw [hts, ← EReal.coe_mul]; rfl
    have lo : (0 : EReal) ≤ osA x e (a : EReal) := by rw [hos]; exact le_min (by norm_num) (le_max_left _ _)
    have hi : osA x e (a : EReal) ≤ ((448 : ℝ) : EReal) := by rw [hos]; exact min_le_left _ _
    have hs : ∃ s : ℝ, osA x e (a : EReal) = (s : EReal) := by
      refine ⟨(osA x e (a : EReal)).toReal, (EReal.coe_toReal ?_ ?_).symm⟩
      · intro h; rw [h] at hi; exact absurd (top_le_iff.mp hi) (EReal.coe_ne_top _)
      · intro h; rw [h] at lo; exact absurd (le_bot_iff.mp lo) EReal.zero_ne_bot
    obtain ⟨s, hs⟩ := hs
    rw [hs] at lo
    have s0 : 0 ≤ s := by exact_mod_cast lo
    have hE : osA x e (a : EReal) * tsc (a : EReal) = ((s * (a / 2688) : ℝ) : EReal) := by rw [hs, hts', ← EReal.coe_mul]
    rw [hE] at h0 ⊢
    have h0' : 0 < s * (a / 2688) := by exact_mod_cast h0
    have sp : 0 < s := lt_of_le_of_ne s0 (fun h => by rw [← h] at h0'; simp at h0')
    have ap : 0 < a := by
      by_contra h
      have : s * (a / 2688) ≤ 0 := mul_nonpos_of_nonneg_of_nonpos s0 (by linarith)
      linarith
    have hsr : s = min 448 (max 0 (mg (x q) p * f / (a / 2688 * 6))) := by
      have : (s : EReal) = ((min 448 (max 0 (mg (x q) p * f / (a / 2688 * 6))) : ℝ) : EReal) := by
        rw [← hs, hos, h6, hts', ← EReal.coe_mul, div_coe _ _ (by positivity), EReal.coe_strictMono.monotone.map_min, EReal.coe_strictMono.monotone.map_max]
        rfl
      exact_mod_cast this
    obtain ⟨N, hN⟩ := hd a rfl
    obtain ⟨r1, r2⟩ := ratio_real a f s (mg (x q) p) e hf.symm ap hsr sp h1 (ng (x q) p) (ng_mem _ _) (mg_ng _ _) N hN
    refine ⟨3 * f / (s * (a / 2688)), r1, div_coe _ _ h0'.ne', fun z => ?_, fun n hn t ht => r2 n hn t ht⟩
    rw [div_coe _ _ h0'.ne']
    congr 1
    field_simp

end Cert.Proof
-- ==== Proof.Code.lean ====
module

public import proofs.«01_k».proof.Proof.Bucket
public import proofs.«01_k».proof.Proof.Ratio

/-! One byte of codes: the kernel's and the reference's are equal. -/

@[expose] public section

set_option maxRecDepth 65536
set_option maxHeartbeats 1000000

noncomputable section

namespace Cert.Proof

open Idealize.ShloMosaic
open Cert.Proof.KernelIdeal

/-- The count of thresholds passed. -/
def cF (a : EReal) : BitVec 32 :=
  (Ideal.cmp .ogt a (Ideal.ofBits .f32 0x3E800000#32)).zeroExtend 32 + (Ideal.cmp .oge a (Ideal.ofBits .f32 0x3F400000#32)).zeroExtend 32
    + (Ideal.cmp .ogt a (Ideal.ofBits .f32 0x3FA00000#32)).zeroExtend 32 + (Ideal.cmp .oge a (Ideal.ofBits .f32 0x3FE00000#32)).zeroExtend 32
    + (Ideal.cmp .ogt a (Ideal.ofBits .f32 0x40200000#32)).zeroExtend 32 + (Ideal.cmp .oge a (Ideal.ofBits .f32 0x40600000#32)).zeroExtend 32
    + (Ideal.cmp .ogt a (Ideal.ofBits .f32 0x40A00000#32)).zeroExtend 32
theorem cnt_cF (v : EReal) : cntS v = cF v := rfl

theorem t1 : (Ideal.ofBits .f32 0x3E800000#32 : EReal) = ((((1 : ℕ) : ℝ) / 4 : ℝ) : EReal) := by
  simp [Ideal.ofBits, Ideal.ieee, -EReal.coe_mul]; norm_num [-EReal.coe_mul]
theorem t3 : (Ideal.ofBits .f32 0x3F400000#32 : EReal) = ((((3 : ℕ) : ℝ) / 4 : ℝ) : EReal) := by
  simp [Ideal.ofBits, Ideal.ieee, -EReal.coe_mul]; norm_num [-EReal.coe_mul]
theorem t5 : (Ideal.ofBits .f32 0x3FA00000#32 : EReal) = ((((5 : ℕ) : ℝ) / 4 : ℝ) : EReal) := by
  simp [Ideal.ofBits, Ideal.ieee, -EReal.coe_mul]; norm_num [-EReal.coe_mul]
theorem t7 : (Ideal.ofBits .f32 0x3FE00000#32 : EReal) = ((((7 : ℕ) : ℝ) / 4 : ℝ) : EReal) := by
  simp [Ideal.ofBits, Ideal.ieee, -EReal.coe_mul]; norm_num [-EReal.coe_mul]
theorem t10 : (Ideal.ofBits .f32 0x40200000#32 : EReal) = ((((10 : ℕ) : ℝ) / 4 : ℝ) : EReal) := by
  simp [Ideal.ofBits, Ideal.ieee, -EReal.coe_mul]; norm_num [-EReal.coe_mul]
theorem t14 : (Ideal.ofBits .f32 0x40600000#32 : EReal) = ((((14 : ℕ) : ℝ) / 4 : ℝ) : EReal) := by
  simp [Ideal.ofBits, Ideal.ieee, -EReal.coe_mul]; norm_num [-EReal.coe_mul]
theorem t20 : (Ideal.ofBits .f32 0x40A00000#32 : EReal) = ((((20 : ℕ) : ℝ) / 4 : ℝ) : EReal) := by
  simp [Ideal.ofBits, Ideal.ieee, -EReal.coe_mul]; norm_num [-EReal.coe_mul]

theorem gt_congr (a b t : ℝ) (h : t < a ↔ t < b) : Ideal.cmp .ogt (a : EReal) (t : EReal) = Ideal.cmp .ogt (b : EReal) (t : EReal) := by
  unfold Ideal.cmp
  simp only [EReal.coe_lt_coe_iff, h]
theorem ge_congr (a b t : ℝ) (h : t ≤ a ↔ t ≤ b) : Ideal.cmp .oge (a : EReal) (t : EReal) = Ideal.cmp .oge (b : EReal) (t : EReal) := by
  unfold Ideal.cmp
  simp only [EReal.coe_le_coe_iff, h]

/-- Two numbers strictly on the same sides, or at no strict threshold, count alike. -/
theorem cF_congr (a b : ℝ) (hl : ∀ t ∈ ([1, 5, 10, 20] : List ℕ), (((t : ℕ) : ℝ) / 4 < a ↔ ((t : ℕ) : ℝ) / 4 < b)) (he : ∀ t ∈ ([3, 7, 14] : List ℕ), (((t : ℕ) : ℝ) / 4 ≤ a ↔ ((t : ℕ) : ℝ) / 4 ≤ b)) :
    cF (a : EReal) = cF (b : EReal) := by
  unfold cF
  rw [t1, t3, t5, t7, t10, t14, t20, gt_congr a b _ (hl 1 (by decide)), gt_congr a b _ (hl 5 (by decide)), gt_congr a b _ (hl 10 (by decide)), gt_congr a b _ (hl 20 (by decide)),
    ge_congr a b _ (he 3 (by decide)), ge_congr a b _ (he 7 (by decide)), ge_congr a b _ (he 14 (by decide))]

theorem cF_zero : cF 0 = 0#32 := by
  unfold cF
  rw [t1, t3, t5, t7, t10, t14, t20]
  have hg : ∀ t : ℕ, Ideal.cmp .ogt (0 : EReal) ((((t : ℕ) : ℝ) / 4 : ℝ) : EReal) = 0#1 := fun t => by
    unfold Ideal.cmp
    have h : ¬ (((((t : ℕ) : ℝ) / 4 : ℝ) : EReal) < 0) := not_lt.mpr (EReal.coe_nonneg.mpr (by positivity))
    simp only [h, decide_false]; rfl
  have he : ∀ t : ℕ, 0 < t → Ideal.cmp .oge (0 : EReal) ((((t : ℕ) : ℝ) / 4 : ℝ) : EReal) = 0#1 := fun t ht => by
    unfold Ideal.cmp
    have h : ¬ (((((t : ℕ) : ℝ) / 4 : ℝ) : EReal) ≤ 0) := not_le.mpr (EReal.coe_pos.mpr (by positivity))
    simp only [h, decide_false]; rfl
  rw [hg, hg, hg, hg, he 3 (by decide), he 7 (by decide), he 14 (by decide)]
  decide

theorem one_ne : ∀ b c d e f g : BitVec 1, (1#1 : BitVec 1).zeroExtend 32 + b.zeroExtend 32 + c.zeroExtend 32 + d.zeroExtend 32 + e.zeroExtend 32 + f.zeroExtend 32 + g.zeroExtend 32 ≠ 0#32 := by
  decide +kernel
theorem cF_ne (a : ℝ) (h : 1 / 4 < a) : cF (a : EReal) ≠ 0#32 := by
  unfold cF
  have e : Ideal.cmp .ogt (a : EReal) (Ideal.ofBits .f32 0x3E800000#32) = 1#1 := by
    rw [t1]; unfold Ideal.cmp
    simp only [EReal.coe_lt_coe_iff]
    rw [decide_eq_true (by push_cast; exact h)]; rfl
  rw [e]
  exact one_ne _ _ _ _ _ _

/-- The reference's code of one quotient. -/
def rc (q : EReal) : BitVec 32 :=
  cF (min (max q (-q)) (Ideal.ofBits .f32 0x40C00000#32)) ||| Scalar.select (Ideal.cmp .olt q (Ideal.ofBits .f32 0x00000000#32)) 8#32 0#32

theorem rc_zero : rc 0 = 0#32 := by
  unfold rc
  rw [b_six, Ideal.ofBits_zero_f32]
  have e : min (max (0 : EReal) (-0)) ((6 : ℝ) : EReal) = 0 := by rw [neg_zero, max_self]; exact min_eq_left (EReal.coe_nonneg.mpr (by norm_num))
  have c : Ideal.cmp .olt (0 : EReal) 0 = 0#1 := by unfold Ideal.cmp; simp
  rw [e, cF_zero, c]; rfl

theorem rc_real (q : ℝ) : rc (q : EReal) = cF ((min |q| 6 : ℝ) : EReal) ||| (if q < 0 then 8#32 else 0#32) := by
  unfold rc
  rw [b_six, Ideal.ofBits_zero_f32, ← EReal.coe_neg, ← EReal.coe_strictMono.monotone.map_max, ← EReal.coe_strictMono.monotone.map_min]
  have c : Ideal.cmp .olt (q : EReal) 0 = BitVec.ofBool (decide (q < 0)) := by
    unfold Ideal.cmp
    congr 1
    exact decide_eq_decide.mpr (by exact_mod_cast Iff.rfl)
  rw [c]
  by_cases h : q < 0
  · simp only [h, decide_true, if_true]; rfl
  · simp only [h, decide_false, if_false]; rfl

theorem byte_eq : ∀ (x : BitVec 8) (i j : Fin 8), sgn x (pk (BitVec.ofNat 32 i.val) (BitVec.ofNat 32 j.val)) =
    BitVec.setWidth 8 ((BitVec.ofNat 32 i.val ||| (if 8 ≤ ReferenceIdeal.nib4 x 0 ∧ i.val ≠ 0 then 8#32 else 0#32)) |||
      (BitVec.ofNat 32 j.val ||| (if 8 ≤ ReferenceIdeal.nib4 x 1 ∧ j.val ≠ 0 then 8#32 else 0#32)) <<< 4) := by decide +kernel
theorem byte_eq' (x : BitVec 8) (a b : BitVec 32) (ha : a.toNat ≤ 7) (hb : b.toNat ≤ 7) : sgn x (pk a b) =
    BitVec.setWidth 8 ((a ||| (if 8 ≤ ReferenceIdeal.nib4 x 0 ∧ a ≠ 0#32 then 8#32 else 0#32)) |||
      (b ||| (if 8 ≤ ReferenceIdeal.nib4 x 1 ∧ b ≠ 0#32 then 8#32 else 0#32)) <<< 4) := by
  have h := byte_eq x ⟨a.toNat, by omega⟩ ⟨b.toNat, by omega⟩
  have ea : BitVec.ofNat 32 a.toNat = a := by simp
  have eb : BitVec.ofNat 32 b.toNat = b := by simp
  have na : a.toNat ≠ 0 ↔ a ≠ 0#32 := not_congr ⟨fun h => BitVec.eq_of_toNat_eq h, fun h => by rw [h]; rfl⟩
  have nb : b.toNat ≠ 0 ↔ b ≠ 0#32 := not_congr ⟨fun h => BitVec.eq_of_toNat_eq h, fun h => by rw [h]; rfl⟩
  simp only [ea, eb, na, nb] at h
  exact h

/-- The kernel's magnitude code is the reference's, and is zero only of a zero magnitude. -/
theorem code_eq (x : BitVec 8) (p : Fin 2) (R M : ℝ) (hR : 3 ≤ R) (hM : ∀ n ∈ mgs, Th n R ((n : ℝ) / 2 * (M * cC)))
    (hne : ∀ n ∈ ([0, 1, 2, 3, 4, 6, 8, 12] : List ℕ), ∀ t ∈ ([5, 10, 20] : List ℕ), (n : ℝ) / 2 * R / 3 ≠ (t : ℝ) / 4) :
    rc ((ReferenceIdeal.sv x p * R / 3 : ℝ) : EReal) = cntS (val x p * ((M * cC : ℝ) : EReal)) |||
      (if 8 ≤ ReferenceIdeal.nib4 x p ∧ cntS (val x p * ((M * cC : ℝ) : EReal)) ≠ 0#32 then 8#32 else 0#32) := by
  rw [cnt_cF, val_eq, ← EReal.coe_mul, rc_real]
  have hab : |ReferenceIdeal.sv x p * R / 3| = mg x p * R / 3 := by
    rw [abs_div, abs_mul, ReferenceIdeal.sv_abs, abs_of_pos (by linarith : (0 : ℝ) < R)]; norm_num
  rw [hab]
  by_cases hz : ng x p = 0
  · have e : mg x p = 0 := by rw [mg_ng, hz]; norm_num
    have es : ReferenceIdeal.sv x p = 0 := by rw [← abs_eq_zero, ReferenceIdeal.sv_abs, e]
    rw [e, es]
    norm_num
    rw [cF_zero]
    simp
  · have hn : ng x p ∈ mgs := by
      rcases List.mem_cons.mp (ng_mem x p) with h | h
      · exact absurd h hz
      · exact h
    have n1 : (1 : ℝ) ≤ ng x p := by exact_mod_cast Nat.one_le_iff_ne_zero.mpr hz
    have hq : mg x p * R / 3 = (ng x p : ℝ) * R / 6 := by rw [mg_ng]; ring
    have th := hM _ hn
    have hq1 : 1 / 2 ≤ (ng x p : ℝ) * R / 6 := by nlinarith
    have ec : cF ((min (mg x p * R / 3) 6 : ℝ) : EReal) = cF ((mg x p * (M * cC) : ℝ) : EReal) := by
      rw [hq, mg_ng]
      refine cF_congr _ _ (fun t ht => ?_) (fun t ht => ?_)
      · have hts : t ∈ ths := by revert ht; revert t; decide
        have h6 : (t : ℝ) / 4 < 6 := by
          have : ∀ t ∈ ([1, 5, 10, 20] : List ℕ), t ≤ 20 := by decide
          have : (t : ℝ) ≤ 20 := by exact_mod_cast this t ht
          linarith
        rw [lt_min_iff]
        rcases th t hts with ⟨a, b⟩ | ⟨a, b⟩
        · refine iff_of_true ⟨lt_of_le_of_ne a ?_, h6⟩ b
          rcases List.mem_cons.mp ht with h | h
          · rw [h]; push_cast; intro hh; linarith
          · have := hne _ (ng_mem x p) t h
            intro hh; apply this; rw [hh]; ring
        · exact iff_of_false (fun h => absurd h.1 (not_lt.mpr a.le)) (not_lt.mpr b.le)
      · have hts : t ∈ ths := by revert ht; revert t; decide
        have h6 : (t : ℝ) / 4 ≤ 6 := by
          have : ∀ t ∈ ([3, 7, 14] : List ℕ), t ≤ 20 := by decide
          have : (t : ℝ) ≤ 20 := by exact_mod_cast this t ht
          linarith
        rw [le_min_iff]
        rcases th t hts with ⟨a, b⟩ | ⟨a, b⟩
        · exact iff_of_true ⟨a, h6⟩ b.le
        · exact iff_of_false (fun h => absurd h.1 (not_le.mpr a)) (not_le.mpr b)
    have hn0 : cF ((mg x p * (M * cC) : ℝ) : EReal) ≠ 0#32 := by
      rw [← ec]
      refine cF_ne _ ?_
      rw [hq, lt_min_iff]
      constructor <;> linarith
    rw [ec]
    congr 1
    have mp : 0 < mg x p := by rw [mg_ng]; linarith
    have hs : ReferenceIdeal.sv x p * R / 3 < 0 ↔ (8 ≤ ReferenceIdeal.nib4 x p ∧ cF ((mg x p * (M * cC) : ℝ) : EReal) ≠ 0#32) := by
      rw [and_iff_left hn0]
      unfold ReferenceIdeal.sv
      by_cases h : 8 ≤ ReferenceIdeal.nib4 x p
      · rw [if_pos h]; refine iff_of_true ?_ h; nlinarith
      · rw [if_neg h]; refine iff_of_false ?_ h; rw [not_lt]; positivity
    exact if_congr hs rfl rfl

/-- One byte. `q p` are the reference's quotients. -/
theorem obyte_eq (x : BitVec 8) (X : Fin 8 → BitVec 8) (e : BitVec 8) (v0 : EReal) (h1 : 1#8 ≤ e) (h2 : e ≤ 254#8)
    (hd : ∀ a : ℝ, v0 = (a : EReal) → ∃ N : ℤ, a * 2 ^ 149 = N) (q : Fin 2 → EReal)
    (hq : ∀ p, q p = if 0 < osA X e v0 * tsc v0 then
      Ideal.div ((ReferenceIdeal.sv x p * (2 : ℝ) ^ ((e.toNat : ℤ) - 127) : ℝ) : EReal) (osA X e v0 * tsc v0) else 0) :
    obyte x (mA X e v0) = BitVec.setWidth 8 (rc (q 0) ||| rc (q 1) <<< 4) := by
  unfold mA mlt
  by_cases h : 0 < osA X e v0 * tsc v0
  · obtain ⟨R, hR, hr, hz, hne⟩ := ratio X e v0 h1 h2 hd h
    obtain ⟨M, eM, hM⟩ := mul_th R (by linarith)
    rw [if_pos h, hr, eM, b_third, ← EReal.coe_mul]
    have hq' : ∀ p, q p = ((ReferenceIdeal.sv x p * R / 3 : ℝ) : EReal) := fun p => by rw [hq p, if_pos h, hz]
    rw [hq' 0, hq' 1, code_eq x 0 R M hR hM hne, code_eq x 1 R M hR hM hne]
    exact byte_eq' x _ _ (cntS_le _) (cntS_le _)
  · have hq' : ∀ p, q p = 0 := fun p => by rw [hq p, if_neg h]
    rw [if_neg h, hq' 0, hq' 1, rc_zero]
    unfold obyte
    rw [mul_zero, mul_zero, cnt_cF, cF_zero]
    revert x; intro x _
    have : ∀ x : BitVec 8, sgn x (pk 0#32 0#32) = BitVec.setWidth 8 (0#32 ||| 0#32 <<< 4) := by decide +kernel
    exact this x

end Cert.Proof
-- ==== Proof.RefCode.lean ====
module

public import proofs.«01_k».proof.Proof.Code

/-! The reference's codes, byte by byte, and their equality with the kernel's. -/

@[expose] public section

set_option maxRecDepth 65536
set_option maxHeartbeats 1000000

noncomputable section

namespace Cert.Proof.ReferenceIdeal

open Cert.ReferenceIdeal Cert.ReferenceIdeal.Gen
open Idealize.ShloMosaic Idealize.ShloMosaic.TcCoe Idealize.SL.Sem

section
variable {F : FTy → Type} [FloatOps F]
/-- The codes before they are packed. -/
def tl (v23 : FVec F S2x128x12568x16 .f32) (v26 : FVec F S2x128x12568x16 .f32) (v37 : IVec S2x128x12568x16 32) (cst_18 : F .f32) : IVec S2x128x12568x16 32 :=
  have v38 : FVec F S2x128x12568x16 .f32 := broadcast S2x128x12568x16 cst_18
  have v39 : IVec S2x128x12568x16 1 := cmpf .oge v26 v38
  have v40 : IVec S2x128x12568x16 32 := extui 32 v39 natLt_1_32
  have v41 : IVec S2x128x12568x16 32 := addi v37 v40
  have cst_19 : F .f32 := Scalar.ofBits .f32 0x40200000#32
  have v42 : FVec F S2x128x12568x16 .f32 := broadcast S2x128x12568x16 cst_19
  have v43 : IVec S2x128x12568x16 1 := cmpf .ogt v26 v42
  have v44 : IVec S2x128x12568x16 32 := extui 32 v43 natLt_1_32
  have v45 : IVec S2x128x12568x16 32 := addi v41 v44
  have cst_20 : F .f32 := Scalar.ofBits .f32 0x40600000#32
  have v46 : FVec F S2x128x12568x16 .f32 := broadcast S2x128x12568x16 cst_20
  have v47 : IVec S2x128x12568x16 1 := cmpf .oge v26 v46
  have v48 : IVec S2x128x12568x16 32 := extui 32 v47 natLt_1_32
  have v49 : IVec S2x128x12568x16 32 := addi v45 v48
  have cst_21 : F .f32 := Scalar.ofBits .f32 0x40A00000#32
  have v50 : FVec F S2x128x12568x16 .f32 := broadcast S2x128x12568x16 cst_21
  have v51 : IVec S2x128x12568x16 1 := cmpf .ogt v26 v50
  have v52 : IVec S2x128x12568x16 32 := extui 32 v51 natLt_1_32
  have v53 : IVec S2x128x12568x16 32 := addi v49 v52
  have cst_22 : F .f32 := Scalar.ofBits .f32 0x00000000#32
  have v54 : FVec F S2x128x12568x16 .f32 := broadcast S2x128x12568x16 cst_22
  have v55 : IVec S2x128x12568x16 1 := cmpf .olt v23 v54
  have v56 : IVec S2x128x12568x16 32 := broadcast S2x128x12568x16 8#32
  have v57 : IVec S2x128x12568x16 32 := broadcast S2x128x12568x16 0#32
  have v58 : IVec S2x128x12568x16 32 := select v55 v56 v57
  have v59 : IVec S2x128x12568x16 32 := ori v53 v58
  v59
end

/-- One half of the packed bytes. -/
def pt (off : Fin 4 → ℕ) (h : S2x128x100544x2.Slices off S2x128x100544x1) (X : S2x128x12568x16.Idx → BitVec 32) : S2x128x100544.Idx → BitVec 32 :=
  shapeCast S2x128x100544 (extractStridedSlice S2x128x100544x1 off
    (shapeCast S2x128x100544x2 (shapeCast S2x128x201088 X shapeCasts_S2x128x12568x16_S2x128x201088) shapeCasts_S2x128x201088_S2x128x100544x2) h) shapeCasts_S2x128x100544x1_S2x128x100544

theorem pay1_eq (v23 v26 : FVec Ideal S2x128x12568x16 .f32) (v37 : IVec S2x128x12568x16 32) (cst : Ideal .f32) :
    k0_pay1 v23 v26 v37 cst = trunci 8 (ori (pt ![0, 0, 0, 0] slices_S2x128x100544x2_o0_0_0_0_S2x128x100544x1 (tl v23 v26 v37 cst))
      (shli (pt ![0, 0, 0, 1] slices_S2x128x100544x2_o0_0_0_1_S2x128x100544x1 (tl v23 v26 v37 cst)) (broadcast S2x128x100544 4#32))) natLt_8_32 := rfl

theorem eN (c : Fin 12568) (q : Fin 8) (p : Fin 2) : (ib c q).val * 2 + p.val = (iv c q p).val := by rw [ib_v, iv_v]; omega
theorem one_v (c : Fin 12568) (q : Fin 8) : (ib c q).val * 1 + (0 : Fin 1).val = (ib c q).val := by rw [Nat.mul_one]; rfl
theorem L4 (X : S2x128x12568x16.Idx → BitVec 32) (a : Fin 2) (b : Fin 128) (c : Fin 12568) (q : Fin 8) (p : Fin 2) :
    shapeCast S2x128x100544x2 (shapeCast S2x128x201088 X shapeCasts_S2x128x12568x16_S2x128x201088) shapeCasts_S2x128x201088_S2x128x100544x2
      (ix4 a b (ib c q) p) = X (ix4 a b c (ixk q p)) :=
  (cast34 (C := 100544) (D := 2) (E := 201088) (by norm_num) _ _ a b (iv c q p) (ib c q) p (eN c q p)).trans
    (cast43 (C := 12568) (D := 16) (E := 201088) (by norm_num) _ _ a b (iv c q p) c (ixk q p) (e1 c q p))

theorem pt0 (X : S2x128x12568x16.Idx → BitVec 32) (a : Fin 2) (b : Fin 128) (c : Fin 12568) (q : Fin 8) :
    pt ![0, 0, 0, 0] slices_S2x128x100544x2_o0_0_0_0_S2x128x100544x1 X (ix3 a b (ib c q)) = X (ix4 a b c (ixk q 0)) :=
  (cast43 (C := 100544) (D := 1) (E := 100544) (by norm_num) _ _ a b (ib c q) (ib c q) (0 : Fin 1) (one_v c q)).trans
    ((extractStridedSlice_apply _ _ _ _ (ix4 a b (ib c q) (0 : Fin 2)) (fun e => match e with
      | ⟨0, _⟩ => (Nat.zero_add _).symm | ⟨1, _⟩ => (Nat.zero_add _).symm | ⟨2, _⟩ => (Nat.zero_add _).symm | ⟨3, _⟩ => rfl)).trans (L4 X a b c q 0))
theorem pt1 (X : S2x128x12568x16.Idx → BitVec 32) (a : Fin 2) (b : Fin 128) (c : Fin 12568) (q : Fin 8) :
    pt ![0, 0, 0, 1] slices_S2x128x100544x2_o0_0_0_1_S2x128x100544x1 X (ix3 a b (ib c q)) = X (ix4 a b c (ixk q 1)) :=
  (cast43 (C := 100544) (D := 1) (E := 100544) (by norm_num) _ _ a b (ib c q) (ib c q) (0 : Fin 1) (one_v c q)).trans
    ((extractStridedSlice_apply _ _ _ _ (ix4 a b (ib c q) (1 : Fin 2)) (fun e => match e with
      | ⟨0, _⟩ => (Nat.zero_add _).symm | ⟨1, _⟩ => (Nat.zero_add _).symm | ⟨2, _⟩ => (Nat.zero_add _).symm | ⟨3, _⟩ => rfl)).trans (L4 X a b c q 1))

theorem tl_at (v : Vec Ideal S2x128x12568x16 .f32) (b : Vec Ideal S2x128x12568 .f32) (t : Vec Ideal S1x1 .f32) (i : S2x128x12568x16.Idx) :
    tl (F := Ideal) (k0_pay3 b t v) (k0_pay4 b t v) (k0_pay5 b t v) (Scalar.ofBits .f32 0x3FE00000#32) i = rc (k0_pay3 (F := Ideal) b t v i) := rfl

/-- The effective scales. -/
def eff (b : Vec Ideal S2x128x12568 .f32) (t : Vec Ideal S1x1 .f32) : FVec Ideal S2x128x12568 .f32 :=
  mulf (extf .f32 (k0_pay2 b) bitsLt_fp8e4m3_f32) (broadcast S2x128x12568 (extractAt ![0, 0] t inpos_S1x1_p0_0))
theorem eff_at (b : Vec Ideal S2x128x12568 .f32) (t : Vec Ideal S1x1 .f32) (i : S2x128x12568.Idx) :
    (eff b t i : EReal) = (k0_pay2 b i : EReal) * t (ix2 (0 : Fin 1) (0 : Fin 1)) := by
  have h : (eff b t i : EReal) = (k0_pay2 b i : EReal) * extractAt ![0, 0] t inpos_S1x1_p0_0 := rfl
  rw [h]
  congr 1
  unfold extractAt
  exact congrArg t (funext fun e => match e with | ⟨0, _⟩ => rfl | ⟨1, _⟩ => rfl)

theorem one_w (c : Fin 12568) : c.val * 1 + (0 : Fin 1).val = c.val := by rw [Nat.mul_one]; rfl
theorem L5 {α : Type} (X : S2x128x12568x1.Idx → α) (a : Fin 2) (b : Fin 128) (c : Fin 12568) (k : Fin 16) :
    broadcastTo S2x128x12568x16 X broadcasts_S2x128x12568x1_S2x128x12568x16 (ix4 a b c k) = X (ix4 a b c (0 : Fin 1)) :=
  broadcastTo_apply _ _ _ _ (fun e => match e with | ⟨0, _⟩ => rfl | ⟨1, _⟩ => rfl | ⟨2, _⟩ => rfl | ⟨3, _⟩ => rfl)
theorem L6 {α : Type} (X : S2x128x12568.Idx → α) (a : Fin 2) (b : Fin 128) (c : Fin 12568) :
    shapeCast S2x128x12568x1 X shapeCasts_S2x128x12568_S2x128x12568x1 (ix4 a b c (0 : Fin 1)) = X (ix3 a b c) :=
  cast34 (C := 12568) (D := 1) (E := 12568) (by norm_num) _ _ a b c c (0 : Fin 1) (one_w c)

theorem pay3_at (v : Vec Ideal S2x128x12568x16 .f32) (b : Vec Ideal S2x128x12568 .f32) (t : Vec Ideal S1x1 .f32) (x : Fin 2) (y : Fin 128) (c : Fin 12568) (k : Fin 16) :
    (k0_pay3 (F := Ideal) b t v (ix4 x y c k) : EReal) = if (0 : EReal) < eff b t (ix3 x y c) then Ideal.div (v (ix4 x y c k)) (eff b t (ix3 x y c)) else 0 := by
  have h : (k0_pay3 (F := Ideal) b t v (ix4 x y c k) : EReal) = Scalar.select
      (broadcastTo S2x128x12568x16 (shapeCast S2x128x12568x1 (cmpf .ogt (shapeCast S2x128x12568x1 (eff b t) shapeCasts_S2x128x12568_S2x128x12568x1)
        (broadcast S2x128x12568x1 (Ideal.ofBits .f32 0x00000000#32))) shapeCasts_S2x128x12568x1_S2x128x12568x1) broadcasts_S2x128x12568x1_S2x128x12568x16 (ix4 x y c k))
      (Ideal.div (shapeCast S2x128x12568x16 v shapeCasts_S2x128x12568x16_S2x128x12568x16 (ix4 x y c k))
        (broadcastTo S2x128x12568x16 (shapeCast S2x128x12568x1 (eff b t) shapeCasts_S2x128x12568_S2x128x12568x1) broadcasts_S2x128x12568x1_S2x128x12568x16 (ix4 x y c k)))
      (Ideal.ofBits .f32 0x00000000#32) := rfl
  rw [h, L5, L5, L6, shapeCast_apply v _ _ _ rfl, shapeCast_apply _ shapeCasts_S2x128x12568x1_S2x128x12568x1 (ix4 x y c (0 : Fin 1)) (ix4 x y c (0 : Fin 1)) rfl]
  have g : (cmpf .ogt (shapeCast S2x128x12568x1 (eff b t) shapeCasts_S2x128x12568_S2x128x12568x1) (broadcast S2x128x12568x1 (Ideal.ofBits .f32 0x00000000#32)) : IVec S2x128x12568x1 1) (ix4 x y c (0 : Fin 1))
      = Ideal.cmp .ogt (shapeCast S2x128x12568x1 (eff b t) shapeCasts_S2x128x12568_S2x128x12568x1 (ix4 x y c (0 : Fin 1))) (Ideal.ofBits .f32 0x00000000#32) := rfl
  rw [g, L6, Ideal.ofBits_zero_f32]
  generalize (eff b t (ix3 x y c) : EReal) = E
  unfold Ideal.cmp
  by_cases hE : 0 < E
  · simp only [hE, decide_true, if_true]; rfl
  · simp only [hE, decide_false, if_false]; rfl

theorem codes_at (v : Vec Ideal S2x128x12568x16 .f32) (b : Vec Ideal S2x128x12568 .f32) (t : Vec Ideal S1x1 .f32) (x : Fin 2) (y : Fin 128) (c : Fin 12568) (q : Fin 8) :
    codes v b t (ix3 x y (ib c q)) = BitVec.setWidth 8 (rc (k0_pay3 (F := Ideal) b t v (ix4 x y c (ixk q 0))) ||| rc (k0_pay3 (F := Ideal) b t v (ix4 x y c (ixk q 1))) <<< 4) := by
  unfold codes
  rw [pay1_eq, ← tl_at, ← tl_at]
  generalize tl (F := Ideal) (k0_pay3 b t v) (k0_pay4 b t v) (k0_pay5 b t v) (Scalar.ofBits .f32 0x3FE00000#32) = X
  rw [← pt0 X, ← pt1 X]
  rfl

end Cert.Proof.ReferenceIdeal
namespace Cert.Proof
open Idealize.ShloMosaic Idealize.ShloMosaic.TcCoe Idealize.SL.Sem

theorem tsB_at (v : Cert.ReferenceIdeal.S_.Idx → EReal) : (ReferenceIdeal.tsB v (ix2 (0 : Fin 1) (0 : Fin 1)) : EReal) = KernelIdeal.tsc (v KernelIdeal.nil0) := by
  refine (shapeCast_apply _ _ _ KernelIdeal.nil0 rfl).trans ?_
  exact tsH_at v KernelIdeal.nil0

theorem codes_eq (A : Cert.ReferenceIdeal.S2x128x100544.Idx → BitVec 8) (B : Cert.ReferenceIdeal.S2x128x6284.Idx → BitVec 8) (v : Cert.ReferenceIdeal.S_.Idx → EReal)
    (a : Fin 2) (b : Fin 128) (c : Fin 12568) (q : Fin 8)
    (h1 : 1#8 ≤ B (ix3 a b (ReferenceIdeal.ih c))) (h2 : B (ix3 a b (ReferenceIdeal.ih c)) ≤ 254#8)
    (hd : ∀ r : ℝ, v KernelIdeal.nil0 = (r : EReal) → ∃ N : ℤ, r * 2 ^ 149 = N) :
    ReferenceIdeal.codes (ReferenceIdeal.vbH A B) (ReferenceIdeal.bsH (ReferenceIdeal.vbH A B) (ReferenceIdeal.tsH v)) (ReferenceIdeal.tsB v) (ix3 a b (ReferenceIdeal.ib c q))
      = KernelIdeal.obyte (A (ix3 a b (ReferenceIdeal.ib c q))) (KernelIdeal.mA (xB A a b c) (B (ix3 a b (ReferenceIdeal.ih c))) (v KernelIdeal.nil0)) := by
  rw [ReferenceIdeal.codes_at]
  refine (obyte_eq _ _ _ _ h1 h2 hd (fun p => Cert.ReferenceIdeal.Gen.k0_pay3 (F := Ideal) (ReferenceIdeal.bsH (ReferenceIdeal.vbH A B) (ReferenceIdeal.tsH v)) (ReferenceIdeal.tsB v) (ReferenceIdeal.vbH A B)
    (ix4 a b c (ReferenceIdeal.ixk q p))) (fun p => ?_)).symm
  rw [ReferenceIdeal.pay3_at, ReferenceIdeal.eff_at, bs_eq A B v a b c h1 h2, tsB_at, ReferenceIdeal.vbH_at]

end Cert.Proof
-- ==== Proof.Pre.lean ====
module

public import proofs.«01_k».proof.Defs
public import proofs.«01_k».proof.Proof.RefCode
public import Idealize.ShloMosaic.Lib.ReduceAll

/-! What the precondition says of the scale bytes and of the calibrated maximum, and the kernel's results at an index. -/

@[expose] public section

set_option maxRecDepth 65536
set_option maxHeartbeats 1000000

noncomputable section

namespace Cert.Proof

open Idealize.ShloMosaic Idealize.ShloMosaic.TcCoe Idealize.SL.Sem

theorem preFacts : Cert.Pre_pre.Facts := ⟨by decide, by decide, by decide⟩

instance : Subsingleton Cert.Pre_pre.S_.Idx := ⟨fun a b => funext fun i => i.elim0⟩

theorem and1 (a b : BitVec 1) (h : IntOp.andi a b = 1#1) : a = 1#1 ∧ b = 1#1 := IntOp.andi_eq_one.1 h

theorem uge1 (x : BitVec 8) (h : IntOp.cmpi .uge x 1#8 = 1#1) : 1#8 ≤ x := by revert x; decide +kernel
theorem ule254 (x : BitVec 8) (h : IntOp.cmpi .ule x 254#8 = 1#1) : x ≤ 254#8 := by revert x; decide +kernel

theorem b_75 : (Ideal.ofBits .f32 0x65000000#32 : EReal) = (((2 : ℝ) ^ 75 : ℝ) : EReal) := by
  simp [Ideal.ofBits, Ideal.ieee, -EReal.coe_mul, -EReal.coe_pow]; norm_num [-EReal.coe_mul, -EReal.coe_pow]
theorem b_74 : (Ideal.ofBits .f32 0x64800000#32 : EReal) = (((2 : ℝ) ^ 74 : ℝ) : EReal) := by
  simp [Ideal.ofBits, Ideal.ieee, -EReal.coe_mul, -EReal.coe_pow]; norm_num [-EReal.coe_mul, -EReal.coe_pow]

/-- A number that keeps its value under the floor, in units of the smallest float, is a whole number of them. -/
theorem dyad (x : EReal)
    (h : Ideal.cmp .oeq (Ideal.liftRound Int.floor (x * Ideal.ofBits .f32 0x65000000#32 * Ideal.ofBits .f32 0x64800000#32))
      (x * Ideal.ofBits .f32 0x65000000#32 * Ideal.ofBits .f32 0x64800000#32) = 1#1) (r : ℝ) (hr : x = (r : EReal)) :
    ∃ N : ℤ, r * 2 ^ 149 = N := by
  rw [hr, b_75, b_74, ← EReal.coe_mul, ← EReal.coe_mul] at h
  have e : r * 2 ^ 75 * 2 ^ 74 = r * 2 ^ 149 := by ring
  rw [e] at h
  refine ⟨⌊r * 2 ^ 149⌋, ?_⟩
  by_contra hc
  have hne : ¬ (Ideal.liftRound Int.floor ((r * 2 ^ 149 : ℝ) : EReal) = ((r * 2 ^ 149 : ℝ) : EReal)) := fun h' => by
    have h2 : ((⌊r * 2 ^ 149⌋ : ℝ) : EReal) = ((r * 2 ^ 149 : ℝ) : EReal) := h'
    exact hc (EReal.coe_eq_coe_iff.mp h2).symm
  unfold Ideal.cmp at h
  simp only [hne, decide_false] at h
  exact absurd h (by decide)

section
variable [hPre_pre : Cert.Pre_pre.Facts]
open Cert.Pre_pre
theorem pre_ge (B : S2x128x6284.Idx → BitVec 8) (j : S_.Idx)
    (h : Host.reduce IntOp.andi (cmpi .uge B (broadcastInDim S2x128x6284 ![] Facts.bcast_S_S2x128x6284 (constantI S_ 8 1#8))) (constantI S_ 1 1#1)
      Facts.reducesTo_S2x128x6284_S_d0_1_2 Facts.h_S_ j = 1#1) (i : S2x128x6284.Idx) : 1#8 ≤ B i := by
  have e := Host.reduce_andi_all _ _ _ _ j h i
  have g : broadcastInDim S2x128x6284 ![] Facts.bcast_S_S2x128x6284 (constantI S_ 8 1#8) i = 1#8 := ValueIdx.broadcastInDim_scalar_apply _ _ _
  refine uge1 _ ?_
  rw [← g]; exact e
theorem pre_le (B : S2x128x6284.Idx → BitVec 8) (j : S_.Idx)
    (h : Host.reduce IntOp.andi (cmpi .ule B (broadcastInDim S2x128x6284 ![] Facts.bcast_S_S2x128x6284 (constantI S_ 8 254#8))) (constantI S_ 1 1#1)
      Facts.reducesTo_S2x128x6284_S_d0_1_2 Facts.h_S_ j = 1#1) (i : S2x128x6284.Idx) : B i ≤ 254#8 := by
  have e := Host.reduce_andi_all _ _ _ _ j h i
  have g : broadcastInDim S2x128x6284 ![] Facts.bcast_S_S2x128x6284 (constantI S_ 8 254#8) i = 254#8 := ValueIdx.broadcastInDim_scalar_apply _ _ _
  refine ule254 _ ?_
  rw [← g]; exact e
end

section
variable [∀ e, Nonempty (Elt Ideal e)]
theorem resS_at (m : (ℓ : Loc Cert.KernelIdeal.nD Cert.KernelIdeal.τ Cert.KernelIdeal.sig) → Buf (Elt Ideal) ℓ) (c : Dev Cert.KernelIdeal.nD) (i : Cert.KernelIdeal.S2x128x12568.Idx) :
    KernelIdeal.resS m c i = KernelIdeal.osA (xB (KernelIdeal.A0 m c) (i 0) (i 1) (i 2)) (KernelIdeal.A1 m c (ix3 (i 0) (i 1) (ReferenceIdeal.ih (i 2)))) (KernelIdeal.A2 m c KernelIdeal.nil0) := rfl
theorem lt_c (J : Fin 100544) : J.val / 8 < 12568 := by omega
def jc (J : Fin 100544) : Fin 12568 := ⟨J.val / 8, lt_c J⟩
def jq (J : Fin 100544) : Fin 8 := ⟨J.val % 8, Nat.mod_lt _ (by decide)⟩
theorem ib_j (J : Fin 100544) : ReferenceIdeal.ib (jc J) (jq J) = J := Fin.ext (Nat.div_add_mod J.val 8)
theorem resC_at (m : (ℓ : Loc Cert.KernelIdeal.nD Cert.KernelIdeal.τ Cert.KernelIdeal.sig) → Buf (Elt Ideal) ℓ) (c : Dev Cert.KernelIdeal.nD) (i : Cert.KernelIdeal.S2x128x100544.Idx) :
    KernelIdeal.resC m c i = KernelIdeal.obyte (KernelIdeal.A0 m c (ix3 (i 0) (i 1) (i 2)))
      (KernelIdeal.mA (xB (KernelIdeal.A0 m c) (i 0) (i 1) (jc (i 2))) (KernelIdeal.A1 m c (ix3 (i 0) (i 1) (ReferenceIdeal.ih (jc (i 2))))) (KernelIdeal.A2 m c KernelIdeal.nil0)) := rfl
end

end Cert.Proof
-- ==== Proof.lean ====
module

public import proofs.«01_k».proof.Defs
public import proofs.«01_k».proof.Proof.TripKernel
public import proofs.«01_k».proof.Proof.TripKernelIdeal
public import proofs.«01_k».proof.Proof.Gen.ReferenceIdeal.Value
public import proofs.«01_k».proof.Proof.Pre
public import Idealize.ShloMosaic.Lib.Bf16Pair
public import Idealize.ShloMosaic.Lib.Bf16PairInverse

/-! The claims, put together. -/

@[expose] public section

open Idealize Idealize.ShloMosaic Idealize.ShloMosaic.TcCoe Idealize.SL.Sem

namespace Cert.Proof

instance instNonemptyBits (e : EltTy) : Nonempty (Elt Bits e) := by
  cases e <;> exact ⟨by first | exact (0 : BitVec _) | exact default⟩
instance instNonemptyIdeal (e : EltTy) : Nonempty (Elt Ideal e) := by
  cases e <;> exact ⟨by first | exact (0 : BitVec _) | exact (0 : EReal) | exact default⟩

/-- The re-typing of the two packed buffers: each rule's statement at each shape it is used at. -/
theorem preserved : Cert.preserves_Kernel_KernelIdeal :=
  ⟨IdealRules.bf16_pair.bufferStatement _ _, IdealRules.bf16_pair.packStatement _,
   IdealRules.bf16_pair.statement _ _, IdealRules.bf16_pair.statement _ _,
   IdealRules.bf16_pair.statement _ _, IdealRules.bf16_pair.statement _ _,
   IdealRules.bf16_pair.packStatement _⟩

theorem preS (c : Dev Cert.KernelIdeal.nD) (m : (ℓ : Loc Cert.KernelIdeal.nD Cert.KernelIdeal.τ Cert.KernelIdeal.sig) → Buf (Elt Ideal) ℓ)
    (h : @Cert.Pre_KernelIdeal_pre preFacts m) (i : Cert.KernelIdeal.S2x128x6284.Idx) :
    1#8 ≤ KernelIdeal.A1 m c i ∧ KernelIdeal.A1 m c i ≤ 254#8 := by
  have e := congrFun (h c) ValueIdx.ix0
  obtain ⟨e0, e3⟩ := and1 _ _ e
  obtain ⟨e1, e2⟩ := and1 _ _ e0
  exact ⟨@pre_ge preFacts _ _ e1 i, @pre_le preFacts _ _ e2 i⟩

theorem preD (c : Dev Cert.KernelIdeal.nD) (m : (ℓ : Loc Cert.KernelIdeal.nD Cert.KernelIdeal.τ Cert.KernelIdeal.sig) → Buf (Elt Ideal) ℓ)
    (h : @Cert.Pre_KernelIdeal_pre preFacts m) (r : ℝ) (hr : KernelIdeal.A2 m c KernelIdeal.nil0 = (r : EReal)) : ∃ N : ℤ, r * 2 ^ 149 = N := by
  have e := congrFun (h c) KernelIdeal.nil0
  obtain ⟨e0, e3⟩ := and1 _ _ e
  exact dyad _ e3 r hr

theorem valued : @Cert.algebraic_KernelIdeal_ReferenceIdeal_pre_pre Cert.KernelIdeal.Gen.facts Cert.ReferenceIdeal.Gen.facts preFacts := by
  intro m g m' g' hpre hag
  refine ⟨KernelIdeal.resC m, KernelIdeal.resS m, KernelIdeal.resT m, ?_, ?_⟩
  · refine (θ_run _ _ _).mono (fun r h c => ?_) (KernelIdeal.run_val m g)
    obtain ⟨h0, h1, h2, h3, h4, h5⟩ := h c
    exact ⟨h0, h1, h2, h3, h4, h5⟩
  · refine (θ_run _ _ _).mono (fun r h c => ?_) (ReferenceIdeal.run_val m' g')
    obtain ⟨h0, h1, h2, h3, h4, h5⟩ := h c
    obtain ⟨a0, a1, a2⟩ := hag c
    have e0 : ReferenceIdeal.A0 m' c = KernelIdeal.A0 m c := a0
    have e1 : ReferenceIdeal.A1 m' c = KernelIdeal.A1 m c := a1
    have e2 : ReferenceIdeal.A2 m' c = KernelIdeal.A2 m c := a2
    refine ⟨h0.trans (funext fun i => ?_), h1.trans (funext fun i => ?_), h2.trans (funext fun i => ?_), h3, h4, h5⟩
    · rw [e0, e1, e2]
      have ei : i = ix3 (i 0) (i 1) (ReferenceIdeal.ib (jc (i 2)) (jq (i 2))) :=
        (show i = ix3 (i 0) (i 1) (i 2) from funext fun a => match a with | ⟨0, _⟩ => rfl | ⟨1, _⟩ => rfl | ⟨2, _⟩ => rfl).trans
          (congrArg (fun J : Fin 100544 => ix3 (i 0) (i 1) J) (ib_j (i 2)).symm)
      refine (congrArg _ ei).trans ((codes_eq (KernelIdeal.A0 m c) (KernelIdeal.A1 m c) (KernelIdeal.A2 m c) (i 0) (i 1) (jc (i 2)) (jq (i 2))
        (preS c m hpre _).1 (preS c m hpre _).2 (preD c m hpre)).trans ?_)
      exact (congrArg (fun J : Fin 100544 => KernelIdeal.obyte (KernelIdeal.A0 m c (ix3 (i 0) (i 1) J))
        (KernelIdeal.mA (xB (KernelIdeal.A0 m c) (i 0) (i 1) (jc (i 2))) (KernelIdeal.A1 m c (ix3 (i 0) (i 1) (ReferenceIdeal.ih (jc (i 2))))) (KernelIdeal.A2 m c KernelIdeal.nil0)))
        (ib_j (i 2))).trans (resC_at m c i).symm
    · rw [e0, e1, e2]
      have ei : i = ix3 (i 0) (i 1) (i 2) := funext fun a => match a with | ⟨0, _⟩ => rfl | ⟨1, _⟩ => rfl | ⟨2, _⟩ => rfl
      exact (congrArg _ ei).trans ((bs_eq (KernelIdeal.A0 m c) (KernelIdeal.A1 m c) (KernelIdeal.A2 m c) (i 0) (i 1) (i 2)
        (preS c m hpre _).1 (preS c m hpre _).2).trans (resS_at m c i).symm)
    · rw [e2, tsH_at]
      exact congrArg (fun z => KernelIdeal.tsc (KernelIdeal.A2 m c z)) (funext fun a => a.elim0)

theorem claim : Cert.Claim :=
  ⟨Cert.Kernel.Gen.facts, Cert.KernelIdeal.Gen.facts, Cert.ReferenceIdeal.Gen.facts, preFacts,
   fun m ρ _ => Kernel.framed (F := Bits) m ρ,
   fun m ρ _ => KernelIdeal.framed (F := Ideal) m ρ, fun m ρ _ => KernelIdeal.framed (F := Ideal) m ρ,
   fun m ρ _ => Cert.ReferenceIdeal.Gen.frame (F := Ideal) m ρ, fun m ρ _ => Cert.ReferenceIdeal.Gen.frame (F := Ideal) m ρ,
   preserved, valued⟩

end Cert.Proof
